-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQRefIdeal (m : (ℓ : Loc Cert.NormQRefIdeal.nD Cert.NormQRefIdeal.τ Cert.NormQRefIdeal.sig) → Buf (Elt Ideal) ℓ) : Prop :=
  True

def Pre_NormR (m : (ℓ : Loc Cert.NormR.nD Cert.NormR.τ Cert.NormR.sig) → Buf (Elt Bits) ℓ) : Prop :=
  True

def Pre_NormRIdeal (m : (ℓ : Loc Cert.NormRIdeal.nD Cert.NormRIdeal.τ Cert.NormRIdeal.sig) → Buf (Elt Ideal) ℓ) : Prop :=
  True

def Pre_NormRRefIdeal (m : (ℓ : Loc Cert.NormRRefIdeal.nD Cert.NormRRefIdeal.τ Cert.NormRRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3)
      ∧ r.2.mem ((c.tc : Thread Cert.Wo.nD Cert.Wo.τ).loc Cert.Wo.main_arg4) = m ((c.tc : Thread Cert.Wo.nD Cert.Wo.τ).loc Cert.Wo.main_arg4)
      ∧ r.2.mem ((c.tc : Thread Cert.Wo.nD Cert.Wo.τ).loc Cert.Wo.main_arg5) = m ((c.tc : Thread Cert.Wo.nD Cert.Wo.τ).loc Cert.Wo.main_arg5))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
      ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
      ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3)
      ∧ r.2.mem ((c.tc : Thread Cert.WoRefIdeal.nD Cert.WoRefIdeal.τ).loc Cert.WoRefIdeal.main_arg4) = m ((c.tc : Thread Cert.WoRefIdeal.nD Cert.WoRefIdeal.τ).loc Cert.WoRefIdeal.main_arg4)
      ∧ r.2.mem ((c.tc : Thread Cert.WoRefIdeal.nD Cert.WoRefIdeal.τ).loc Cert.WoRefIdeal.main_arg5) = m ((c.tc : Thread Cert.WoRefIdeal.nD Cert.WoRefIdeal.τ).loc Cert.WoRefIdeal.main_arg5))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1))
      ∧ r.2.sem = fun _ => 0)

def quiescent_NormR [hNormR : Cert.NormR.Facts] : Prop :=
  ∀ (m : (ℓ : Loc Cert.NormR.nD Cert.NormR.τ Cert.NormR.sig) → Buf (Elt Bits) ℓ) (g : Dev Cert.NormR.nD → PrngReg), Pre_NormR m →
    θ_run (Cert.NormR.defs (F := Bits)) (onTc (τ := Cert.NormR.τ) (Cert.NormR.main (F := Bits))) ⟨m, fun _ => 0, g⟩ (fun r => (∀ c : Dev Cert.NormR.nD,
      r.2.mem ((c.tc : Thread Cert.NormR.nD Cert.NormR.τ).loc Cert.NormR.main_arg0) = m ((c.tc : Thread Cert.NormR.nD Cert.NormR.τ).loc Cert.NormR.main_arg0)
      ∧ r.2.mem ((c.tc : Thread Cert.NormR.nD Cert.NormR.τ).loc Cert.NormR.main_arg1) = m ((c.tc : Thread Cert.NormR.nD Cert.NormR.τ).loc Cert.NormR.main_arg1))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1))
      ∧ r.2.sem = fun _ => 0)

def quiescent_NormRRefIdeal [hNormRRefIdeal : Cert.NormRRefIdeal.Facts] : Prop :=
  ∀ (m : (ℓ : Loc Cert.NormRRefIdeal.nD Cert.NormRRefIdeal.τ Cert.NormRRefIdeal.sig) → Buf (Elt Ideal) ℓ) (g : Dev Cert.NormRRefIdeal.nD → PrngReg), Pre_NormRRefIdeal m →
    θ_run (Cert.NormRRefIdeal.defs (F := Ideal)) (onTc (τ := Cert.NormRRefIdeal.τ) (Cert.NormRRefIdeal.main (F := Ideal))) ⟨m, fun _ => 0, g⟩ (fun r => (∀ c : Dev Cert.NormRRefIdeal.nD,
      r.2.mem ((c.tc : Thread Cert.NormRRefIdeal.nD Cert.NormRRefIdeal.τ).loc Cert.NormRRefIdeal.main_arg0) = m ((c.tc : Thread Cert.NormRRefIdeal.nD Cert.NormRRefIdeal.τ).loc Cert.NormRRefIdeal.main_arg0)
      ∧ r.2.mem ((c.tc : Thread Cert.NormRRefIdeal.nD Cert.NormRRefIdeal.τ).loc Cert.NormRRefIdeal.main_arg1) = m ((c.tc : Thread Cert.NormRRefIdeal.nD Cert.NormRRefIdeal.τ).loc Cert.NormRRefIdeal.main_arg1))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10)
      ∧ r.2.mem ((c.tc : Thread Cert.Back.nD Cert.Back.τ).loc Cert.Back.main_arg11) = m ((c.tc : Thread Cert.Back.nD Cert.Back.τ).loc Cert.Back.main_arg11)
      ∧ r.2.mem ((c.tc : Thread Cert.Back.nD Cert.Back.τ).loc Cert.Back.main_arg12) = m ((c.tc : Thread Cert.Back.nD Cert.Back.τ).loc Cert.Back.main_arg12))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
      ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
      ∧ r.2.mem ((c.tc : Thread Cert.BackIdeal.nD Cert.BackIdeal.τ).loc Cert.BackIdeal.main_arg12) = m ((c.tc : Thread Cert.BackIdeal.nD Cert.BackIdeal.τ).loc Cert.BackIdeal.main_arg12))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7)
      ∧ r.2.mem ((c.tc : Thread Cert.BackRefIdeal.nD Cert.BackRefIdeal.τ).loc Cert.BackRefIdeal.main_arg8) = m ((c.tc : Thread Cert.BackRefIdeal.nD Cert.BackRefIdeal.τ).loc Cert.BackRefIdeal.main_arg8)
      ∧ r.2.mem ((c.tc : Thread Cert.BackRefIdeal.nD Cert.BackRefIdeal.τ).loc Cert.BackRefIdeal.main_arg9) = m ((c.tc : Thread Cert.BackRefIdeal.nD Cert.BackRefIdeal.τ).loc Cert.BackRefIdeal.main_arg9)
      ∧ r.2.mem ((c.tc : Thread Cert.BackRefIdeal.nD Cert.BackRefIdeal.τ).loc Cert.BackRefIdeal.main_arg10) = m ((c.tc : Thread Cert.BackRefIdeal.nD Cert.BackRefIdeal.τ).loc Cert.BackRefIdeal.main_arg10)
      ∧ r.2.mem ((c.tc : Thread Cert.BackRefIdeal.nD Cert.BackRefIdeal.τ).loc Cert.BackRefIdeal.main_arg11) = m ((c.tc : Thread Cert.BackRefIdeal.nD Cert.BackRefIdeal.τ).loc Cert.BackRefIdeal.main_arg11)
      ∧ r.2.mem ((c.tc : Thread Cert.BackRefIdeal.nD Cert.BackRefIdeal.τ).loc Cert.BackRefIdeal.main_arg12) = m ((c.tc : Thread Cert.BackRefIdeal.nD Cert.BackRefIdeal.τ).loc Cert.BackRefIdeal.main_arg12))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v34) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v32) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)
      ∧ m' ((c.tc : Thread Cert.WoRefIdeal.nD Cert.WoRefIdeal.τ).loc Cert.WoRefIdeal.main_arg4) = m ((c.tc : Thread Cert.WoIdeal.nD Cert.WoIdeal.τ).loc Cert.WoIdeal.main_arg4)
      ∧ m' ((c.tc : Thread Cert.WoRefIdeal.nD Cert.WoRefIdeal.τ).loc Cert.WoRefIdeal.main_arg5) = m ((c.tc : Thread Cert.WoIdeal.nD Cert.WoIdeal.τ).loc Cert.WoIdeal.main_arg5)) →
    ∃ (v0 : (c : Dev Cert.WoIdeal.nD) → Buf (Elt Ideal) ((c.tc : Thread Cert.WoIdeal.nD Cert.WoIdeal.τ).loc Cert.WoIdeal.main_v2)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v2) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
          ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
          ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v32) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3)
          ∧ r.2.mem ((c.tc : Thread Cert.WoRefIdeal.nD Cert.WoRefIdeal.τ).loc Cert.WoRefIdeal.main_arg4) = m' ((c.tc : Thread Cert.WoRefIdeal.nD Cert.WoRefIdeal.τ).loc Cert.WoRefIdeal.main_arg4)
          ∧ r.2.mem ((c.tc : Thread Cert.WoRefIdeal.nD Cert.WoRefIdeal.τ).loc Cert.WoRefIdeal.main_arg5) = m' ((c.tc : Thread Cert.WoRefIdeal.nD Cert.WoRefIdeal.τ).loc Cert.WoRefIdeal.main_arg5))

def preserves_NormQ_NormQIdeal : Prop :=
  True

def algebraic_NormQIdeal_NormQRefIdeal [hNormQIdeal : Cert.NormQIdeal.Facts] [hNormQRefIdeal : Cert.NormQRefIdeal.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)) →
    ∃ (v0 : (c : Dev Cert.NormQIdeal.nD) → Buf (Elt Ideal) ((c.tc : Thread Cert.NormQIdeal.nD Cert.NormQIdeal.τ).loc Cert.NormQIdeal.main_v1_0)) (v1 : (c : Dev Cert.NormQIdeal.nD) → Buf (Elt Ideal) ((c.tc : Thread Cert.NormQIdeal.nD Cert.NormQIdeal.τ).loc Cert.NormQIdeal.main_v1_1)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v1_0) = v0 c
          ∧ r.2.mem ((c.tc : Thread Cert.NormQIdeal.nD Cert.NormQIdeal.τ).loc Cert.NormQIdeal.main_v1_1) = v1 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v26_0) = v0 c
          ∧ r.2.mem ((c.tc : Thread Cert.NormQRefIdeal.nD Cert.NormQRefIdeal.τ).loc Cert.NormQRefIdeal.main_v26_1) = v1 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1))

def preserves_NormR_NormRIdeal : Prop :=
  True

def algebraic_NormRIdeal_NormRRefIdeal [hNormRIdeal : Cert.NormRIdeal.Facts] [hNormRRefIdeal : Cert.NormRRefIdeal.Facts] : Prop :=
  ∀ (m : (ℓ : Loc Cert.NormRIdeal.nD Cert.NormRIdeal.τ Cert.NormRIdeal.sig) → Buf (Elt Ideal) ℓ) (g : Dev Cert.NormRIdeal.nD → PrngReg)
    (m' : (ℓ : Loc Cert.NormRRefIdeal.nD Cert.NormRRefIdeal.τ Cert.NormRRefIdeal.sig) → Buf (Elt Ideal) ℓ) (g' : Dev Cert.NormRRefIdeal.nD → PrngReg), Pre_NormRIdeal m →
    (∀ c : Dev Cert.NormRIdeal.nD,
      m' ((c.tc : Thread Cert.NormRRefIdeal.nD Cert.NormRRefIdeal.τ).loc Cert.NormRRefIdeal.main_arg0) = m ((c.tc : Thread Cert.NormRIdeal.nD Cert.NormRIdeal.τ).loc Cert.NormRIdeal.main_arg0)
      ∧ m' ((c.tc : Thread Cert.NormRRefIdeal.nD Cert.NormRRefIdeal.τ).loc Cert.NormRRefIdeal.main_arg1) = m ((c.tc : Thread Cert.NormRIdeal.nD Cert.NormRIdeal.τ).loc Cert.NormRIdeal.main_arg1)) →
    ∃ (v0 : (c : Dev Cert.NormRIdeal.nD) → Buf (Elt Ideal) ((c.tc : Thread Cert.NormRIdeal.nD Cert.NormRIdeal.τ).loc Cert.NormRIdeal.main_v1_0)) (v1 : (c : Dev Cert.NormRIdeal.nD) → Buf (Elt Ideal) ((c.tc : Thread Cert.NormRIdeal.nD Cert.NormRIdeal.τ).loc Cert.NormRIdeal.main_v1_1)),
      θ_run (Cert.NormRIdeal.defs (F := Ideal)) (onTc (τ := Cert.NormRIdeal.τ) (Cert.NormRIdeal.main (F := Ideal))) ⟨m, fun _ => 0, g⟩ (fun r => ∀ c : Dev Cert.NormRIdeal.nD,
          r.2.mem ((c.tc : Thread Cert.NormRIdeal.nD Cert.NormRIdeal.τ).loc Cert.NormRIdeal.main_v1_0) = v0 c
          ∧ r.2.mem ((c.tc : Thread Cert.NormRIdeal.nD Cert.NormRIdeal.τ).loc Cert.NormRIdeal.main_v1_1) = v1 c
          ∧ r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1))
      ∧ θ_run (Cert.NormRRefIdeal.defs (F := Ideal)) (onTc (τ := Cert.NormRRefIdeal.τ) (Cert.NormRRefIdeal.main (F := Ideal))) ⟨m', fun _ => 0, g'⟩ (fun r => ∀ c : Dev Cert.NormRRefIdeal.nD,
          r.2.mem ((c.tc : Thread Cert.NormRRefIdeal.nD Cert.NormRRefIdeal.τ).loc Cert.NormRRefIdeal.main_v25_0) = v0 c
          ∧ r.2.mem ((c.tc : Thread Cert.NormRRefIdeal.nD Cert.NormRRefIdeal.τ).loc Cert.NormRRefIdeal.main_v25_1) = v1 c
          ∧ r.2.mem ((c.tc : Thread Cert.NormRRefIdeal.nD Cert.NormRRefIdeal.τ).loc Cert.NormRRefIdeal.main_arg0) = m' ((c.tc : Thread Cert.NormRRefIdeal.nD Cert.NormRRefIdeal.τ).loc Cert.NormRRefIdeal.main_arg0)
          ∧ r.2.mem ((c.tc : Thread Cert.NormRRefIdeal.nD Cert.NormRRefIdeal.τ).loc Cert.NormRRefIdeal.main_arg1) = m' ((c.tc : Thread Cert.NormRRefIdeal.nD Cert.NormRRefIdeal.τ).loc Cert.NormRRefIdeal.main_arg1))

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v12_0) = v0 c
          ∧ r.2.mem ((c.tc : Thread Cert.QuantRefIdeal.nD Cert.QuantRefIdeal.τ).loc Cert.QuantRefIdeal.main_v12_1) = v1 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v23_0) = v0 c
          ∧ r.2.mem ((c.tc : Thread Cert.QkvRefIdeal.nD Cert.QkvRefIdeal.τ).loc Cert.QkvRefIdeal.main_v23_1) = v1 c
          ∧ r.2.mem ((c.tc : Thread Cert.QkvRefIdeal.nD Cert.QkvRefIdeal.τ).loc Cert.QkvRefIdeal.main_v23_2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)
      ∧ m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8)) →
    ∃ (v0 : (c : Dev Cert.FrontIdeal.nD) → Buf (Elt Ideal) ((c.tc : Thread Cert.FrontIdeal.nD Cert.FrontIdeal.τ).loc Cert.FrontIdeal.main_v6_0)) (v1 : (c : Dev Cert.FrontIdeal.nD) → Buf (Elt Ideal) ((c.tc : Thread Cert.FrontIdeal.nD Cert.FrontIdeal.τ).loc Cert.FrontIdeal.main_v1_0)) (v2 : (c : Dev Cert.FrontIdeal.nD) → Buf (Elt Ideal) ((c.tc : Thread Cert.FrontIdeal.nD Cert.FrontIdeal.τ).loc Cert.FrontIdeal.main_v1_1)) (v3 : (c : Dev Cert.FrontIdeal.nD) → Buf (Elt Ideal) ((c.tc : Thread Cert.FrontIdeal.nD Cert.FrontIdeal.τ).loc Cert.FrontIdeal.main_v6_1)) (v4 : (c : Dev Cert.FrontIdeal.nD) → Buf (Elt Ideal) ((c.tc : Thread Cert.FrontIdeal.nD Cert.FrontIdeal.τ).loc Cert.FrontIdeal.main_v6_2)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v6_0) = v0 c
          ∧ r.2.mem ((c.tc : Thread Cert.FrontIdeal.nD Cert.FrontIdeal.τ).loc Cert.FrontIdeal.main_v1_0) = v1 c
          ∧ r.2.mem ((c.tc : Thread Cert.FrontIdeal.nD Cert.FrontIdeal.τ).loc Cert.FrontIdeal.main_v1_1) = v2 c
          ∧ r.2.mem ((c.tc : Thread Cert.FrontIdeal.nD Cert.FrontIdeal.τ).loc Cert.FrontIdeal.main_v6_1) = v3 c
          ∧ r.2.mem ((c.tc : Thread Cert.FrontIdeal.nD Cert.FrontIdeal.τ).loc Cert.FrontIdeal.main_v6_2) = v4 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v49_0) = v0 c
          ∧ r.2.mem ((c.tc : Thread Cert.FrontRefIdeal.nD Cert.FrontRefIdeal.τ).loc Cert.FrontRefIdeal.main_v49_1) = v1 c
          ∧ r.2.mem ((c.tc : Thread Cert.FrontRefIdeal.nD Cert.FrontRefIdeal.τ).loc Cert.FrontRefIdeal.main_v49_2) = v2 c
          ∧ r.2.mem ((c.tc : Thread Cert.FrontRefIdeal.nD Cert.FrontRefIdeal.τ).loc Cert.FrontRefIdeal.main_v49_3) = v3 c
          ∧ r.2.mem ((c.tc : Thread Cert.FrontRefIdeal.nD Cert.FrontRefIdeal.τ).loc Cert.FrontRefIdeal.main_v49_4) = v4 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7)
          ∧ r.2.mem ((c.tc : Thread Cert.FrontRefIdeal.nD Cert.FrontRefIdeal.τ).loc Cert.FrontRefIdeal.main_arg8) = m' ((c.tc : Thread Cert.FrontRefIdeal.nD Cert.FrontRefIdeal.τ).loc Cert.FrontRefIdeal.main_arg8))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)
      ∧ m' ((c.tc : Thread Cert.BackRefIdeal.nD Cert.BackRefIdeal.τ).loc Cert.BackRefIdeal.main_arg8) = m ((c.tc : Thread Cert.BackIdeal.nD Cert.BackIdeal.τ).loc Cert.BackIdeal.main_arg8)
      ∧ m' ((c.tc : Thread Cert.BackRefIdeal.nD Cert.BackRefIdeal.τ).loc Cert.BackRefIdeal.main_arg9) = m ((c.tc : Thread Cert.BackIdeal.nD Cert.BackIdeal.τ).loc Cert.BackIdeal.main_arg9)
      ∧ m' ((c.tc : Thread Cert.BackRefIdeal.nD Cert.BackRefIdeal.τ).loc Cert.BackRefIdeal.main_arg10) = m ((c.tc : Thread Cert.BackIdeal.nD Cert.BackIdeal.τ).loc Cert.BackIdeal.main_arg10)
      ∧ m' ((c.tc : Thread Cert.BackRefIdeal.nD Cert.BackRefIdeal.τ).loc Cert.BackRefIdeal.main_arg11) = m ((c.tc : Thread Cert.BackIdeal.nD Cert.BackIdeal.τ).loc Cert.BackIdeal.main_arg11)
      ∧ m' ((c.tc : Thread Cert.BackRefIdeal.nD Cert.BackRefIdeal.τ).loc Cert.BackRefIdeal.main_arg12) = m ((c.tc : Thread Cert.BackIdeal.nD Cert.BackIdeal.τ).loc Cert.BackIdeal.main_arg12)) →
    ∃ (v0 : (c : Dev Cert.BackIdeal.nD) → Buf (Elt Ideal) ((c.tc : Thread Cert.BackIdeal.nD Cert.BackIdeal.τ).loc Cert.BackIdeal.main_v11)) (v1 : (c : Dev Cert.BackIdeal.nD) → Buf (Elt Ideal) ((c.tc : Thread Cert.BackIdeal.nD Cert.BackIdeal.τ).loc Cert.BackIdeal.main_v4_0)) (v2 : (c : Dev Cert.BackIdeal.nD) → Buf (Elt Ideal) ((c.tc : Thread Cert.BackIdeal.nD Cert.BackIdeal.τ).loc Cert.BackIdeal.main_v4_1)) (v3 : (c : Dev Cert.BackIdeal.nD) → Buf (Elt Ideal) ((c.tc : Thread Cert.BackIdeal.nD Cert.BackIdeal.τ).loc Cert.BackIdeal.main_v8_0)) (v4 : (c : Dev Cert.BackIdeal.nD) → Buf (Elt Ideal) ((c.tc : Thread Cert.BackIdeal.nD Cert.BackIdeal.τ).loc Cert.BackIdeal.main_v8_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v11) = v0 c
          ∧ r.2.mem ((c.tc : Thread Cert.BackIdeal.nD Cert.BackIdeal.τ).loc Cert.BackIdeal.main_v4_0) = v1 c
          ∧ r.2.mem ((c.tc : Thread Cert.BackIdeal.nD Cert.BackIdeal.τ).loc Cert.BackIdeal.main_v4_1) = v2 c
          ∧ r.2.mem ((c.tc : Thread Cert.BackIdeal.nD Cert.BackIdeal.τ).loc Cert.BackIdeal.main_v8_0) = v3 c
          ∧ r.2.mem ((c.tc : Thread Cert.BackIdeal.nD Cert.BackIdeal.τ).loc Cert.BackIdeal.main_v8_1) = v4 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
          ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
          ∧ r.2.mem ((c.tc : Thread Cert.BackIdeal.nD Cert.BackIdeal.τ).loc Cert.BackIdeal.main_arg12) = m ((c.tc : Thread Cert.BackIdeal.nD Cert.BackIdeal.τ).loc Cert.BackIdeal.main_arg12))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v64_0) = v0 c
          ∧ r.2.mem ((c.tc : Thread Cert.BackRefIdeal.nD Cert.BackRefIdeal.τ).loc Cert.BackRefIdeal.main_v64_1) = v1 c
          ∧ r.2.mem ((c.tc : Thread Cert.BackRefIdeal.nD Cert.BackRefIdeal.τ).loc Cert.BackRefIdeal.main_v64_2) = v2 c
          ∧ r.2.mem ((c.tc : Thread Cert.BackRefIdeal.nD Cert.BackRefIdeal.τ).loc Cert.BackRefIdeal.main_v64_3) = v3 c
          ∧ r.2.mem ((c.tc : Thread Cert.BackRefIdeal.nD Cert.BackRefIdeal.τ).loc Cert.BackRefIdeal.main_v64_4) = v4 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7)
          ∧ r.2.mem ((c.tc : Thread Cert.BackRefIdeal.nD Cert.BackRefIdeal.τ).loc Cert.BackRefIdeal.main_arg8) = m' ((c.tc : Thread Cert.BackRefIdeal.nD Cert.BackRefIdeal.τ).loc Cert.BackRefIdeal.main_arg8)
          ∧ r.2.mem ((c.tc : Thread Cert.BackRefIdeal.nD Cert.BackRefIdeal.τ).loc Cert.BackRefIdeal.main_arg9) = m' ((c.tc : Thread Cert.BackRefIdeal.nD Cert.BackRefIdeal.τ).loc Cert.BackRefIdeal.main_arg9)
          ∧ r.2.mem ((c.tc : Thread Cert.BackRefIdeal.nD Cert.BackRefIdeal.τ).loc Cert.BackRefIdeal.main_arg10) = m' ((c.tc : Thread Cert.BackRefIdeal.nD Cert.BackRefIdeal.τ).loc Cert.BackRefIdeal.main_arg10)
          ∧ r.2.mem ((c.tc : Thread Cert.BackRefIdeal.nD Cert.BackRefIdeal.τ).loc Cert.BackRefIdeal.main_arg11) = m' ((c.tc : Thread Cert.BackRefIdeal.nD Cert.BackRefIdeal.τ).loc Cert.BackRefIdeal.main_arg11)
          ∧ r.2.mem ((c.tc : Thread Cert.BackRefIdeal.nD Cert.BackRefIdeal.τ).loc Cert.BackRefIdeal.main_arg12) = m' ((c.tc : Thread Cert.BackRefIdeal.nD Cert.BackRefIdeal.τ).loc Cert.BackRefIdeal.main_arg12))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hWo : Cert.Wo.Facts) (hWoIdeal : Cert.WoIdeal.Facts) (hWoRefIdeal : Cert.WoRefIdeal.Facts) (hNormQ : Cert.NormQ.Facts) (hNormQIdeal : Cert.NormQIdeal.Facts) (hNormQRefIdeal : Cert.NormQRefIdeal.Facts) (hNormR : Cert.NormR.Facts) (hNormRIdeal : Cert.NormRIdeal.Facts) (hNormRRefIdeal : Cert.NormRRefIdeal.Facts) (hQuant : Cert.Quant.Facts) (hQuantIdeal : Cert.QuantIdeal.Facts) (hQuantRefIdeal : Cert.QuantRefIdeal.Facts) (hQkv : Cert.Qkv.Facts) (hQkvIdeal : Cert.QkvIdeal.Facts) (hQkvRefIdeal : Cert.QkvRefIdeal.Facts) (hFront : Cert.Front.Facts) (hFrontIdeal : Cert.FrontIdeal.Facts) (hFrontRefIdeal : Cert.FrontRefIdeal.Facts) (hBack : Cert.Back.Facts) (hBackIdeal : Cert.BackIdeal.Facts) (hBackRefIdeal : Cert.BackRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Wo (hWo := hWo)
    ∧ quiescent_WoIdeal (hWoIdeal := hWoIdeal)
    ∧ quiescent_WoRefIdeal (hWoRefIdeal := hWoRefIdeal)
    ∧ quiescent_NormQ (hNormQ := hNormQ)
    ∧ quiescent_NormQIdeal (hNormQIdeal := hNormQIdeal)
    ∧ quiescent_NormQRefIdeal (hNormQRefIdeal := hNormQRefIdeal)
    ∧ quiescent_NormR (hNormR := hNormR)
    ∧ quiescent_NormRIdeal (hNormRIdeal := hNormRIdeal)
    ∧ quiescent_NormRRefIdeal (hNormRRefIdeal := hNormRRefIdeal)
    ∧ quiescent_Quant (hQuant := hQuant)
    ∧ quiescent_QuantIdeal (hQuantIdeal := hQuantIdeal)
    ∧ quiescent_QuantRefIdeal (hQuantRefIdeal := hQuantRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Front (hFront := hFront)
    ∧ quiescent_FrontIdeal (hFrontIdeal := hFrontIdeal)
    ∧ quiescent_FrontRefIdeal (hFrontRefIdeal := hFrontRefIdeal)
    ∧ quiescent_Back (hBack := hBack)
    ∧ quiescent_BackIdeal (hBackIdeal := hBackIdeal)
    ∧ quiescent_BackRefIdeal (hBackRefIdeal := hBackRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Wo_WoIdeal
    ∧ algebraic_WoIdeal_WoRefIdeal (hWoIdeal := hWoIdeal) (hWoRefIdeal := hWoRefIdeal)
    ∧ preserves_NormQ_NormQIdeal
    ∧ algebraic_NormQIdeal_NormQRefIdeal (hNormQIdeal := hNormQIdeal) (hNormQRefIdeal := hNormQRefIdeal)
    ∧ preserves_NormR_NormRIdeal
    ∧ algebraic_NormRIdeal_NormRRefIdeal (hNormRIdeal := hNormRIdeal) (hNormRRefIdeal := hNormRRefIdeal)
    ∧ preserves_Quant_QuantIdeal
    ∧ algebraic_QuantIdeal_QuantRefIdeal (hQuantIdeal := hQuantIdeal) (hQuantRefIdeal := hQuantRefIdeal)
    ∧ preserves_Qkv_QkvIdeal
    ∧ algebraic_QkvIdeal_QkvRefIdeal (hQkvIdeal := hQkvIdeal) (hQkvRefIdeal := hQkvRefIdeal)
    ∧ preserves_Front_FrontIdeal
    ∧ algebraic_FrontIdeal_FrontRefIdeal (hFrontIdeal := hFrontIdeal) (hFrontRefIdeal := hFrontRefIdeal)
    ∧ preserves_Back_BackIdeal
    ∧ algebraic_BackIdeal_BackRefIdeal (hBackIdeal := hBackIdeal) (hBackRefIdeal := hBackRefIdeal)
-- ==== GateUp.lean ====
abbrev S3072x16384 : Shape := ⟨2, ![3072, 16384]⟩
abbrev S3072x1 : Shape := ⟨2, ![3072, 1]⟩
abbrev S2048x13312 : Shape := ⟨2, ![2048, 13312]⟩
abbrev S128x13312 : Shape := ⟨2, ![128, 13312]⟩
abbrev S13312 : Shape := ⟨1, ![13312]⟩
abbrev S32x4x13312 : Shape := ⟨3, ![32, 4, 13312]⟩
abbrev S1x13312 : Shape := ⟨2, ![1, 13312]⟩
abbrev S3072x6656 : Shape := ⟨2, ![3072, 6656]⟩
abbrev S1024x16384 : Shape := ⟨2, ![1024, 16384]⟩
abbrev S1024x1 : Shape := ⟨2, ![1024, 1]⟩
abbrev S2048x256 : Shape := ⟨2, ![2048, 256]⟩
abbrev S32x4x256 : Shape := ⟨3, ![32, 4, 256]⟩
abbrev S1x256 : Shape := ⟨2, ![1, 256]⟩
abbrev S1024x256 : Shape := ⟨2, ![1024, 256]⟩
abbrev S1024x512 : Shape := ⟨2, ![1024, 512]⟩
abbrev S64x256 : Shape := ⟨2, ![64, 256]⟩
abbrev S1x4x256 : Shape := ⟨3, ![1, 4, 256]⟩
abbrev S4x256 : Shape := ⟨2, ![4, 256]⟩
abbrev S64x8x256 : Shape := ⟨3, ![64, 8, 256]⟩
abbrev S64x1x256 : Shape := ⟨3, ![64, 1, 256]⟩
abbrev S512x256 : Shape := ⟨2, ![512, 256]⟩
abbrev S4x128x256 : Shape := ⟨3, ![4, 128, 256]⟩
abbrev S4x1x256 : Shape := ⟨3, ![4, 1, 256]⟩

abbrev nBuf : Space → Nat
  | .hbm => 8
  | .vmem => 19
  | .smem => 0
  | _ => 0

abbrev bufTy : (tb : Table) → Fin (tcTables nBuf tb) → BufTy
  | .hbm, ⟨0, _⟩ => ⟨S3072x16384, .fp8e4m3⟩
  | .hbm, ⟨1, _⟩ => ⟨S3072x1, .f32⟩
  | .hbm, ⟨2, _⟩ => ⟨S2048x13312, .i32⟩
  | .hbm, ⟨3, _⟩ => ⟨S128x13312, .fp8e4m3⟩
  | .hbm, ⟨4, _⟩ => ⟨S13312, .f32⟩
  | .hbm, ⟨5, _⟩ => ⟨S32x4x13312, .fp8e4m3⟩
  | .hbm, ⟨6, _⟩ => ⟨S1x13312, .f32⟩
  | .hbm, ⟨7, _⟩ => ⟨S3072x6656, .f32⟩
  | .local _ .vmem, ⟨0, _⟩ => ⟨S1024x16384, .fp8e4m3⟩
  | .local _ .vmem, ⟨1, _⟩ => ⟨S1024x16384, .fp8e4m3⟩
  | .local _ .vmem, ⟨2, _⟩ => ⟨S1024x1, .f32⟩
  | .local _ .vmem, ⟨3, _⟩ => ⟨S1024x1, .f32⟩
  | .local _ .vmem, ⟨4, _⟩ => ⟨S2048x256, .i32⟩
  | .local _ .vmem, ⟨5, _⟩ => ⟨S2048x256, .i32⟩
  | .local _ .vmem, ⟨6, _⟩ => ⟨S2048x256, .i32⟩
  | .local _ .vmem, ⟨7, _⟩ => ⟨S2048x256, .i32⟩
  | .local _ .vmem, ⟨8, _⟩ => ⟨S32x4x256, .fp8e4m3⟩
  | .local _ .vmem, ⟨9, _⟩ => ⟨S32x4x256, .fp8e4m3⟩
  | .local _ .vmem, ⟨10, _⟩ => ⟨S32x4x256, .fp8e4m3⟩
  | .local _ .vmem, ⟨11, _⟩ => ⟨S32x4x256, .fp8e4m3⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | .local _ .vmem, ⟨18, _⟩ => ⟨S1024x512, .f32⟩
  | _, _ => ⟨S3072x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 26], ![false, false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32_16 : BitVec 32 := 0#32
  let c0_i32 : BitVec 32 := 0#32
  let c1_i32 : BitVec 32 := 1#32
  let arg12 : BitVec 32 := Scf.iv c0_i32 c1_i32 k0_t1
  let c1_i32_15 : BitVec 32 := 1#32
  let v25 : BitVec 32 := Scalar.muli arg12 c1_i32_15
  let v26 : BitVec 32 := Scalar.addi c0_i32_16 v25
  let c512_i32 : BitVec 32 := 512#32
  let v27 : BitVec 32 := Scalar.muli v26 c512_i32
  v27
def k0_off1 (k0_t1 : Fin k0_t1_loop.trips) : Fin 2 → Nat :=
  let c0_17 : Index := 0#32
  let c0_i32_16 : BitVec 32 := 0#32
  let c0_i32 : BitVec 32 := 0#32
  let c1_i32 : BitVec 32 := 1#32
  let arg12 : BitVec 32 := Scf.iv c0_i32 c1_i32 k0_t1
  let c1_i32_15 : BitVec 32 := 1#32
  let v25 : BitVec 32 := Scalar.muli arg12 c1_i32_15
  let v26 : BitVec 32 := Scalar.addi c0_i32_16 v25
  let c512_i32 : BitVec 32 := 512#32
  let v27 : BitVec 32 := Scalar.muli v26 c512_i32
  let v28 : BitVec 32 := v27
  let v29 : Index := Scalar.indexCast v28
  ![0, v29.toNat]
def k0_mult2 (k0_t1 : Fin k0_t1_loop.trips) : BitVec 32 :=
  let c0_i32_16 : BitVec 32 := 0#32
  let c0_i32 : BitVec 32 := 0#32
  let c1_i32 : BitVec 32 := 1#32
  let arg12 : BitVec 32 := Scf.iv c0_i32 c1_i32 k0_t1
  let c1_i32_15 : BitVec 32 := 1#32
  let v25 : BitVec 32 := Scalar.muli arg12 c1_i32_15
  let v26 : BitVec 32 := Scalar.addi c0_i32_16 v25
  let c64_i32 : BitVec 32 := 64#32
  let v32 : BitVec 32 := Scalar.muli v26 c64_i32
  v32
def k0_off2 (k0_t1 : Fin k0_t1_loop.trips) : Fin 2 → Nat :=
  let c0_i32_16 : BitVec 32 := 0#32
  let c0_i32 : BitVec 32 := 0#32
  let c1_i32 : BitVec 32 := 1#32
  let arg12 : BitVec 32 := Scf.iv c0_i32 c1_i32 k0_t1
  let c1_i32_15 : BitVec 32 := 1#32
  let v25 : BitVec 32 := Scalar.muli arg12 c1_i32_15
  let v26 : BitVec 32 := Scalar.addi c0_i32_16 v25
  let c64_i32 : BitVec 32 := 64#32
  let v32 : BitVec 32 := Scalar.muli v26 c64_i32
  let v33 : BitVec 32 := v32
  let v34 : Index := Scalar.indexCast v33
  let c0_18 : Index := 0#32
  ![v34.toNat, 0]
def k0_off3 (k0_t1 : Fin k0_t1_loop.trips) : Fin 3 → Nat :=
  let c0_i32_16 : BitVec 32 := 0#32
  let c0_i32 : BitVec 32 := 0#32
  let c1_i32 : BitVec 32 := 1#32
  let arg12 : BitVec 32 := Scf.iv c0_i32 c1_i32 k0_t1
  let c1_i32_15 : BitVec 32 := 1#32
  let v25 : BitVec 32 := Scalar.muli arg12 c1_i32_15
  let v26 : BitVec 32 := Scalar.addi c0_i32_16 v25
  let v36 : Index := Scalar.indexCast v26
  let c0_19 : Index := 0#32
  let c0_20 : Index := 0#32
  ![v36.toNat, 0, 0]
def k0_mult3 (k0_t1 : Fin k0_t1_loop.trips) : BitVec 32 :=
  let c0_i32_16 : BitVec 32 := 0#32
  let c0_i32 : BitVec 32 := 0#32
  let c1_i32 : BitVec 32 := 1#32
  let arg12 : BitVec 32 := Scf.iv c0_i32 c1_i32 k0_t1
  let c1_i32_15 : BitVec 32 := 1#32
  let v25 : BitVec 32 := Scalar.muli arg12 c1_i32_15
  let v26 : BitVec 32 := Scalar.addi c0_i32_16 v25
  let c64_i32_26 : BitVec 32 := 64#32
  let v61 : BitVec 32 := Scalar.muli v26 c64_i32_26
  v61
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x4x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x4x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GateUpRefIdeal.lean ====
abbrev S3072x16384 : Shape := ⟨2, ![3072, 16384]⟩
abbrev S3072x1 : Shape := ⟨2, ![3072, 1]⟩
abbrev S2048x13312 : Shape := ⟨2, ![2048, 13312]⟩
abbrev S128x13312 : Shape := ⟨2, ![128, 13312]⟩
abbrev S13312 : Shape := ⟨1, ![13312]⟩
abbrev S8 : Shape := ⟨1, ![8]⟩
abbrev S_ : Shape := ⟨0, ![]⟩
abbrev S1x2048x13312 : Shape := ⟨3, ![1, 2048, 13312]⟩
abbrev S8x1x1 : Shape := ⟨3, ![8, 1, 1]⟩
abbrev S8x2048x13312 : Shape := ⟨3, ![8, 2048, 13312]⟩
abbrev S128x16x13312 : Shape := ⟨3, ![128, 16, 13312]⟩
abbrev S3072x2048x8 : Shape := ⟨3, ![3072, 2048, 8]⟩
abbrev S3072x13312 : Shape := ⟨2, ![3072, 13312]⟩
abbrev S3072 : Shape := ⟨1, ![3072]⟩
abbrev S1x13312 : Shape := ⟨2, ![1, 13312]⟩
abbrev S3072x6656 : Shape := ⟨2, ![3072, 6656]⟩

abbrev nBuf : Space → Nat
  | .hbm => 54
  | .vmem => 6
  | .smem => 0
  | _ => 0

abbrev bufTy : (tb : Table) → Fin (tcTables nBuf tb) → BufTy
  | .hbm, ⟨0, _⟩ => ⟨S3072x16384, .fp8e4m3⟩
  | .hbm, ⟨1, _⟩ => ⟨S3072x1, .f32⟩
  | .hbm, ⟨2, _⟩ => ⟨S2048x13312, .i32⟩
  | .hbm, ⟨3, _⟩ => ⟨S128x13312, .fp8e4m3⟩
  | .hbm, ⟨4, _⟩ => ⟨S13312, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x2048x13312, .i32⟩
  | .hbm, ⟨10, _⟩ => ⟨S8x1x1, .i32⟩
  | .hbm, ⟨11, _⟩ => ⟨S8x2048x13312, .i32⟩
  | .hbm, ⟨12, _⟩ => ⟨S8x2048x13312, .i32⟩
  | .hbm, ⟨13, _⟩ => ⟨S8x2048x13312, .i32⟩
  | .hbm, ⟨14, _⟩ => ⟨S_, .i32⟩
  | .hbm, ⟨15, _⟩ => ⟨S8x2048x13312, .i32⟩
  | .hbm, ⟨16, _⟩ => ⟨S8x2048x13312, .i32⟩
  | .hbm, ⟨17, _⟩ => ⟨S_, .i32⟩
  | .hbm, ⟨18, _⟩ => ⟨S8x2048x13312, .i32⟩
  | .hbm, ⟨19, _⟩ => ⟨S8x2048x13312, .i1⟩
  | .hbm, ⟨20, _⟩ => ⟨S_, .i32⟩
  | .hbm, ⟨21, _⟩ => ⟨S8x2048x13312, .i32⟩
  | .hbm, ⟨22, _⟩ => ⟨S8x2048x13312, .i32⟩
  | .hbm, ⟨23, _⟩ => ⟨S8x2048x13312, .i32⟩
  | .hbm, ⟨24, _⟩ => ⟨S8x2048x13312, .i8⟩
  | .hbm, ⟨25, _⟩ => ⟨S3072x16384, .bf16⟩
  | .hbm, ⟨26, _⟩ => ⟨S128x13312, .bf16⟩
  | .hbm, ⟨27, _⟩ => ⟨S8x2048x13312, .bf16⟩
  | .hbm, ⟨28, _⟩ => ⟨S128x16x13312, .bf16⟩
  | .hbm, ⟨29, _⟩ => ⟨S2048x13312, .bf16⟩
  | .hbm, ⟨30, _⟩ => ⟨S1x2048x13312, .bf16⟩
  | .hbm, ⟨31, _⟩ => ⟨S8x2048x13312, .bf16⟩
  | .hbm, ⟨32, _⟩ => ⟨S8x2048x13312, .bf16⟩
  | .hbm, ⟨33, _⟩ => ⟨S3072x2048x8, .bf16⟩
  | .hbm, ⟨34, _⟩ => ⟨S3072x13312, .f32⟩
  | .hbm, ⟨35, _⟩ => ⟨S3072, .f32⟩
  | .hbm, ⟨36, _⟩ => ⟨S3072x1, .f32⟩
  | .hbm, ⟨37, _⟩ => ⟨S3072x13312, .f32⟩
  | .hbm, ⟨38, _⟩ => ⟨S3072x13312, .f32⟩
  | .hbm, ⟨39, _⟩ => ⟨S1x13312, .f32⟩
  | .hbm, ⟨40, _⟩ => ⟨S3072x13312, .f32⟩
  | .hbm, ⟨41, _⟩ => ⟨S3072x13312, .f32⟩
  | .hbm, ⟨42, _⟩ => ⟨S3072x6656, .f32⟩
  | .hbm, ⟨43, _⟩ => ⟨S3072x6656, .f32⟩
  | .hbm, ⟨44, _⟩ => ⟨S3072x6656, .f32⟩
  | .hbm, ⟨45, _⟩ => ⟨S3072x6656, .f32⟩
  | .hbm, ⟨46, _⟩ => ⟨S_, .f32⟩
  | .hbm, ⟨47, _⟩ => ⟨S3072x6656, .f32⟩
  | .hbm, ⟨48, _⟩ => ⟨S3072x6656, .f32⟩
  | .hbm, ⟨49, _⟩ => ⟨S_, .f32⟩
  | .hbm, ⟨50, _⟩ => ⟨S3072x6656, .f32⟩
  | .hbm, ⟨51, _⟩ => ⟨S3072x6656, .f32⟩
  | .hbm, ⟨52, _⟩ => ⟨S3072x6656, .f32⟩
  | .hbm, ⟨53, _⟩ => ⟨S3072x6656, .f32⟩
  | .local _ .vmem, ⟨0, _⟩ => ⟨S3072x16384, .fp8e4m3⟩
  | .local _ .vmem, ⟨1, _⟩ => ⟨S128x13312, .fp8e4m3⟩
  | .local _ .vmem, ⟨2, _⟩ => ⟨S8x2048x13312, .i8⟩
  | .local _ .vmem, ⟨3, _⟩ => ⟨S3072x16384, .bf16⟩
  | .local _ .vmem, ⟨4, _⟩ => ⟨S128x13312, .bf16⟩
  | .local _ .vmem, ⟨5, _⟩ => ⟨S8x2048x13312, .bf16⟩
  | _, _ => ⟨S3072x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x13312 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x13312 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x13312 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x13312 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S3072x6656 : Shape := ⟨2, ![3072, 6656]⟩
abbrev S3072x1 : Shape := ⟨2, ![3072, 1]⟩
abbrev S832x16384 : Shape := ⟨2, ![832, 16384]⟩
abbrev S52x16384 : Shape := ⟨2, ![52, 16384]⟩
abbrev S16384 : Shape := ⟨1, ![16384]⟩
abbrev S3072x16384 : Shape := ⟨2, ![3072, 16384]⟩
abbrev S13x4x16384 : Shape := ⟨3, ![13, 4, 16384]⟩
abbrev S1x16384 : Shape := ⟨2, ![1, 16384]⟩
abbrev S1024x6656 : Shape := ⟨2, ![1024, 6656]⟩
abbrev S1024x1 : Shape := ⟨2, ![1024, 1]⟩
abbrev S832x512 : Shape := ⟨2, ![832, 512]⟩
abbrev S13x4x512 : Shape := ⟨3, ![13, 4, 512]⟩
abbrev S1x512 : Shape := ⟨2, ![1, 512]⟩
abbrev S1024x512 : Shape := ⟨2, ![1024, 512]⟩
abbrev S64x512 : Shape := ⟨2, ![64, 512]⟩
abbrev S1x4x512 : Shape := ⟨3, ![1, 4, 512]⟩
abbrev S4x512 : Shape := ⟨2, ![4, 512]⟩
abbrev S64x8x512 : Shape := ⟨3, ![64, 8, 512]⟩
abbrev S64x1x512 : Shape := ⟨3, ![64, 1, 512]⟩
abbrev S512x512 : Shape := ⟨2, ![512, 512]⟩
abbrev S4x128x512 : Shape := ⟨3, ![4, 128, 512]⟩
abbrev S4x1x512 : Shape := ⟨3, ![4, 1, 512]⟩

abbrev nBuf : Space → Nat
  | .hbm => 9
  | .vmem => 15
  | .smem => 0
  | _ => 0

abbrev bufTy : (tb : Table) → Fin (tcTables nBuf tb) → BufTy
  | .hbm, ⟨0, _⟩ => ⟨S3072x6656, .fp8e4m3⟩
  | .hbm, ⟨1, _⟩ => ⟨S3072x1, .f32⟩
  | .hbm, ⟨2, _⟩ => ⟨S832x16384, .i32⟩
  | .hbm, ⟨3, _⟩ => ⟨S52x16384, .fp8e4m3⟩
  | .hbm, ⟨4, _⟩ => ⟨S16384, .f32⟩
  | .hbm, ⟨5, _⟩ => ⟨S3072x16384, .f32⟩
  | .hbm, ⟨6, _⟩ => ⟨S13x4x16384, .fp8e4m3⟩
  | .hbm, ⟨7, _⟩ => ⟨S1x16384, .f32⟩
  | .hbm, ⟨8, _⟩ => ⟨S3072x16384, .bf16⟩
  | .local _ .vmem, ⟨0, _⟩ => ⟨S1024x6656, .fp8e4m3⟩
  | .local _ .vmem, ⟨1, _⟩ => ⟨S1024x6656, .fp8e4m3⟩
  | .local _ .vmem, ⟨2, _⟩ => ⟨S1024x1, .f32⟩
  | .local _ .vmem, ⟨3, _⟩ => ⟨S1024x1, .f32⟩
  | .local _ .vmem, ⟨4, _⟩ => ⟨S832x512, .i32⟩
  | .local _ .vmem, ⟨5, _⟩ => ⟨S832x512, .i32⟩
  | .local _ .vmem, ⟨6, _⟩ => ⟨S13x4x512, .fp8e4m3⟩
  | .local _ .vmem, ⟨7, _⟩ => ⟨S13x4x512, .fp8e4m3⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | _, _ => ⟨S3072x6656, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 32], ![false, false]⟩

@[reducible] def k0_t1_loop : Scf.Loop 32 :=
  let c0_i32 : BitVec 32 := 0#32
  let c13_i32 : BitVec 32 := 13#32
  let v4 : BitVec 32 := Scalar.addi c0_i32 c13_i32
  let c1_i32 : BitVec 32 := 1#32
  ⟨c0_i32, v4, c1_i32⟩
def k0_mult1 (k0_t1 : Fin k0_t1_loop.trips) : BitVec 32 :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c512_i32 : BitVec 32 := 512#32
  let v19 : BitVec 32 := Scalar.muli v18 c512_i32
  v19
def k0_off1 (k0_t1 : Fin k0_t1_loop.trips) : Fin 2 → Nat :=
  let c0_14 : Index := 0#32
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c512_i32 : BitVec 32 := 512#32
  let v19 : BitVec 32 := Scalar.muli v18 c512_i32
  let v20 : BitVec 32 := v19
  let v21 : Index := Scalar.indexCast v20
  ![0, v21.toNat]
def k0_mult2 (k0_t1 : Fin k0_t1_loop.trips) : BitVec 32 :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c64_i32 : BitVec 32 := 64#32
  let v24 : BitVec 32 := Scalar.muli v18 c64_i32
  v24
def k0_off2 (k0_t1 : Fin k0_t1_loop.trips) : Fin 2 → Nat :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c64_i32 : BitVec 32 := 64#32
  let v24 : BitVec 32 := Scalar.muli v18 c64_i32
  let v25 : BitVec 32 := v24
  let v26 : Index := Scalar.indexCast v25
  let c0_15 : Index := 0#32
  ![v26.toNat, 0]
def k0_off3 (k0_t1 : Fin k0_t1_loop.trips) : Fin 3 → Nat :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let v28 : Index := Scalar.indexCast v18
  let c0_16 : Index := 0#32
  let c0_17 : Index := 0#32
  ![v28.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x6656 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S832x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S13x4x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S3072x6656 : Shape := ⟨2, ![3072, 6656]⟩
abbrev S3072x1 : Shape := ⟨2, ![3072, 1]⟩
abbrev S832x16384 : Shape := ⟨2, ![832, 16384]⟩
abbrev S52x16384 : Shape := ⟨2, ![52, 16384]⟩
abbrev S16384 : Shape := ⟨1, ![16384]⟩
abbrev S3072x16384 : Shape := ⟨2, ![3072, 16384]⟩
abbrev S8 : Shape := ⟨1, ![8]⟩
abbrev S_ : Shape := ⟨0, ![]⟩
abbrev S1x832x16384 : Shape := ⟨3, ![1, 832, 16384]⟩
abbrev S8x1x1 : Shape := ⟨3, ![8, 1, 1]⟩
abbrev S8x832x16384 : Shape := ⟨3, ![8, 832, 16384]⟩
abbrev S52x16x16384 : Shape := ⟨3, ![52, 16, 16384]⟩
abbrev S3072x832x8 : Shape := ⟨3, ![3072, 832, 8]⟩
abbrev S3072 : Shape := ⟨1, ![3072]⟩
abbrev S1x16384 : Shape := ⟨2, ![1, 16384]⟩

abbrev nBuf : Space → Nat
  | .hbm => 45
  | .vmem => 6
  | .smem => 0
  | _ => 0

abbrev bufTy : (tb : Table) → Fin (tcTables nBuf tb) → BufTy
  | .hbm, ⟨0, _⟩ => ⟨S3072x6656, .fp8e4m3⟩
  | .hbm, ⟨1, _⟩ => ⟨S3072x1, .f32⟩
  | .hbm, ⟨2, _⟩ => ⟨S832x16384, .i32⟩
  | .hbm, ⟨3, _⟩ => ⟨S52x16384, .fp8e4m3⟩
  | .hbm, ⟨4, _⟩ => ⟨S16384, .f32⟩
  | .hbm, ⟨5, _⟩ => ⟨S3072x16384, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S1x832x16384, .i32⟩
  | .hbm, ⟨11, _⟩ => ⟨S8x1x1, .i32⟩
  | .hbm, ⟨12, _⟩ => ⟨S8x832x16384, .i32⟩
  | .hbm, ⟨13, _⟩ => ⟨S8x832x16384, .i32⟩
  | .hbm, ⟨14, _⟩ => ⟨S8x832x16384, .i32⟩
  | .hbm, ⟨15, _⟩ => ⟨S_, .i32⟩
  | .hbm, ⟨16, _⟩ => ⟨S8x832x16384, .i32⟩
  | .hbm, ⟨17, _⟩ => ⟨S8x832x16384, .i32⟩
  | .hbm, ⟨18, _⟩ => ⟨S_, .i32⟩
  | .hbm, ⟨19, _⟩ => ⟨S8x832x16384, .i32⟩
  | .hbm, ⟨20, _⟩ => ⟨S8x832x16384, .i1⟩
  | .hbm, ⟨21, _⟩ => ⟨S_, .i32⟩
  | .hbm, ⟨22, _⟩ => ⟨S8x832x16384, .i32⟩
  | .hbm, ⟨23, _⟩ => ⟨S8x832x16384, .i32⟩
  | .hbm, ⟨24, _⟩ => ⟨S8x832x16384, .i32⟩
  | .hbm, ⟨25, _⟩ => ⟨S8x832x16384, .i8⟩
  | .hbm, ⟨26, _⟩ => ⟨S3072x6656, .bf16⟩
  | .hbm, ⟨27, _⟩ => ⟨S52x16384, .bf16⟩
  | .hbm, ⟨28, _⟩ => ⟨S8x832x16384, .bf16⟩
  | .hbm, ⟨29, _⟩ => ⟨S52x16x16384, .bf16⟩
  | .hbm, ⟨30, _⟩ => ⟨S832x16384, .bf16⟩
  | .hbm, ⟨31, _⟩ => ⟨S1x832x16384, .bf16⟩
  | .hbm, ⟨32, _⟩ => ⟨S8x832x16384, .bf16⟩
  | .hbm, ⟨33, _⟩ => ⟨S8x832x16384, .bf16⟩
  | .hbm, ⟨34, _⟩ => ⟨S3072x832x8, .bf16⟩
  | .hbm, ⟨35, _⟩ => ⟨S3072x16384, .f32⟩
  | .hbm, ⟨36, _⟩ => ⟨S3072, .f32⟩
  | .hbm, ⟨37, _⟩ => ⟨S3072x1, .f32⟩
  | .hbm, ⟨38, _⟩ => ⟨S3072x16384, .f32⟩
  | .hbm, ⟨39, _⟩ => ⟨S3072x16384, .f32⟩
  | .hbm, ⟨40, _⟩ => ⟨S1x16384, .f32⟩
  | .hbm, ⟨41, _⟩ => ⟨S3072x16384, .f32⟩
  | .hbm, ⟨42, _⟩ => ⟨S3072x16384, .f32⟩
  | .hbm, ⟨43, _⟩ => ⟨S3072x16384, .f32⟩
  | .hbm, ⟨44, _⟩ => ⟨S3072x16384, .bf16⟩
  | .local _ .vmem, ⟨0, _⟩ => ⟨S3072x6656, .fp8e4m3⟩
  | .local _ .vmem, ⟨1, _⟩ => ⟨S52x16384, .fp8e4m3⟩
  | .local _ .vmem, ⟨2, _⟩ => ⟨S8x832x16384, .i8⟩
  | .local _ .vmem, ⟨3, _⟩ => ⟨S3072x6656, .bf16⟩
  | .local _ .vmem, ⟨4, _⟩ => ⟨S52x16384, .bf16⟩
  | .local _ .vmem, ⟨5, _⟩ => ⟨S8x832x16384, .bf16⟩
  | _, _ => ⟨S3072x6656, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x6656 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S52x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x832x16384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x6656 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S52x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x832x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Wo.lean ====
abbrev S3072x2048 : Shape := ⟨2, ![3072, 2048]⟩
abbrev S3072x1 : Shape := ⟨2, ![3072, 1]⟩
abbrev S256x16384 : Shape := ⟨2, ![256, 16384]⟩
abbrev S16x16384 : Shape := ⟨2, ![16, 16384]⟩
abbrev S16384 : Shape := ⟨1, ![16384]⟩
abbrev S3072x16384 : Shape := ⟨2, ![3072, 16384]⟩
abbrev S4x4x16384 : Shape := ⟨3, ![4, 4, 16384]⟩
abbrev S1x16384 : Shape := ⟨2, ![1, 16384]⟩
abbrev S1024x2048 : Shape := ⟨2, ![1024, 2048]⟩
abbrev S1024x1 : Shape := ⟨2, ![1024, 1]⟩
abbrev S256x512 : Shape := ⟨2, ![256, 512]⟩
abbrev S4x4x512 : Shape := ⟨3, ![4, 4, 512]⟩
abbrev S1x512 : Shape := ⟨2, ![1, 512]⟩
abbrev S1024x512 : Shape := ⟨2, ![1024, 512]⟩
abbrev S64x512 : Shape := ⟨2, ![64, 512]⟩
abbrev S1x4x512 : Shape := ⟨3, ![1, 4, 512]⟩
abbrev S4x512 : Shape := ⟨2, ![4, 512]⟩
abbrev S64x8x512 : Shape := ⟨3, ![64, 8, 512]⟩
abbrev S64x1x512 : Shape := ⟨3, ![64, 1, 512]⟩
abbrev S512x512 : Shape := ⟨2, ![512, 512]⟩
abbrev S4x128x512 : Shape := ⟨3, ![4, 128, 512]⟩
abbrev S4x1x512 : Shape := ⟨3, ![4, 1, 512]⟩

abbrev nBuf : Space → Nat
  | .hbm => 9
  | .vmem => 15
  | .smem => 0
  | _ => 0

abbrev bufTy : (tb : Table) → Fin (tcTables nBuf tb) → BufTy
  | .hbm, ⟨0, _⟩ => ⟨S3072x2048, .fp8e4m3⟩
  | .hbm, ⟨1, _⟩ => ⟨S3072x1, .f32⟩
  | .hbm, ⟨2, _⟩ => ⟨S256x16384, .i32⟩
  | .hbm, ⟨3, _⟩ => ⟨S16x16384, .fp8e4m3⟩
  | .hbm, ⟨4, _⟩ => ⟨S16384, .f32⟩
  | .hbm, ⟨5, _⟩ => ⟨S3072x16384, .bf16⟩
  | .hbm, ⟨6, _⟩ => ⟨S4x4x16384, .fp8e4m3⟩
  | .hbm, ⟨7, _⟩ => ⟨S1x16384, .f32⟩
  | .hbm, ⟨8, _⟩ => ⟨S3072x16384, .f32⟩
  | .local _ .vmem, ⟨0, _⟩ => ⟨S1024x2048, .fp8e4m3⟩
  | .local _ .vmem, ⟨1, _⟩ => ⟨S1024x2048, .fp8e4m3⟩
  | .local _ .vmem, ⟨2, _⟩ => ⟨S1024x1, .f32⟩
  | .local _ .vmem, ⟨3, _⟩ => ⟨S1024x1, .f32⟩
  | .local _ .vmem, ⟨4, _⟩ => ⟨S256x512, .i32⟩
  | .local _ .vmem, ⟨5, _⟩ => ⟨S256x512, .i32⟩
  | .local _ .vmem, ⟨6, _⟩ => ⟨S4x4x512, .fp8e4m3⟩
  | .local _ .vmem, ⟨7, _⟩ => ⟨S4x4x512, .fp8e4m3⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S3072x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 32], ![false, false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c512_i32 : BitVec 32 := 512#32
  let v19 : BitVec 32 := Scalar.muli v18 c512_i32
  v19
def k0_off1 (k0_t1 : Fin k0_t1_loop.trips) : Fin 2 → Nat :=
  let c0_14 : Index := 0#32
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c512_i32 : BitVec 32 := 512#32
  let v19 : BitVec 32 := Scalar.muli v18 c512_i32
  let v20 : BitVec 32 := v19
  let v21 : Index := Scalar.indexCast v20
  ![0, v21.toNat]
def k0_mult2 (k0_t1 : Fin k0_t1_loop.trips) : BitVec 32 :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c64_i32 : BitVec 32 := 64#32
  let v24 : BitVec 32 := Scalar.muli v18 c64_i32
  v24
def k0_off2 (k0_t1 : Fin k0_t1_loop.trips) : Fin 2 → Nat :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c64_i32 : BitVec 32 := 64#32
  let v24 : BitVec 32 := Scalar.muli v18 c64_i32
  let v25 : BitVec 32 := v24
  let v26 : Index := Scalar.indexCast v25
  let c0_15 : Index := 0#32
  ![v26.toNat, 0]
def k0_off3 (k0_t1 : Fin k0_t1_loop.trips) : Fin 3 → Nat :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let v28 : Index := Scalar.indexCast v18
  let c0_16 : Index := 0#32
  let c0_17 : Index := 0#32
  ![v28.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x4x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WoRefIdeal.lean ====
abbrev S3072x2048 : Shape := ⟨2, ![3072, 2048]⟩
abbrev S3072x1 : Shape := ⟨2, ![3072, 1]⟩
abbrev S256x16384 : Shape := ⟨2, ![256, 16384]⟩
abbrev S16x16384 : Shape := ⟨2, ![16, 16384]⟩
abbrev S16384 : Shape := ⟨1, ![16384]⟩
abbrev S3072x16384 : Shape := ⟨2, ![3072, 16384]⟩
abbrev S8 : Shape := ⟨1, ![8]⟩
abbrev S_ : Shape := ⟨0, ![]⟩
abbrev S1x256x16384 : Shape := ⟨3, ![1, 256, 16384]⟩
abbrev S8x1x1 : Shape := ⟨3, ![8, 1, 1]⟩
abbrev S8x256x16384 : Shape := ⟨3, ![8, 256, 16384]⟩
abbrev S16x16x16384 : Shape := ⟨3, ![16, 16, 16384]⟩
abbrev S3072x256x8 : Shape := ⟨3, ![3072, 256, 8]⟩
abbrev S3072 : Shape := ⟨1, ![3072]⟩
abbrev S1x16384 : Shape := ⟨2, ![1, 16384]⟩

abbrev nBuf : Space → Nat
  | .hbm => 45
  | .vmem => 6
  | .smem => 0
  | _ => 0

abbrev bufTy : (tb : Table) → Fin (tcTables nBuf tb) → BufTy
  | .hbm, ⟨0, _⟩ => ⟨S3072x2048, .fp8e4m3⟩
  | .hbm, ⟨1, _⟩ => ⟨S3072x1, .f32⟩
  | .hbm, ⟨2, _⟩ => ⟨S256x16384, .i32⟩
  | .hbm, ⟨3, _⟩ => ⟨S16x16384, .fp8e4m3⟩
  | .hbm, ⟨4, _⟩ => ⟨S16384, .f32⟩
  | .hbm, ⟨5, _⟩ => ⟨S3072x16384, .bf16⟩
  | .hbm, ⟨6, _⟩ => ⟨S3072x16384, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S1x256x16384, .i32⟩
  | .hbm, ⟨12, _⟩ => ⟨S8x1x1, .i32⟩
  | .hbm, ⟨13, _⟩ => ⟨S8x256x16384, .i32⟩
  | .hbm, ⟨14, _⟩ => ⟨S8x256x16384, .i32⟩
  | .hbm, ⟨15, _⟩ => ⟨S8x256x16384, .i32⟩
  | .hbm, ⟨16, _⟩ => ⟨S_, .i32⟩
  | .hbm, ⟨17, _⟩ => ⟨S8x256x16384, .i32⟩
  | .hbm, ⟨18, _⟩ => ⟨S8x256x16384, .i32⟩
  | .hbm, ⟨19, _⟩ => ⟨S_, .i32⟩
  | .hbm, ⟨20, _⟩ => ⟨S8x256x16384, .i32⟩
  | .hbm, ⟨21, _⟩ => ⟨S8x256x16384, .i1⟩
  | .hbm, ⟨22, _⟩ => ⟨S_, .i32⟩
  | .hbm, ⟨23, _⟩ => ⟨S8x256x16384, .i32⟩
  | .hbm, ⟨24, _⟩ => ⟨S8x256x16384, .i32⟩
  | .hbm, ⟨25, _⟩ => ⟨S8x256x16384, .i32⟩
  | .hbm, ⟨26, _⟩ => ⟨S8x256x16384, .i8⟩
  | .hbm, ⟨27, _⟩ => ⟨S3072x2048, .bf16⟩
  | .hbm, ⟨28, _⟩ => ⟨S16x16384, .bf16⟩
  | .hbm, ⟨29, _⟩ => ⟨S8x256x16384, .bf16⟩
  | .hbm, ⟨30, _⟩ => ⟨S16x16x16384, .bf16⟩
  | .hbm, ⟨31, _⟩ => ⟨S256x16384, .bf16⟩
  | .hbm, ⟨32, _⟩ => ⟨S1x256x16384, .bf16⟩
  | .hbm, ⟨33, _⟩ => ⟨S8x256x16384, .bf16⟩
  | .hbm, ⟨34, _⟩ => ⟨S8x256x16384, .bf16⟩
  | .hbm, ⟨35, _⟩ => ⟨S3072x256x8, .bf16⟩
  | .hbm, ⟨36, _⟩ => ⟨S3072x16384, .f32⟩
  | .hbm, ⟨37, _⟩ => ⟨S3072, .f32⟩
  | .hbm, ⟨38, _⟩ => ⟨S3072x1, .f32⟩
  | .hbm, ⟨39, _⟩ => ⟨S3072x16384, .f32⟩
  | .hbm, ⟨40, _⟩ => ⟨S3072x16384, .f32⟩
  | .hbm, ⟨41, _⟩ => ⟨S1x16384, .f32⟩
  | .hbm, ⟨42, _⟩ => ⟨S3072x16384, .f32⟩
  | .hbm, ⟨43, _⟩ => ⟨S3072x16384, .f32⟩
  | .hbm, ⟨44, _⟩ => ⟨S3072x16384, .f32⟩
  | .local _ .vmem, ⟨0, _⟩ => ⟨S3072x2048, .fp8e4m3⟩
  | .local _ .vmem, ⟨1, _⟩ => ⟨S16x16384, .fp8e4m3⟩
  | .local _ .vmem, ⟨2, _⟩ => ⟨S8x256x16384, .i8⟩
  | .local _ .vmem, ⟨3, _⟩ => ⟨S3072x2048, .bf16⟩
  | .local _ .vmem, ⟨4, _⟩ => ⟨S16x16384, .bf16⟩
  | .local _ .vmem, ⟨5, _⟩ => ⟨S8x256x16384, .bf16⟩
  | _, _ => ⟨S3072x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256x16384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x256x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== NormQ.lean ====
abbrev S3072x16384 : Shape := ⟨2, ![3072, 16384]⟩
abbrev S16384 : Shape := ⟨1, ![16384]⟩
abbrev S1x16384 : Shape := ⟨2, ![1, 16384]⟩
abbrev S3072x1 : Shape := ⟨2, ![3072, 1]⟩
abbrev S128x16384 : Shape := ⟨2, ![128, 16384]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S3072x16384, .bf16⟩
  | .hbm, ⟨1, _⟩ => ⟨S16384, .f32⟩
  | .hbm, ⟨2, _⟩ => ⟨S1x16384, .f32⟩
  | .hbm, ⟨3, _⟩ => ⟨S3072x16384, .fp8e4m3⟩
  | .hbm, ⟨4, _⟩ => ⟨S3072x1, .f32⟩
  | .local _ .vmem, ⟨0, _⟩ => ⟨S128x16384, .bf16⟩
  | .local _ .vmem, ⟨1, _⟩ => ⟨S128x16384, .bf16⟩
  | .local _ .vmem, ⟨2, _⟩ => ⟨S1x16384, .f32⟩
  | .local _ .vmem, ⟨3, _⟩ => ⟨S128x16384, .fp8e4m3⟩
  | .local _ .vmem, ⟨4, _⟩ => ⟨S128x16384, .fp8e4m3⟩
  | .local _ .vmem, ⟨5, _⟩ => ⟨S128x1, .f32⟩
  | .local _ .vmem, ⟨6, _⟩ => ⟨S128x1, .f32⟩
  | _, _ => ⟨S3072x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormQIdeal.lean ====
abbrev S3072x16384 : Shape := ⟨2, ![3072, 16384]⟩
abbrev S16384 : Shape := ⟨1, ![16384]⟩
abbrev S1x16384 : Shape := ⟨2, ![1, 16384]⟩
abbrev S3072x1 : Shape := ⟨2, ![3072, 1]⟩
abbrev S128x16384 : Shape := ⟨2, ![128, 16384]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S3072x16384, .bf16⟩
  | .hbm, ⟨1, _⟩ => ⟨S16384, .f32⟩
  | .hbm, ⟨2, _⟩ => ⟨S1x16384, .f32⟩
  | .hbm, ⟨3, _⟩ => ⟨S3072x16384, .fp8e4m3⟩
  | .hbm, ⟨4, _⟩ => ⟨S3072x1, .f32⟩
  | .local _ .vmem, ⟨0, _⟩ => ⟨S128x16384, .bf16⟩
  | .local _ .vmem, ⟨1, _⟩ => ⟨S128x16384, .bf16⟩
  | .local _ .vmem, ⟨2, _⟩ => ⟨S1x16384, .f32⟩
  | .local _ .vmem, ⟨3, _⟩ => ⟨S128x16384, .fp8e4m3⟩
  | .local _ .vmem, ⟨4, _⟩ => ⟨S128x16384, .fp8e4m3⟩
  | .local _ .vmem, ⟨5, _⟩ => ⟨S128x1, .f32⟩
  | .local _ .vmem, ⟨6, _⟩ => ⟨S128x1, .f32⟩
  | _, _ => ⟨S3072x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormQRefIdeal.lean ====
abbrev S3072x16384 : Shape := ⟨2, ![3072, 16384]⟩
abbrev S16384 : Shape := ⟨1, ![16384]⟩
abbrev S_ : Shape := ⟨0, ![]⟩
abbrev S3072 : Shape := ⟨1, ![3072]⟩
abbrev S3072x1 : Shape := ⟨2, ![3072, 1]⟩
abbrev S1x16384 : Shape := ⟨2, ![1, 16384]⟩

abbrev nBuf : Space → Nat
  | .hbm => 46
  | .vmem => 4
  | .smem => 0
  | _ => 0

abbrev bufTy : (tb : Table) → Fin (tcTables nBuf tb) → BufTy
  | .hbm, ⟨0, _⟩ => ⟨S3072x16384, .bf16⟩
  | .hbm, ⟨1, _⟩ => ⟨S16384, .f32⟩
  | .hbm, ⟨2, _⟩ => ⟨S3072x16384, .f32⟩
  | .hbm, ⟨3, _⟩ => ⟨S3072x16384, .f32⟩
  | .hbm, ⟨4, _⟩ => ⟨S_, .f32⟩
  | .hbm, ⟨5, _⟩ => ⟨S3072, .f32⟩
  | .hbm, ⟨6, _⟩ => ⟨S3072x1, .f32⟩
  | .hbm, ⟨7, _⟩ => ⟨S_, .f32⟩
  | .hbm, ⟨8, _⟩ => ⟨S3072x1, .f32⟩
  | .hbm, ⟨9, _⟩ => ⟨S3072x1, .f32⟩
  | .hbm, ⟨10, _⟩ => ⟨S_, .f32⟩
  | .hbm, ⟨11, _⟩ => ⟨S3072x1, .f32⟩
  | .hbm, ⟨12, _⟩ => ⟨S3072x1, .f32⟩
  | .hbm, ⟨13, _⟩ => ⟨S3072x1, .f32⟩
  | .hbm, ⟨14, _⟩ => ⟨S3072x16384, .f32⟩
  | .hbm, ⟨15, _⟩ => ⟨S3072x16384, .f32⟩
  | .hbm, ⟨16, _⟩ => ⟨S1x16384, .f32⟩
  | .hbm, ⟨17, _⟩ => ⟨S3072x16384, .f32⟩
  | .hbm, ⟨18, _⟩ => ⟨S3072x16384, .f32⟩
  | .hbm, ⟨19, _⟩ => ⟨S3072x16384, .f32⟩
  | .hbm, ⟨20, _⟩ => ⟨S_, .f32⟩
  | .hbm, ⟨21, _⟩ => ⟨S3072, .f32⟩
  | .hbm, ⟨22, _⟩ => ⟨S_, .f32⟩
  | .hbm, ⟨23, _⟩ => ⟨S3072, .f32⟩
  | .hbm, ⟨24, _⟩ => ⟨S3072, .i1⟩
  | .hbm, ⟨25, _⟩ => ⟨S_, .f32⟩
  | .hbm, ⟨26, _⟩ => ⟨S3072, .f32⟩
  | .hbm, ⟨27, _⟩ => ⟨S3072, .f32⟩
  | .hbm, ⟨28, _⟩ => ⟨S_, .f32⟩
  | .hbm, ⟨29, _⟩ => ⟨S_, .f32⟩
  | .hbm, ⟨30, _⟩ => ⟨S3072, .f32⟩
  | .hbm, ⟨31, _⟩ => ⟨S3072, .f32⟩
  | .hbm, ⟨32, _⟩ => ⟨S3072x1, .f32⟩
  | .hbm, ⟨33, _⟩ => ⟨S3072x16384, .f32⟩
  | .hbm, ⟨34, _⟩ => ⟨S3072x16384, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S3072x16384, .f32⟩
  | .hbm, ⟨39, _⟩ => ⟨S3072x16384, .f32⟩
  | .hbm, ⟨40, _⟩ => ⟨S_, .f32⟩
  | .hbm, ⟨41, _⟩ => ⟨S3072x16384, .f32⟩
  | .hbm, ⟨42, _⟩ => ⟨S3072x16384, .f32⟩
  | .hbm, ⟨43, _⟩ => ⟨S3072x1, .f32⟩
  | .hbm, ⟨44, _⟩ => ⟨S3072x16384, .fp8e4m3⟩
  | .hbm, ⟨45, _⟩ => ⟨S3072x1, .f32⟩
  | .local _ .vmem, ⟨0, _⟩ => ⟨S3072x16384, .f32⟩
  | .local _ .vmem, ⟨1, _⟩ => ⟨S3072x1, .f32⟩
  | .local _ .vmem, ⟨2, _⟩ => ⟨S3072x16384, .fp8e4m3⟩
  | .local _ .vmem, ⟨3, _⟩ => ⟨S3072x1, .f32⟩
  | _, _ => ⟨S3072x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3072x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== NormR.lean ====
abbrev S3072x16384 : Shape := ⟨2, ![3072, 16384]⟩
abbrev S16384 : Shape := ⟨1, ![16384]⟩
abbrev S1x16384 : Shape := ⟨2, ![1, 16384]⟩
abbrev S3072x1 : Shape := ⟨2, ![3072, 1]⟩
abbrev S128x16384 : Shape := ⟨2, ![128, 16384]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S3072x16384, .f32⟩
  | .hbm, ⟨1, _⟩ => ⟨S16384, .f32⟩
  | .hbm, ⟨2, _⟩ => ⟨S1x16384, .f32⟩
  | .hbm, ⟨3, _⟩ => ⟨S3072x16384, .fp8e4m3⟩
  | .hbm, ⟨4, _⟩ => ⟨S3072x1, .f32⟩
  | .local _ .vmem, ⟨0, _⟩ => ⟨S128x16384, .f32⟩
  | .local _ .vmem, ⟨1, _⟩ => ⟨S128x16384, .f32⟩
  | .local _ .vmem, ⟨2, _⟩ => ⟨S1x16384, .f32⟩
  | .local _ .vmem, ⟨3, _⟩ => ⟨S128x16384, .fp8e4m3⟩
  | .local _ .vmem, ⟨4, _⟩ => ⟨S128x16384, .fp8e4m3⟩
  | .local _ .vmem, ⟨5, _⟩ => ⟨S128x1, .f32⟩
  | .local _ .vmem, ⟨6, _⟩ => ⟨S128x1, .f32⟩
  | _, _ => ⟨S3072x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRRefIdeal.lean ====
abbrev S3072x16384 : Shape := ⟨2, ![3072, 16384]⟩
abbrev S16384 : Shape := ⟨1, ![16384]⟩
abbrev S_ : Shape := ⟨0, ![]⟩
abbrev S3072 : Shape := ⟨1, ![3072]⟩
abbrev S3072x1 : Shape := ⟨2, ![3072, 1]⟩
abbrev S1x16384 : Shape := ⟨2, ![1, 16384]⟩

abbrev nBuf : Space → Nat
  | .hbm => 45
  | .vmem => 4
  | .smem => 0
  | _ => 0

abbrev bufTy : (tb : Table) → Fin (tcTables nBuf tb) → BufTy
  | .hbm, ⟨0, _⟩ => ⟨S3072x16384, .f32⟩
  | .hbm, ⟨1, _⟩ => ⟨S16384, .f32⟩
  | .hbm, ⟨2, _⟩ => ⟨S3072x16384, .f32⟩
  | .hbm, ⟨3, _⟩ => ⟨S_, .f32⟩
  | .hbm, ⟨4, _⟩ => ⟨S3072, .f32⟩
  | .hbm, ⟨5, _⟩ => ⟨S3072x1, .f32⟩
  | .hbm, ⟨6, _⟩ => ⟨S_, .f32⟩
  | .hbm, ⟨7, _⟩ => ⟨S3072x1, .f32⟩
  | .hbm, ⟨8, _⟩ => ⟨S3072x1, .f32⟩
  | .hbm, ⟨9, _⟩ => ⟨S_, .f32⟩
  | .hbm, ⟨10, _⟩ => ⟨S3072x1, .f32⟩
  | .hbm, ⟨11, _⟩ => ⟨S3072x1, .f32⟩
  | .hbm, ⟨12, _⟩ => ⟨S3072x1, .f32⟩
  | .hbm, ⟨13, _⟩ => ⟨S3072x16384, .f32⟩
  | .hbm, ⟨14, _⟩ => ⟨S3072x16384, .f32⟩
  | .hbm, ⟨15, _⟩ => ⟨S1x16384, .f32⟩
  | .hbm, ⟨16, _⟩ => ⟨S3072x16384, .f32⟩
  | .hbm, ⟨17, _⟩ => ⟨S3072x16384, .f32⟩
  | .hbm, ⟨18, _⟩ => ⟨S3072x16384, .f32⟩
  | .hbm, ⟨19, _⟩ => ⟨S_, .f32⟩
  | .hbm, ⟨20, _⟩ => ⟨S3072, .f32⟩
  | .hbm, ⟨21, _⟩ => ⟨S_, .f32⟩
  | .hbm, ⟨22, _⟩ => ⟨S3072, .f32⟩
  | .hbm, ⟨23, _⟩ => ⟨S3072, .i1⟩
  | .hbm, ⟨24, _⟩ => ⟨S_, .f32⟩
  | .hbm, ⟨25, _⟩ => ⟨S3072, .f32⟩
  | .hbm, ⟨26, _⟩ => ⟨S3072, .f32⟩
  | .hbm, ⟨27, _⟩ => ⟨S_, .f32⟩
  | .hbm, ⟨28, _⟩ => ⟨S_, .f32⟩
  | .hbm, ⟨29, _⟩ => ⟨S3072, .f32⟩
  | .hbm, ⟨30, _⟩ => ⟨S3072, .f32⟩
  | .hbm, ⟨31, _⟩ => ⟨S3072x1, .f32⟩
  | .hbm, ⟨32, _⟩ => ⟨S3072x16384, .f32⟩
  | .hbm, ⟨33, _⟩ => ⟨S3072x16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S3072x16384, .f32⟩
  | .hbm, ⟨38, _⟩ => ⟨S3072x16384, .f32⟩
  | .hbm, ⟨39, _⟩ => ⟨S_, .f32⟩
  | .hbm, ⟨40, _⟩ => ⟨S3072x16384, .f32⟩
  | .hbm, ⟨41, _⟩ => ⟨S3072x16384, .f32⟩
  | .hbm, ⟨42, _⟩ => ⟨S3072x1, .f32⟩
  | .hbm, ⟨43, _⟩ => ⟨S3072x16384, .fp8e4m3⟩
  | .hbm, ⟨44, _⟩ => ⟨S3072x1, .f32⟩
  | .local _ .vmem, ⟨0, _⟩ => ⟨S3072x16384, .f32⟩
  | .local _ .vmem, ⟨1, _⟩ => ⟨S3072x1, .f32⟩
  | .local _ .vmem, ⟨2, _⟩ => ⟨S3072x16384, .fp8e4m3⟩
  | .local _ .vmem, ⟨3, _⟩ => ⟨S3072x1, .f32⟩
  | _, _ => ⟨S3072x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3072x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Quant.lean ====
abbrev S3072x6656 : Shape := ⟨2, ![3072, 6656]⟩
abbrev S3072x1 : Shape := ⟨2, ![3072, 1]⟩
abbrev S256x6656 : Shape := ⟨2, ![256, 6656]⟩
abbrev S256x1 : Shape := ⟨2, ![256, 1]⟩
abbrev S256 : Shape := ⟨1, ![256]⟩

abbrev nBuf : Space → Nat
  | .hbm => 3
  | .vmem => 6
  | .smem => 0
  | _ => 0

abbrev bufTy : (tb : Table) → Fin (tcTables nBuf tb) → BufTy
  | .hbm, ⟨0, _⟩ => ⟨S3072x6656, .f32⟩
  | .hbm, ⟨1, _⟩ => ⟨S3072x6656, .fp8e4m3⟩
  | .hbm, ⟨2, _⟩ => ⟨S3072x1, .f32⟩
  | .local _ .vmem, ⟨0, _⟩ => ⟨S256x6656, .f32⟩
  | .local _ .vmem, ⟨1, _⟩ => ⟨S256x6656, .f32⟩
  | .local _ .vmem, ⟨2, _⟩ => ⟨S256x6656, .fp8e4m3⟩
  | .local _ .vmem, ⟨3, _⟩ => ⟨S256x6656, .fp8e4m3⟩
  | .local _ .vmem, ⟨4, _⟩ => ⟨S256x1, .f32⟩
  | .local _ .vmem, ⟨5, _⟩ => ⟨S256x1, .f32⟩
  | _, _ => ⟨S3072x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6656 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6656 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantRefIdeal.lean ====
abbrev S3072x6656 : Shape := ⟨2, ![3072, 6656]⟩
abbrev S_ : Shape := ⟨0, ![]⟩
abbrev S3072 : Shape := ⟨1, ![3072]⟩
abbrev S3072x1 : Shape := ⟨2, ![3072, 1]⟩

abbrev nBuf : Space → Nat
  | .hbm => 28
  | .vmem => 4
  | .smem => 0
  | _ => 0

abbrev bufTy : (tb : Table) → Fin (tcTables nBuf tb) → BufTy
  | .hbm, ⟨0, _⟩ => ⟨S3072x6656, .f32⟩
  | .hbm, ⟨1, _⟩ => ⟨S3072x6656, .f32⟩
  | .hbm, ⟨2, _⟩ => ⟨S_, .f32⟩
  | .hbm, ⟨3, _⟩ => ⟨S3072, .f32⟩
  | .hbm, ⟨4, _⟩ => ⟨S_, .f32⟩
  | .hbm, ⟨5, _⟩ => ⟨S3072, .f32⟩
  | .hbm, ⟨6, _⟩ => ⟨S3072, .i1⟩
  | .hbm, ⟨7, _⟩ => ⟨S_, .f32⟩
  | .hbm, ⟨8, _⟩ => ⟨S3072, .f32⟩
  | .hbm, ⟨9, _⟩ => ⟨S3072, .f32⟩
  | .hbm, ⟨10, _⟩ => ⟨S_, .f32⟩
  | .hbm, ⟨11, _⟩ => ⟨S_, .f32⟩
  | .hbm, ⟨12, _⟩ => ⟨S3072, .f32⟩
  | .hbm, ⟨13, _⟩ => ⟨S3072, .f32⟩
  | .hbm, ⟨14, _⟩ => ⟨S3072x1, .f32⟩
  | .hbm, ⟨15, _⟩ => ⟨S3072x6656, .f32⟩
  | .hbm, ⟨16, _⟩ => ⟨S3072x6656, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S3072x6656, .f32⟩
  | .hbm, ⟨21, _⟩ => ⟨S3072x6656, .f32⟩
  | .hbm, ⟨22, _⟩ => ⟨S_, .f32⟩
  | .hbm, ⟨23, _⟩ => ⟨S3072x6656, .f32⟩
  | .hbm, ⟨24, _⟩ => ⟨S3072x6656, .f32⟩
  | .hbm, ⟨25, _⟩ => ⟨S3072x1, .f32⟩
  | .hbm, ⟨26, _⟩ => ⟨S3072x6656, .fp8e4m3⟩
  | .hbm, ⟨27, _⟩ => ⟨S3072x1, .f32⟩
  | .local _ .vmem, ⟨0, _⟩ => ⟨S3072x6656, .f32⟩
  | .local _ .vmem, ⟨1, _⟩ => ⟨S3072x1, .f32⟩
  | .local _ .vmem, ⟨2, _⟩ => ⟨S3072x6656, .fp8e4m3⟩
  | .local _ .vmem, ⟨3, _⟩ => ⟨S3072x1, .f32⟩
  | _, _ => ⟨S3072x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3072x6656 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x6656 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Qkv.lean ====
abbrev S3072x16384 : Shape := ⟨2, ![3072, 16384]⟩
abbrev S3072x1 : Shape := ⟨2, ![3072, 1]⟩
abbrev S2048x2304 : Shape := ⟨2, ![2048, 2304]⟩
abbrev S128x2304 : Shape := ⟨2, ![128, 2304]⟩
abbrev S2304 : Shape := ⟨1, ![2304]⟩
abbrev S3072x64 : Shape := ⟨2, ![3072, 64]⟩
abbrev S1 : Shape := ⟨1, ![1]⟩
abbrev S32x4x2304 : Shape := ⟨3, ![32, 4, 2304]⟩
abbrev S1x2304 : Shape := ⟨2, ![1, 2304]⟩
abbrev S1x1 : Shape := ⟨2, ![1, 1]⟩
abbrev S3072x2048 : Shape := ⟨2, ![3072, 2048]⟩
abbrev S3072x128 : Shape := ⟨2, ![3072, 128]⟩
abbrev S512x16384 : Shape := ⟨2, ![512, 16384]⟩
abbrev S512x1 : Shape := ⟨2, ![512, 1]⟩
abbrev S512x64 : Shape := ⟨2, ![512, 64]⟩
abbrev S512x2048 : Shape := ⟨2, ![512, 2048]⟩
abbrev S512x128 : Shape := ⟨2, ![512, 128]⟩
abbrev S512x2304 : Shape := ⟨2, ![512, 2304]⟩
abbrev S512x512 : Shape := ⟨2, ![512, 512]⟩
abbrev S64x2304 : Shape := ⟨2, ![64, 2304]⟩
abbrev S1x4x2304 : Shape := ⟨3, ![1, 4, 2304]⟩
abbrev S4x2304 : Shape := ⟨2, ![4, 2304]⟩
abbrev S64x8x2304 : Shape := ⟨3, ![64, 8, 2304]⟩
abbrev S64x1x2304 : Shape := ⟨3, ![64, 1, 2304]⟩
abbrev S4x128x2304 : Shape := ⟨3, ![4, 128, 2304]⟩
abbrev S4x1x2304 : Shape := ⟨3, ![4, 1, 2304]⟩
abbrev S1x128 : Shape := ⟨2, ![1, 128]⟩

abbrev nBuf : Space → Nat
  | .hbm => 16
  | .vmem => 20
  | .smem => 0
  | _ => 0

abbrev bufTy : (tb : Table) → Fin (tcTables nBuf tb) → BufTy
  | .hbm, ⟨0, _⟩ => ⟨S3072x16384, .fp8e4m3⟩
  | .hbm, ⟨1, _⟩ => ⟨S3072x1, .f32⟩
  | .hbm, ⟨2, _⟩ => ⟨S2048x2304, .i32⟩
  | .hbm, ⟨3, _⟩ => ⟨S128x2304, .fp8e4m3⟩
  | .hbm, ⟨4, _⟩ => ⟨S2304, .f32⟩
  | .hbm, ⟨5, _⟩ => ⟨S3072x64, .f32⟩
  | .hbm, ⟨6, _⟩ => ⟨S3072x64, .f32⟩
  | .hbm, ⟨7, _⟩ => ⟨S1, .f32⟩
  | .hbm, ⟨8, _⟩ => ⟨S1, .f32⟩
  | .hbm, ⟨9, _⟩ => ⟨S32x4x2304, .fp8e4m3⟩
  | .hbm, ⟨10, _⟩ => ⟨S1x2304, .f32⟩
  | .hbm, ⟨11, _⟩ => ⟨S1x1, .f32⟩
  | .hbm, ⟨12, _⟩ => ⟨S1x1, .f32⟩
  | .hbm, ⟨13, _⟩ => ⟨S3072x2048, .bf16⟩
  | .hbm, ⟨14, _⟩ => ⟨S3072x128, .fp8e4m3⟩
  | .hbm, ⟨15, _⟩ => ⟨S3072x128, .fp8e4m3⟩
  | .local _ .vmem, ⟨0, _⟩ => ⟨S512x16384, .fp8e4m3⟩
  | .local _ .vmem, ⟨1, _⟩ => ⟨S512x16384, .fp8e4m3⟩
  | .local _ .vmem, ⟨2, _⟩ => ⟨S512x1, .f32⟩
  | .local _ .vmem, ⟨3, _⟩ => ⟨S512x1, .f32⟩
  | .local _ .vmem, ⟨4, _⟩ => ⟨S2048x2304, .i32⟩
  | .local _ .vmem, ⟨5, _⟩ => ⟨S32x4x2304, .fp8e4m3⟩
  | .local _ .vmem, ⟨6, _⟩ => ⟨S1x2304, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S1x1, .f32⟩
  | .local _ .vmem, ⟨12, _⟩ => ⟨S1x1, .f32⟩
  | .local _ .vmem, ⟨13, _⟩ => ⟨S512x2048, .bf16⟩
  | .local _ .vmem, ⟨14, _⟩ => ⟨S512x2048, .bf16⟩
  | .local _ .vmem, ⟨15, _⟩ => ⟨S512x128, .fp8e4m3⟩
  | .local _ .vmem, ⟨16, _⟩ => ⟨S512x128, .fp8e4m3⟩
  | .local _ .vmem, ⟨17, _⟩ => ⟨S512x128, .fp8e4m3⟩
  | .local _ .vmem, ⟨18, _⟩ => ⟨S512x128, .fp8e4m3⟩
  | .local _ .vmem, ⟨19, _⟩ => ⟨S512x2304, .f32⟩
  | _, _ => ⟨S3072x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32_129 : BitVec 32 := 0#32
  let c0_i32 : BitVec 32 := 0#32
  let c1_i32 : BitVec 32 := 1#32
  let arg14 : BitVec 32 := Scf.iv c0_i32 c1_i32 k0_t1
  let c1_i32_128 : BitVec 32 := 1#32
  let v260 : BitVec 32 := Scalar.muli arg14 c1_i32_128
  let v261 : BitVec 32 := Scalar.addi c0_i32_129 v260
  let c512_i32 : BitVec 32 := 512#32
  let v262 : BitVec 32 := Scalar.muli v261 c512_i32
  v262
def k0_off1 (k0_t1 : Fin k0_t1_loop.trips) : Fin 2 → Nat :=
  let c0_130 : Index := 0#32
  let c0_i32_129 : BitVec 32 := 0#32
  let c0_i32 : BitVec 32 := 0#32
  let c1_i32 : BitVec 32 := 1#32
  let arg14 : BitVec 32 := Scf.iv c0_i32 c1_i32 k0_t1
  let c1_i32_128 : BitVec 32 := 1#32
  let v260 : BitVec 32 := Scalar.muli arg14 c1_i32_128
  let v261 : BitVec 32 := Scalar.addi c0_i32_129 v260
  let c512_i32 : BitVec 32 := 512#32
  let v262 : BitVec 32 := Scalar.muli v261 c512_i32
  let v263 : BitVec 32 := v262
  let v264 : Index := Scalar.indexCast v263
  ![0, v264.toNat]
def k0_mult2 (k0_t1 : Fin k0_t1_loop.trips) : BitVec 32 :=
  let c0_i32_129 : BitVec 32 := 0#32
  let c0_i32 : BitVec 32 := 0#32
  let c1_i32 : BitVec 32 := 1#32
  let arg14 : BitVec 32 := Scf.iv c0_i32 c1_i32 k0_t1
  let c1_i32_128 : BitVec 32 := 1#32
  let v260 : BitVec 32 := Scalar.muli arg14 c1_i32_128
  let v261 : BitVec 32 := Scalar.addi c0_i32_129 v260
  let c64_i32_131 : BitVec 32 := 64#32
  let v267 : BitVec 32 := Scalar.muli v261 c64_i32_131
  v267
def k0_off2 (k0_t1 : Fin k0_t1_loop.trips) : Fin 2 → Nat :=
  let c0_i32_129 : BitVec 32 := 0#32
  let c0_i32 : BitVec 32 := 0#32
  let c1_i32 : BitVec 32 := 1#32
  let arg14 : BitVec 32 := Scf.iv c0_i32 c1_i32 k0_t1
  let c1_i32_128 : BitVec 32 := 1#32
  let v260 : BitVec 32 := Scalar.muli arg14 c1_i32_128
  let v261 : BitVec 32 := Scalar.addi c0_i32_129 v260
  let c64_i32_131 : BitVec 32 := 64#32
  let v267 : BitVec 32 := Scalar.muli v261 c64_i32_131
  let v268 : BitVec 32 := v267
  let v269 : Index := Scalar.indexCast v268
  let c0_132 : Index := 0#32
  ![v269.toNat, 0]
def k0_off3 (k0_t1 : Fin k0_t1_loop.trips) : Fin 3 → Nat :=
  let c0_i32_129 : BitVec 32 := 0#32
  let c0_i32 : BitVec 32 := 0#32
  let c1_i32 : BitVec 32 := 1#32
  let arg14 : BitVec 32 := Scf.iv c0_i32 c1_i32 k0_t1
  let c1_i32_128 : BitVec 32 := 1#32
  let v260 : BitVec 32 := Scalar.muli arg14 c1_i32_128
  let v261 : BitVec 32 := Scalar.addi c0_i32_129 v260
  let v271 : Index := Scalar.indexCast v261
  let c0_133 : Index := 0#32
  let c0_134 : Index := 0#32
  ![v271.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2304 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvRefIdeal.lean ====
abbrev S3072x16384 : Shape := ⟨2, ![3072, 16384]⟩
abbrev S3072x1 : Shape := ⟨2, ![3072, 1]⟩
abbrev S2048x2304 : Shape := ⟨2, ![2048, 2304]⟩
abbrev S128x2304 : Shape := ⟨2, ![128, 2304]⟩
abbrev S2304 : Shape := ⟨1, ![2304]⟩
abbrev S3072x64 : Shape := ⟨2, ![3072, 64]⟩
abbrev S1 : Shape := ⟨1, ![1]⟩
abbrev S8 : Shape := ⟨1, ![8]⟩
abbrev S_ : Shape := ⟨0, ![]⟩
abbrev S1x2048x2304 : Shape := ⟨3, ![1, 2048, 2304]⟩
abbrev S8x1x1 : Shape := ⟨3, ![8, 1, 1]⟩
abbrev S8x2048x2304 : Shape := ⟨3, ![8, 2048, 2304]⟩
abbrev S2048x8x2304 : Shape := ⟨3, ![2048, 8, 2304]⟩
abbrev S16384x2304 : Shape := ⟨2, ![16384, 2304]⟩
abbrev S128x128x2304 : Shape := ⟨3, ![128, 128, 2304]⟩
abbrev S1x2304 : Shape := ⟨2, ![1, 2304]⟩
abbrev S1x1 : Shape := ⟨2, ![1, 1]⟩
abbrev S3072x2048 : Shape := ⟨2, ![3072, 2048]⟩
abbrev S3072x128 : Shape := ⟨2, ![3072, 128]⟩
abbrev S3072x2304 : Shape := ⟨2, ![3072, 2304]⟩
abbrev S3072x18x128 : Shape := ⟨3, ![3072, 18, 128]⟩
abbrev S3072x16x128 : Shape := ⟨3, ![3072, 16, 128]⟩
abbrev S3072x1x128 : Shape := ⟨3, ![3072, 1, 128]⟩
abbrev S3072x16x64 : Shape := ⟨3, ![3072, 16, 64]⟩
abbrev S3072x1x64 : Shape := ⟨3, ![3072, 1, 64]⟩

abbrev nBuf : Space → Nat
  | .hbm => 39
  | .vmem => 12
  | .smem => 0
  | _ => 0

abbrev bufTy : (tb : Table) → Fin (tcTables nBuf tb) → BufTy
  | .hbm, ⟨0, _⟩ => ⟨S3072x16384, .fp8e4m3⟩
  | .hbm, ⟨1, _⟩ => ⟨S3072x1, .f32⟩
  | .hbm, ⟨2, _⟩ => ⟨S2048x2304, .i32⟩
  | .hbm, ⟨3, _⟩ => ⟨S128x2304, .fp8e4m3⟩
  | .hbm, ⟨4, _⟩ => ⟨S2304, .f32⟩
  | .hbm, ⟨5, _⟩ => ⟨S3072x64, .f32⟩
  | .hbm, ⟨6, _⟩ => ⟨S3072x64, .f32⟩
  | .hbm, ⟨7, _⟩ => ⟨S1, .f32⟩
  | .hbm, ⟨8, _⟩ => ⟨S1, .f32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S1x2048x2304, .i32⟩
  | .hbm, ⟨14, _⟩ => ⟨S8x1x1, .i32⟩
  | .hbm, ⟨15, _⟩ => ⟨S8x2048x2304, .i32⟩
  | .hbm, ⟨16, _⟩ => ⟨S8x2048x2304, .i32⟩
  | .hbm, ⟨17, _⟩ => ⟨S8x2048x2304, .i32⟩
  | .hbm, ⟨18, _⟩ => ⟨S_, .i32⟩
  | .hbm, ⟨19, _⟩ => ⟨S8x2048x2304, .i32⟩
  | .hbm, ⟨20, _⟩ => ⟨S8x2048x2304, .i32⟩
  | .hbm, ⟨21, _⟩ => ⟨S_, .i32⟩
  | .hbm, ⟨22, _⟩ => ⟨S8x2048x2304, .i32⟩
  | .hbm, ⟨23, _⟩ => ⟨S8x2048x2304, .i1⟩
  | .hbm, ⟨24, _⟩ => ⟨S_, .i32⟩
  | .hbm, ⟨25, _⟩ => ⟨S8x2048x2304, .i32⟩
  | .hbm, ⟨26, _⟩ => ⟨S8x2048x2304, .i32⟩
  | .hbm, ⟨27, _⟩ => ⟨S8x2048x2304, .i32⟩
  | .hbm, ⟨28, _⟩ => ⟨S8x2048x2304, .i8⟩
  | .hbm, ⟨29, _⟩ => ⟨S2048x8x2304, .i8⟩
  | .hbm, ⟨30, _⟩ => ⟨S16384x2304, .i8⟩
  | .hbm, ⟨31, _⟩ => ⟨S128x128x2304, .fp8e4m3⟩
  | .hbm, ⟨32, _⟩ => ⟨S16384x2304, .fp8e4m3⟩
  | .hbm, ⟨33, _⟩ => ⟨S1x2304, .f32⟩
  | .hbm, ⟨34, _⟩ => ⟨S1x1, .f32⟩
  | .hbm, ⟨35, _⟩ => ⟨S1x1, .f32⟩
  | .hbm, ⟨36, _⟩ => ⟨S3072x2048, .bf16⟩
  | .hbm, ⟨37, _⟩ => ⟨S3072x128, .fp8e4m3⟩
  | .hbm, ⟨38, _⟩ => ⟨S3072x128, .fp8e4m3⟩
  | .local _ .vmem, ⟨0, _⟩ => ⟨S3072x16384, .fp8e4m3⟩
  | .local _ .vmem, ⟨1, _⟩ => ⟨S3072x1, .f32⟩
  | .local _ .vmem, ⟨2, _⟩ => ⟨S16384x2304, .i8⟩
  | .local _ .vmem, ⟨3, _⟩ => ⟨S16384x2304, .fp8e4m3⟩
  | .local _ .vmem, ⟨4, _⟩ => ⟨S1x2304, .f32⟩
  | .local _ .vmem, ⟨5, _⟩ => ⟨S3072x64, .f32⟩
  | .local _ .vmem, ⟨6, _⟩ => ⟨S3072x64, .f32⟩
  | .local _ .vmem, ⟨7, _⟩ => ⟨S1x1, .f32⟩
  | .local _ .vmem, ⟨8, _⟩ => ⟨S1x1, .f32⟩
  | .local _ .vmem, ⟨9, _⟩ => ⟨S3072x2048, .bf16⟩
  | .local _ .vmem, ⟨10, _⟩ => ⟨S3072x128, .fp8e4m3⟩
  | .local _ .vmem, ⟨11, _⟩ => ⟨S3072x128, .fp8e4m3⟩
  | _, _ => ⟨S3072x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S3072x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x2304 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3072x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Front.lean ====
abbrev S3072x16384 : Shape := ⟨2, ![3072, 16384]⟩
abbrev S16384 : Shape := ⟨1, ![16384]⟩
abbrev S2048x2304 : Shape := ⟨2, ![2048, 2304]⟩
abbrev S128x2304 : Shape := ⟨2, ![128, 2304]⟩
abbrev S2304 : Shape := ⟨1, ![2304]⟩
abbrev S3072x64 : Shape := ⟨2, ![3072, 64]⟩
abbrev S1 : Shape := ⟨1, ![1]⟩
abbrev S1x16384 : Shape := ⟨2, ![1, 16384]⟩
abbrev S3072x1 : Shape := ⟨2, ![3072, 1]⟩
abbrev S128x16384 : Shape := ⟨2, ![128, 16384]⟩
abbrev S128x1 : Shape := ⟨2, ![128, 1]⟩
abbrev S128 : Shape := ⟨1, ![128]⟩
abbrev S32x4x2304 : Shape := ⟨3, ![32, 4, 2304]⟩
abbrev S1x2304 : Shape := ⟨2, ![1, 2304]⟩
abbrev S1x1 : Shape := ⟨2, ![1, 1]⟩
abbrev S3072x2048 : Shape := ⟨2, ![3072, 2048]⟩
abbrev S3072x128 : Shape := ⟨2, ![3072, 128]⟩
abbrev S512x16384 : Shape := ⟨2, ![512, 16384]⟩
abbrev S512x1 : Shape := ⟨2, ![512, 1]⟩
abbrev S512x64 : Shape := ⟨2, ![512, 64]⟩
abbrev S512x2048 : Shape := ⟨2, ![512, 2048]⟩
abbrev S512x128 : Shape := ⟨2, ![512, 128]⟩
abbrev S512x2304 : Shape := ⟨2, ![512, 2304]⟩
abbrev S512x512 : Shape := ⟨2, ![512, 512]⟩
abbrev S64x2304 : Shape := ⟨2, ![64, 2304]⟩
abbrev S1x4x2304 : Shape := ⟨3, ![1, 4, 2304]⟩
abbrev S4x2304 : Shape := ⟨2, ![4, 2304]⟩
abbrev S64x8x2304 : Shape := ⟨3, ![64, 8, 2304]⟩
abbrev S64x1x2304 : Shape := ⟨3, ![64, 1, 2304]⟩
abbrev S4x128x2304 : Shape := ⟨3, ![4, 128, 2304]⟩
abbrev S4x1x2304 : Shape := ⟨3, ![4, 1, 2304]⟩
abbrev S1x128 : Shape := ⟨2, ![1, 128]⟩

abbrev nBuf : Space → Nat
  | .hbm => 19
  | .vmem => 27
  | .smem => 0
  | _ => 0

abbrev bufTy : (tb : Table) → Fin (tcTables nBuf tb) → BufTy
  | .hbm, ⟨0, _⟩ => ⟨S3072x16384, .bf16⟩
  | .hbm, ⟨1, _⟩ => ⟨S16384, .f32⟩
  | .hbm, ⟨2, _⟩ => ⟨S2048x2304, .i32⟩
  | .hbm, ⟨3, _⟩ => ⟨S128x2304, .fp8e4m3⟩
  | .hbm, ⟨4, _⟩ => ⟨S2304, .f32⟩
  | .hbm, ⟨5, _⟩ => ⟨S3072x64, .f32⟩
  | .hbm, ⟨6, _⟩ => ⟨S3072x64, .f32⟩
  | .hbm, ⟨7, _⟩ => ⟨S1, .f32⟩
  | .hbm, ⟨8, _⟩ => ⟨S1, .f32⟩
  | .hbm, ⟨9, _⟩ => ⟨S1x16384, .f32⟩
  | .hbm, ⟨10, _⟩ => ⟨S3072x16384, .fp8e4m3⟩
  | .hbm, ⟨11, _⟩ => ⟨S3072x1, .f32⟩
  | .hbm, ⟨12, _⟩ => ⟨S32x4x2304, .fp8e4m3⟩
  | .hbm, ⟨13, _⟩ => ⟨S1x2304, .f32⟩
  | .hbm, ⟨14, _⟩ => ⟨S1x1, .f32⟩
  | .hbm, ⟨15, _⟩ => ⟨S1x1, .f32⟩
  | .hbm, ⟨16, _⟩ => ⟨S3072x2048, .bf16⟩
  | .hbm, ⟨17, _⟩ => ⟨S3072x128, .fp8e4m3⟩
  | .hbm, ⟨18, _⟩ => ⟨S3072x128, .fp8e4m3⟩
  | .local _ .vmem, ⟨0, _⟩ => ⟨S128x16384, .bf16⟩
  | .local _ .vmem, ⟨1, _⟩ => ⟨S128x16384, .bf16⟩
  | .local _ .vmem, ⟨2, _⟩ => ⟨S1x16384, .f32⟩
  | .local _ .vmem, ⟨3, _⟩ => ⟨S128x16384, .fp8e4m3⟩
  | .local _ .vmem, ⟨4, _⟩ => ⟨S128x16384, .fp8e4m3⟩
  | .local _ .vmem, ⟨5, _⟩ => ⟨S128x1, .f32⟩
  | .local _ .vmem, ⟨6, _⟩ => ⟨S128x1, .f32⟩
  | .local _ .vmem, ⟨7, _⟩ => ⟨S512x16384, .fp8e4m3⟩
  | .local _ .vmem, ⟨8, _⟩ => ⟨S512x16384, .fp8e4m3⟩
  | .local _ .vmem, ⟨9, _⟩ => ⟨S512x1, .f32⟩
  | .local _ .vmem, ⟨10, _⟩ => ⟨S512x1, .f32⟩
  | .local _ .vmem, ⟨11, _⟩ => ⟨S2048x2304, .i32⟩
  | .local _ .vmem, ⟨12, _⟩ => ⟨S32x4x2304, .fp8e4m3⟩
  | .local _ .vmem, ⟨13, _⟩ => ⟨S1x2304, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S1x1, .f32⟩
  | .local _ .vmem, ⟨19, _⟩ => ⟨S1x1, .f32⟩
  | .local _ .vmem, ⟨20, _⟩ => ⟨S512x2048, .bf16⟩
  | .local _ .vmem, ⟨21, _⟩ => ⟨S512x2048, .bf16⟩
  | .local _ .vmem, ⟨22, _⟩ => ⟨S512x128, .fp8e4m3⟩
  | .local _ .vmem, ⟨23, _⟩ => ⟨S512x128, .fp8e4m3⟩
  | .local _ .vmem, ⟨24, _⟩ => ⟨S512x128, .fp8e4m3⟩
  | .local _ .vmem, ⟨25, _⟩ => ⟨S512x128, .fp8e4m3⟩
  | .local _ .vmem, ⟨26, _⟩ => ⟨S512x2304, .f32⟩
  | _, _ => ⟨S3072x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

@[reducible] def k1_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k1_mult1 (k1_t1 : Fin k1_t1_loop.trips) : BitVec 32 :=
  let c0_i32_129 : BitVec 32 := 0#32
  let c0_i32 : BitVec 32 := 0#32
  let c1_i32 : BitVec 32 := 1#32
  let arg14 : BitVec 32 := Scf.iv c0_i32 c1_i32 k1_t1
  let c1_i32_128 : BitVec 32 := 1#32
  let v261 : BitVec 32 := Scalar.muli arg14 c1_i32_128
  let v262 : BitVec 32 := Scalar.addi c0_i32_129 v261
  let c512_i32 : BitVec 32 := 512#32
  let v263 : BitVec 32 := Scalar.muli v262 c512_i32
  v263
def k1_off1 (k1_t1 : Fin k1_t1_loop.trips) : Fin 2 → Nat :=
  let c0_130 : Index := 0#32
  let c0_i32_129 : BitVec 32 := 0#32
  let c0_i32 : BitVec 32 := 0#32
  let c1_i32 : BitVec 32 := 1#32
  let arg14 : BitVec 32 := Scf.iv c0_i32 c1_i32 k1_t1
  let c1_i32_128 : BitVec 32 := 1#32
  let v261 : BitVec 32 := Scalar.muli arg14 c1_i32_128
  let v262 : BitVec 32 := Scalar.addi c0_i32_129 v261
  let c512_i32 : BitVec 32 := 512#32
  let v263 : BitVec 32 := Scalar.muli v262 c512_i32
  let v264 : BitVec 32 := v263
  let v265 : Index := Scalar.indexCast v264
  ![0, v265.toNat]
def k1_mult2 (k1_t1 : Fin k1_t1_loop.trips) : BitVec 32 :=
  let c0_i32_129 : BitVec 32 := 0#32
  let c0_i32 : BitVec 32 := 0#32
  let c1_i32 : BitVec 32 := 1#32
  let arg14 : BitVec 32 := Scf.iv c0_i32 c1_i32 k1_t1
  let c1_i32_128 : BitVec 32 := 1#32
  let v261 : BitVec 32 := Scalar.muli arg14 c1_i32_128
  let v262 : BitVec 32 := Scalar.addi c0_i32_129 v261
  let c64_i32_131 : BitVec 32 := 64#32
  let v269 : BitVec 32 := Scalar.muli v262 c64_i32_131
  v269
def k1_off2 (k1_t1 : Fin k1_t1_loop.trips) : Fin 2 → Nat :=
  let c0_i32_129 : BitVec 32 := 0#32
  let c0_i32 : BitVec 32 := 0#32
  let c1_i32 : BitVec 32 := 1#32
  let arg14 : BitVec 32 := Scf.iv c0_i32 c1_i32 k1_t1
  let c1_i32_128 : BitVec 32 := 1#32
  let v261 : BitVec 32 := Scalar.muli arg14 c1_i32_128
  let v262 : BitVec 32 := Scalar.addi c0_i32_129 v261
  let c64_i32_131 : BitVec 32 := 64#32
  let v269 : BitVec 32 := Scalar.muli v262 c64_i32_131
  let v270 : BitVec 32 := v269
  let v271 : Index := Scalar.indexCast v270
  let c0_132 : Index := 0#32
  ![v271.toNat, 0]
def k1_off3 (k1_t1 : Fin k1_t1_loop.trips) : Fin 3 → Nat :=
  let c0_i32_129 : BitVec 32 := 0#32
  let c0_i32 : BitVec 32 := 0#32
  let c1_i32 : BitVec 32 := 1#32
  let arg14 : BitVec 32 := Scf.iv c0_i32 c1_i32 k1_t1
  let c1_i32_128 : BitVec 32 := 1#32
  let v261 : BitVec 32 := Scalar.muli arg14 c1_i32_128
  let v262 : BitVec 32 := Scalar.addi c0_i32_129 v261
  let v273 : Index := Scalar.indexCast v262
  let c0_133 : Index := 0#32
  let c0_134 : Index := 0#32
  ![v273.toNat, 0, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x16384 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2304 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x4x2304 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2304 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x128 .fp8e4m3 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x128 .fp8e4m3 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== FrontRefIdeal.lean ====
abbrev S3072x16384 : Shape := ⟨2, ![3072, 16384]⟩
abbrev S16384 : Shape := ⟨1, ![16384]⟩
abbrev S2048x2304 : Shape := ⟨2, ![2048, 2304]⟩
abbrev S128x2304 : Shape := ⟨2, ![128, 2304]⟩
abbrev S2304 : Shape := ⟨1, ![2304]⟩
abbrev S3072x64 : Shape := ⟨2, ![3072, 64]⟩
abbrev S1 : Shape := ⟨1, ![1]⟩
abbrev S_ : Shape := ⟨0, ![]⟩
abbrev S3072 : Shape := ⟨1, ![3072]⟩
abbrev S3072x1 : Shape := ⟨2, ![3072, 1]⟩
abbrev S1x16384 : Shape := ⟨2, ![1, 16384]⟩
abbrev S8 : Shape := ⟨1, ![8]⟩
abbrev S1x2048x2304 : Shape := ⟨3, ![1, 2048, 2304]⟩
abbrev S8x1x1 : Shape := ⟨3, ![8, 1, 1]⟩
abbrev S8x2048x2304 : Shape := ⟨3, ![8, 2048, 2304]⟩
abbrev S2048x8x2304 : Shape := ⟨3, ![2048, 8, 2304]⟩
abbrev S16384x2304 : Shape := ⟨2, ![16384, 2304]⟩
abbrev S128x128x2304 : Shape := ⟨3, ![128, 128, 2304]⟩
abbrev S1x2304 : Shape := ⟨2, ![1, 2304]⟩
abbrev S1x1 : Shape := ⟨2, ![1, 1]⟩
abbrev S3072x2048 : Shape := ⟨2, ![3072, 2048]⟩
abbrev S3072x128 : Shape := ⟨2, ![3072, 128]⟩
abbrev S3072x2304 : Shape := ⟨2, ![3072, 2304]⟩
abbrev S3072x18x128 : Shape := ⟨3, ![3072, 18, 128]⟩
abbrev S3072x16x128 : Shape := ⟨3, ![3072, 16, 128]⟩
abbrev S3072x1x128 : Shape := ⟨3, ![3072, 1, 128]⟩
abbrev S3072x16x64 : Shape := ⟨3, ![3072, 16, 64]⟩
abbrev S3072x1x64 : Shape := ⟨3, ![3072, 1, 64]⟩

abbrev nBuf : Space → Nat
  | .hbm => 83
  | .vmem => 14
  | .smem => 0
  | _ => 0

abbrev bufTy : (tb : Table) → Fin (tcTables nBuf tb) → BufTy
  | .hbm, ⟨0, _⟩ => ⟨S3072x16384, .bf16⟩
  | .hbm, ⟨1, _⟩ => ⟨S16384, .f32⟩
  | .hbm, ⟨2, _⟩ => ⟨S2048x2304, .i32⟩
  | .hbm, ⟨3, _⟩ => ⟨S128x2304, .fp8e4m3⟩
  | .hbm, ⟨4, _⟩ => ⟨S2304, .f32⟩
  | .hbm, ⟨5, _⟩ => ⟨S3072x64, .f32⟩
  | .hbm, ⟨6, _⟩ => ⟨S3072x64, .f32⟩
  | .hbm, ⟨7, _⟩ => ⟨S1, .f32⟩
  | .hbm, ⟨8, _⟩ => ⟨S1, .f32⟩
  | .hbm, ⟨9, _⟩ => ⟨S3072x16384, .f32⟩
  | .hbm, ⟨10, _⟩ => ⟨S3072x16384, .f32⟩
  | .hbm, ⟨11, _⟩ => ⟨S_, .f32⟩
  | .hbm, ⟨12, _⟩ => ⟨S3072, .f32⟩
  | .hbm, ⟨13, _⟩ => ⟨S3072x1, .f32⟩
  | .hbm, ⟨14, _⟩ => ⟨S_, .f32⟩
  | .hbm, ⟨15, _⟩ => ⟨S3072x1, .f32⟩
  | .hbm, ⟨16, _⟩ => ⟨S3072x1, .f32⟩
  | .hbm, ⟨17, _⟩ => ⟨S_, .f32⟩
  | .hbm, ⟨18, _⟩ => ⟨S3072x1, .f32⟩
  | .hbm, ⟨19, _⟩ => ⟨S3072x1, .f32⟩
  | .hbm, ⟨20, _⟩ => ⟨S3072x1, .f32⟩
  | .hbm, ⟨21, _⟩ => ⟨S3072x16384, .f32⟩
  | .hbm, ⟨22, _⟩ => ⟨S3072x16384, .f32⟩
  | .hbm, ⟨23, _⟩ => ⟨S1x16384, .f32⟩
  | .hbm, ⟨24, _⟩ => ⟨S3072x16384, .f32⟩
  | .hbm, ⟨25, _⟩ => ⟨S3072x16384, .f32⟩
  | .hbm, ⟨26, _⟩ => ⟨S3072x16384, .f32⟩
  | .hbm, ⟨27, _⟩ => ⟨S_, .f32⟩
  | .hbm, ⟨28, _⟩ => ⟨S3072, .f32⟩
  | .hbm, ⟨29, _⟩ => ⟨S_, .f32⟩
  | .hbm, ⟨30, _⟩ => ⟨S3072, .f32⟩
  | .hbm, ⟨31, _⟩ => ⟨S3072, .i1⟩
  | .hbm, ⟨32, _⟩ => ⟨S_, .f32⟩
  | .hbm, ⟨33, _⟩ => ⟨S3072, .f32⟩
  | .hbm, ⟨34, _⟩ => ⟨S3072, .f32⟩
  | .hbm, ⟨35, _⟩ => ⟨S_, .f32⟩
  | .hbm, ⟨36, _⟩ => ⟨S_, .f32⟩
  | .hbm, ⟨37, _⟩ => ⟨S3072, .f32⟩
  | .hbm, ⟨38, _⟩ => ⟨S3072, .f32⟩
  | .hbm, ⟨39, _⟩ => ⟨S3072x1, .f32⟩
  | .hbm, ⟨40, _⟩ => ⟨S3072x16384, .f32⟩
  | .hbm, ⟨41, _⟩ => ⟨S3072x16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S3072x16384, .f32⟩
  | .hbm, ⟨46, _⟩ => ⟨S3072x16384, .f32⟩
  | .hbm, ⟨47, _⟩ => ⟨S_, .f32⟩
  | .hbm, ⟨48, _⟩ => ⟨S3072x16384, .f32⟩
  | .hbm, ⟨49, _⟩ => ⟨S3072x16384, .f32⟩
  | .hbm, ⟨50, _⟩ => ⟨S3072x1, .f32⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S1x2048x2304, .i32⟩
  | .hbm, ⟨56, _⟩ => ⟨S8x1x1, .i32⟩
  | .hbm, ⟨57, _⟩ => ⟨S8x2048x2304, .i32⟩
  | .hbm, ⟨58, _⟩ => ⟨S8x2048x2304, .i32⟩
  | .hbm, ⟨59, _⟩ => ⟨S8x2048x2304, .i32⟩
  | .hbm, ⟨60, _⟩ => ⟨S_, .i32⟩
  | .hbm, ⟨61, _⟩ => ⟨S8x2048x2304, .i32⟩
  | .hbm, ⟨62, _⟩ => ⟨S8x2048x2304, .i32⟩
  | .hbm, ⟨63, _⟩ => ⟨S_, .i32⟩
  | .hbm, ⟨64, _⟩ => ⟨S8x2048x2304, .i32⟩
  | .hbm, ⟨65, _⟩ => ⟨S8x2048x2304, .i1⟩
  | .hbm, ⟨66, _⟩ => ⟨S_, .i32⟩
  | .hbm, ⟨67, _⟩ => ⟨S8x2048x2304, .i32⟩
  | .hbm, ⟨68, _⟩ => ⟨S8x2048x2304, .i32⟩
  | .hbm, ⟨69, _⟩ => ⟨S8x2048x2304, .i32⟩
  | .hbm, ⟨70, _⟩ => ⟨S8x2048x2304, .i8⟩
  | .hbm, ⟨71, _⟩ => ⟨S2048x8x2304, .i8⟩
  | .hbm, ⟨72, _⟩ => ⟨S16384x2304, .i8⟩
  | .hbm, ⟨73, _⟩ => ⟨S128x128x2304, .fp8e4m3⟩
  | .hbm, ⟨74, _⟩ => ⟨S16384x2304, .fp8e4m3⟩
  | .hbm, ⟨75, _⟩ => ⟨S1x2304, .f32⟩
  | .hbm, ⟨76, _⟩ => ⟨S1x1, .f32⟩
  | .hbm, ⟨77, _⟩ => ⟨S1x1, .f32⟩
  | .hbm, ⟨78, _⟩ => ⟨S3072x2048, .bf16⟩
  | .hbm, ⟨79, _⟩ => ⟨S3072x16384, .fp8e4m3⟩
  | .hbm, ⟨80, _⟩ => ⟨S3072x1, .f32⟩
  | .hbm, ⟨81, _⟩ => ⟨S3072x128, .fp8e4m3⟩
  | .hbm, ⟨82, _⟩ => ⟨S3072x128, .fp8e4m3⟩
  | .local _ .vmem, ⟨0, _⟩ => ⟨S3072x16384, .f32⟩
  | .local _ .vmem, ⟨1, _⟩ => ⟨S3072x1, .f32⟩
  | .local _ .vmem, ⟨2, _⟩ => ⟨S16384x2304, .i8⟩
  | .local _ .vmem, ⟨3, _⟩ => ⟨S16384x2304, .fp8e4m3⟩
  | .local _ .vmem, ⟨4, _⟩ => ⟨S1x2304, .f32⟩
  | .local _ .vmem, ⟨5, _⟩ => ⟨S3072x64, .f32⟩
  | .local _ .vmem, ⟨6, _⟩ => ⟨S3072x64, .f32⟩
  | .local _ .vmem, ⟨7, _⟩ => ⟨S1x1, .f32⟩
  | .local _ .vmem, ⟨8, _⟩ => ⟨S1x1, .f32⟩
  | .local _ .vmem, ⟨9, _⟩ => ⟨S3072x2048, .bf16⟩
  | .local _ .vmem, ⟨10, _⟩ => ⟨S3072x16384, .fp8e4m3⟩
  | .local _ .vmem, ⟨11, _⟩ => ⟨S3072x1, .f32⟩
  | .local _ .vmem, ⟨12, _⟩ => ⟨S3072x128, .fp8e4m3⟩
  | .local _ .vmem, ⟨13, _⟩ => ⟨S3072x128, .fp8e4m3⟩
  | _, _ => ⟨S3072x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_c_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49_0 : Ref sig .tc := ⟨.hbm, 78, rfl⟩
abbrev main_v49_1 : Ref sig .tc := ⟨.hbm, 79, rfl⟩
abbrev main_v49_2 : Ref sig .tc := ⟨.hbm, 80, rfl⟩
abbrev main_v49_3 : Ref sig .tc := ⟨.hbm, 81, rfl⟩
abbrev main_v49_4 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3072x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x2304 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072x16384 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3072x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3072x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3072x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Back.lean ====
abbrev S3072x2048 : Shape := ⟨2, ![3072, 2048]⟩
abbrev S3072x1 : Shape := ⟨2, ![3072, 1]⟩
abbrev S256x16384 : Shape := ⟨2, ![256, 16384]⟩
abbrev S16x16384 : Shape := ⟨2, ![16, 16384]⟩
abbrev S16384 : Shape := ⟨1, ![16384]⟩
abbrev S3072x16384 : Shape := ⟨2, ![3072, 16384]⟩
abbrev S2048x13312 : Shape := ⟨2, ![2048, 13312]⟩
abbrev S128x13312 : Shape := ⟨2, ![128, 13312]⟩
abbrev S13312 : Shape := ⟨1, ![13312]⟩
abbrev S832x16384 : Shape := ⟨2, ![832, 16384]⟩
abbrev S52x16384 : Shape := ⟨2, ![52, 16384]⟩
abbrev S4x4x16384 : Shape := ⟨3, ![4, 4, 16384]⟩
abbrev S1x16384 : Shape := ⟨2, ![1, 16384]⟩
abbrev S1024x2048 : Shape := ⟨2, ![1024, 2048]⟩
abbrev S1024x1 : Shape := ⟨2, ![1024, 1]⟩
abbrev S256x512 : Shape := ⟨2, ![256, 512]⟩
abbrev S4x4x512 : Shape := ⟨3, ![4, 4, 512]⟩
abbrev S1x512 : Shape := ⟨2, ![1, 512]⟩
abbrev S1024x512 : Shape := ⟨2, ![1024, 512]⟩
abbrev S64x512 : Shape := ⟨2, ![64, 512]⟩
abbrev S1x4x512 : Shape := ⟨3, ![1, 4, 512]⟩
abbrev S4x512 : Shape := ⟨2, ![4, 512]⟩
abbrev S64x8x512 : Shape := ⟨3, ![64, 8, 512]⟩
abbrev S64x1x512 : Shape := ⟨3, ![64, 1, 512]⟩
abbrev S512x512 : Shape := ⟨2, ![512, 512]⟩
abbrev S4x128x512 : Shape := ⟨3, ![4, 128, 512]⟩
abbrev S4x1x512 : Shape := ⟨3, ![4, 1, 512]⟩
abbrev S128x16384 : Shape := ⟨2, ![128, 16384]⟩
abbrev S128x1 : Shape := ⟨2, ![128, 1]⟩
abbrev S128 : Shape := ⟨1, ![128]⟩
abbrev S32x4x13312 : Shape := ⟨3, ![32, 4, 13312]⟩
abbrev S1x13312 : Shape := ⟨2, ![1, 13312]⟩
abbrev S3072x6656 : Shape := ⟨2, ![3072, 6656]⟩
abbrev S1024x16384 : Shape := ⟨2, ![1024, 16384]⟩
abbrev S2048x256 : Shape := ⟨2, ![2048, 256]⟩
abbrev S32x4x256 : Shape := ⟨3, ![32, 4, 256]⟩
abbrev S1x256 : Shape := ⟨2, ![1, 256]⟩
abbrev S1024x256 : Shape := ⟨2, ![1024, 256]⟩
abbrev S64x256 : Shape := ⟨2, ![64, 256]⟩
abbrev S1x4x256 : Shape := ⟨3, ![1, 4, 256]⟩
abbrev S4x256 : Shape := ⟨2, ![4, 256]⟩
abbrev S64x8x256 : Shape := ⟨3, ![64, 8, 256]⟩
abbrev S64x1x256 : Shape := ⟨3, ![64, 1, 256]⟩
abbrev S512x256 : Shape := ⟨2, ![512, 256]⟩
abbrev S4x128x256 : Shape := ⟨3, ![4, 128, 256]⟩
abbrev S4x1x256 : Shape := ⟨3, ![4, 1, 256]⟩
abbrev S256x6656 : Shape := ⟨2, ![256, 6656]⟩
abbrev S256x1 : Shape := ⟨2, ![256, 1]⟩
abbrev S256 : Shape := ⟨1, ![256]⟩
abbrev S13x4x16384 : Shape := ⟨3, ![13, 4, 16384]⟩
abbrev S1024x6656 : Shape := ⟨2, ![1024, 6656]⟩
abbrev S832x512 : Shape := ⟨2, ![832, 512]⟩
abbrev S13x4x512 : Shape := ⟨3, ![13, 4, 512]⟩

abbrev nBuf : Space → Nat
  | .hbm => 27
  | .vmem => 62
  | .smem => 0
  | _ => 0

abbrev bufTy : (tb : Table) → Fin (tcTables nBuf tb) → BufTy
  | .hbm, ⟨0, _⟩ => ⟨S3072x2048, .fp8e4m3⟩
  | .hbm, ⟨1, _⟩ => ⟨S3072x1, .f32⟩
  | .hbm, ⟨2, _⟩ => ⟨S256x16384, .i32⟩
  | .hbm, ⟨3, _⟩ => ⟨S16x16384, .fp8e4m3⟩
  | .hbm, ⟨4, _⟩ => ⟨S16384, .f32⟩
  | .hbm, ⟨5, _⟩ => ⟨S3072x16384, .bf16⟩
  | .hbm, ⟨6, _⟩ => ⟨S16384, .f32⟩
  | .hbm, ⟨7, _⟩ => ⟨S2048x13312, .i32⟩
  | .hbm, ⟨8, _⟩ => ⟨S128x13312, .fp8e4m3⟩
  | .hbm, ⟨9, _⟩ => ⟨S13312, .f32⟩
  | .hbm, ⟨10, _⟩ => ⟨S832x16384, .i32⟩
  | .hbm, ⟨11, _⟩ => ⟨S52x16384, .fp8e4m3⟩
  | .hbm, ⟨12, _⟩ => ⟨S16384, .f32⟩
  | .hbm, ⟨13, _⟩ => ⟨S4x4x16384, .fp8e4m3⟩
  | .hbm, ⟨14, _⟩ => ⟨S1x16384, .f32⟩
  | .hbm, ⟨15, _⟩ => ⟨S3072x16384, .f32⟩
  | .hbm, ⟨16, _⟩ => ⟨S1x16384, .f32⟩
  | .hbm, ⟨17, _⟩ => ⟨S3072x16384, .fp8e4m3⟩
  | .hbm, ⟨18, _⟩ => ⟨S3072x1, .f32⟩
  | .hbm, ⟨19, _⟩ => ⟨S32x4x13312, .fp8e4m3⟩
  | .hbm, ⟨20, _⟩ => ⟨S1x13312, .f32⟩
  | .hbm, ⟨21, _⟩ => ⟨S3072x6656, .f32⟩
  | .hbm, ⟨22, _⟩ => ⟨S3072x6656, .fp8e4m3⟩
  | .hbm, ⟨23, _⟩ => ⟨S3072x1, .f32⟩
  | .hbm, ⟨24, _⟩ => ⟨S13x4x16384, .fp8e4m3⟩
  | .hbm, ⟨25, _⟩ => ⟨S1x16384, .f32⟩
  | .hbm, ⟨26, _⟩ => ⟨S3072x16384, .bf16⟩
  | .local _ .vmem, ⟨0, _⟩ => ⟨S1024x2048, .fp8e4m3⟩
  | .local _ .vmem, ⟨1, _⟩ => ⟨S1024x2048, .fp8e4m3⟩
  | .local _ .vmem, ⟨2, _⟩ => ⟨S1024x1, .f32⟩
  | .local _ .vmem, ⟨3, _⟩ => ⟨S1024x1, .f32⟩
  | .local _ .vmem, ⟨4, _⟩ => ⟨S256x512, .i32⟩
  | .local _ .vmem, ⟨5, _⟩ => ⟨S256x512, .i32⟩
  | .local _ .vmem, ⟨6, _⟩ => ⟨S4x4x512, .fp8e4m3⟩
  | .local _ .vmem, ⟨7, _⟩ => ⟨S4x4x512, .fp8e4m3⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S128x16384, .f32⟩
  | .local _ .vmem, ⟨16, _⟩ => ⟨S128x16384, .f32⟩
  | .local _ .vmem, ⟨17, _⟩ => ⟨S1x16384, .f32⟩
  | .local _ .vmem, ⟨18, _⟩ => ⟨S128x16384, .fp8e4m3⟩
  | .local _ .vmem, ⟨19, _⟩ => ⟨S128x16384, .fp8e4m3⟩
  | .local _ .vmem, ⟨20, _⟩ => ⟨S128x1, .f32⟩
  | .local _ .vmem, ⟨21, _⟩ => ⟨S128x1, .f32⟩
  | .local _ .vmem, ⟨22, _⟩ => ⟨S1024x16384, .fp8e4m3⟩
  | .local _ .vmem, ⟨23, _⟩ => ⟨S1024x16384, .fp8e4m3⟩
  | .local _ .vmem, ⟨24, _⟩ => ⟨S1024x1, .f32⟩
  | .local _ .vmem, ⟨25, _⟩ => ⟨S1024x1, .f32⟩
  | .local _ .vmem, ⟨26, _⟩ => ⟨S2048x256, .i32⟩
  | .local _ .vmem, ⟨27, _⟩ => ⟨S2048x256, .i32⟩
  | .local _ .vmem, ⟨28, _⟩ => ⟨S2048x256, .i32⟩
  | .local _ .vmem, ⟨29, _⟩ => ⟨S2048x256, .i32⟩
  | .local _ .vmem, ⟨30, _⟩ => ⟨S32x4x256, .fp8e4m3⟩
  | .local _ .vmem, ⟨31, _⟩ => ⟨S32x4x256, .fp8e4m3⟩
  | .local _ .vmem, ⟨32, _⟩ => ⟨S32x4x256, .fp8e4m3⟩
  | .local _ .vmem, ⟨33, _⟩ => ⟨S32x4x256, .fp8e4m3⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1024x256, .f32⟩
  | .local _ .vmem, ⟨39, _⟩ => ⟨S1024x256, .f32⟩
  | .local _ .vmem, ⟨40, _⟩ => ⟨S1024x512, .f32⟩
  | .local _ .vmem, ⟨41, _⟩ => ⟨S256x6656, .f32⟩
  | .local _ .vmem, ⟨42, _⟩ => ⟨S256x6656, .f32⟩
  | .local _ .vmem, ⟨43, _⟩ => ⟨S256x6656, .fp8e4m3⟩
  | .local _ .vmem, ⟨44, _⟩ => ⟨S256x6656, .fp8e4m3⟩
  | .local _ .vmem, ⟨45, _⟩ => ⟨S256x1, .f32⟩
  | .local _ .vmem, ⟨46, _⟩ => ⟨S256x1, .f32⟩
  | .local _ .vmem, ⟨47, _⟩ => ⟨S1024x6656, .fp8e4m3⟩
  | .local _ .vmem, ⟨48, _⟩ => ⟨S1024x6656, .fp8e4m3⟩
  | .local _ .vmem, ⟨49, _⟩ => ⟨S1024x1, .f32⟩
  | .local _ .vmem, ⟨50, _⟩ => ⟨S1024x1, .f32⟩
  | .local _ .vmem, ⟨51, _⟩ => ⟨S832x512, .i32⟩
  | .local _ .vmem, ⟨52, _⟩ => ⟨S832x512, .i32⟩
  | .local _ .vmem, ⟨53, _⟩ => ⟨S13x4x512, .fp8e4m3⟩
  | .local _ .vmem, ⟨54, _⟩ => ⟨S13x4x512, .fp8e4m3⟩
  | .local _ .vmem, ⟨55, _⟩ => ⟨S1x512, .f32⟩
  | .local _ .vmem, ⟨56, _⟩ => ⟨S1x512, .f32⟩
  | .local _ .vmem, ⟨57, _⟩ => ⟨S1024x512, .f32⟩
  | .local _ .vmem, ⟨58, _⟩ => ⟨S1024x512, .f32⟩
  | .local _ .vmem, ⟨59, _⟩ => ⟨S1024x512, .bf16⟩
  | .local _ .vmem, ⟨60, _⟩ => ⟨S1024x512, .bf16⟩
  | .local _ .vmem, ⟨61, _⟩ => ⟨S1024x512, .f32⟩
  | _, _ => ⟨S3072x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_scratch0 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc4_stg3_0 : Ref sig .tc := ⟨.vmem, 53, rfl⟩
abbrev cc4_stg3_1 : Ref sig .tc := ⟨.vmem, 54, rfl⟩
abbrev cc4_stg4_0 : Ref sig .tc := ⟨.vmem, 55, rfl⟩
abbrev cc4_stg4_1 : Ref sig .tc := ⟨.vmem, 56, rfl⟩
abbrev cc4_stg5_0 : Ref sig .tc := ⟨.vmem, 57, rfl⟩
abbrev cc4_stg5_1 : Ref sig .tc := ⟨.vmem, 58, rfl⟩
abbrev cc4_stg6_0 : Ref sig .tc := ⟨.vmem, 59, rfl⟩
abbrev cc4_stg6_1 : Ref sig .tc := ⟨.vmem, 60, rfl⟩
abbrev cc4_scratch0 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc2_sem7_0 : DmaSem sig := 35
abbrev cc2_sem7_1 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem3_1 : DmaSem sig := 52
abbrev cc4_sem4_0 : DmaSem sig := 53
abbrev cc4_sem4_1 : DmaSem sig := 54
abbrev cc4_sem5_0 : DmaSem sig := 55
abbrev cc4_sem5_1 : DmaSem sig := 56
abbrev cc4_sem6_0 : DmaSem sig := 57
abbrev cc4_sem6_1 : DmaSem sig := 58

abbrev nD : Nat := 1
abbrev τ : Topo := Topo.v7x

variable {F : FTy → Type} [FloatOps F]

abbrev grid0 : Pipeline.Grid := ⟨2, ![3, 32], ![false, false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c512_i32 : BitVec 32 := 512#32
  let v19 : BitVec 32 := Scalar.muli v18 c512_i32
  v19
def k0_off1 (k0_t1 : Fin k0_t1_loop.trips) : Fin 2 → Nat :=
  let c0_14 : Index := 0#32
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c512_i32 : BitVec 32 := 512#32
  let v19 : BitVec 32 := Scalar.muli v18 c512_i32
  let v20 : BitVec 32 := v19
  let v21 : Index := Scalar.indexCast v20
  ![0, v21.toNat]
def k0_mult2 (k0_t1 : Fin k0_t1_loop.trips) : BitVec 32 :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c64_i32 : BitVec 32 := 64#32
  let v24 : BitVec 32 := Scalar.muli v18 c64_i32
  v24
def k0_off2 (k0_t1 : Fin k0_t1_loop.trips) : Fin 2 → Nat :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let c64_i32 : BitVec 32 := 64#32
  let v24 : BitVec 32 := Scalar.muli v18 c64_i32
  let v25 : BitVec 32 := v24
  let v26 : Index := Scalar.indexCast v25
  let c0_15 : Index := 0#32
  ![v26.toNat, 0]
def k0_off3 (k0_t1 : Fin k0_t1_loop.trips) : Fin 3 → Nat :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v17 : BitVec 32 := Scalar.muli arg10 c1_i32_12
  let v18 : BitVec 32 := Scalar.addi c0_i32_13 v17
  let v28 : Index := Scalar.indexCast v18
  let c0_16 : Index := 0#32
  let c0_17 : Index := 0#32
  ![v28.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x4x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x16384 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![3, 26], ![false, false]⟩

@[reducible] def k2_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k2_mult1 (k2_t1 : Fin k2_t1_loop.trips) : BitVec 32 :=
  let c0_i32_16 : BitVec 32 := 0#32
  let c0_i32 : BitVec 32 := 0#32
  let c1_i32 : BitVec 32 := 1#32
  let arg12 : BitVec 32 := Scf.iv c0_i32 c1_i32 k2_t1
  let c1_i32_15 : BitVec 32 := 1#32
  let v27 : BitVec 32 := Scalar.muli arg12 c1_i32_15
  let v28 : BitVec 32 := Scalar.addi c0_i32_16 v27
  let c512_i32 : BitVec 32 := 512#32
  let v29 : BitVec 32 := Scalar.muli v28 c512_i32
  v29
def k2_off1 (k2_t1 : Fin k2_t1_loop.trips) : Fin 2 → Nat :=
  let c0_17 : Index := 0#32
  let c0_i32_16 : BitVec 32 := 0#32
  let c0_i32 : BitVec 32 := 0#32
  let c1_i32 : BitVec 32 := 1#32
  let arg12 : BitVec 32 := Scf.iv c0_i32 c1_i32 k2_t1
  let c1_i32_15 : BitVec 32 := 1#32
  let v27 : BitVec 32 := Scalar.muli arg12 c1_i32_15
  let v28 : BitVec 32 := Scalar.addi c0_i32_16 v27
  let c512_i32 : BitVec 32 := 512#32
  let v29 : BitVec 32 := Scalar.muli v28 c512_i32
  let v30 : BitVec 32 := v29
  let v31 : Index := Scalar.indexCast v30
  ![0, v31.toNat]
def k2_mult2 (k2_t1 : Fin k2_t1_loop.trips) : BitVec 32 :=
  let c0_i32_16 : BitVec 32 := 0#32
  let c0_i32 : BitVec 32 := 0#32
  let c1_i32 : BitVec 32 := 1#32
  let arg12 : BitVec 32 := Scf.iv c0_i32 c1_i32 k2_t1
  let c1_i32_15 : BitVec 32 := 1#32
  let v27 : BitVec 32 := Scalar.muli arg12 c1_i32_15
  let v28 : BitVec 32 := Scalar.addi c0_i32_16 v27
  let c64_i32 : BitVec 32 := 64#32
  let v35 : BitVec 32 := Scalar.muli v28 c64_i32
  v35
def k2_off2 (k2_t1 : Fin k2_t1_loop.trips) : Fin 2 → Nat :=
  let c0_i32_16 : BitVec 32 := 0#32
  let c0_i32 : BitVec 32 := 0#32
  let c1_i32 : BitVec 32 := 1#32
  let arg12 : BitVec 32 := Scf.iv c0_i32 c1_i32 k2_t1
  let c1_i32_15 : BitVec 32 := 1#32
  let v27 : BitVec 32 := Scalar.muli arg12 c1_i32_15
  let v28 : BitVec 32 := Scalar.addi c0_i32_16 v27
  let c64_i32 : BitVec 32 := 64#32
  let v35 : BitVec 32 := Scalar.muli v28 c64_i32
  let v36 : BitVec 32 := v35
  let v37 : Index := Scalar.indexCast v36
  let c0_18 : Index := 0#32
  ![v37.toNat, 0]
def k2_off3 (k2_t1 : Fin k2_t1_loop.trips) : Fin 3 → Nat :=
  let c0_i32_16 : BitVec 32 := 0#32
  let c0_i32 : BitVec 32 := 0#32
  let c1_i32 : BitVec 32 := 1#32
  let arg12 : BitVec 32 := Scf.iv c0_i32 c1_i32 k2_t1
  let c1_i32_15 : BitVec 32 := 1#32
  let v27 : BitVec 32 := Scalar.muli arg12 c1_i32_15
  let v28 : BitVec 32 := Scalar.addi c0_i32_16 v27
  let v39 : Index := Scalar.indexCast v28
  let c0_19 : Index := 0#32
  let c0_20 : Index := 0#32
  ![v39.toNat, 0, 0]
def k2_mult3 (k2_t1 : Fin k2_t1_loop.trips) : BitVec 32 :=
  let c0_i32_16 : BitVec 32 := 0#32
  let c0_i32 : BitVec 32 := 0#32
  let c1_i32 : BitVec 32 := 1#32
  let arg12 : BitVec 32 := Scf.iv c0_i32 c1_i32 k2_t1
  let c1_i32_15 : BitVec 32 := 1#32
  let v27 : BitVec 32 := Scalar.muli arg12 c1_i32_15
  let v28 : BitVec 32 := Scalar.addi c0_i32_16 v27
  let c64_i32_26 : BitVec 32 := 64#32
  let v64 : BitVec 32 := Scalar.muli v28 c64_i32_26
  v64
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc2_transform_3 (i : grid2.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  let c0_i32_0 : BitVec 32 := 0#32
  ![c0_i32.toNat, v0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc2_transform_5 (i : grid2.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  let c0_i32_0 : BitVec 32 := 0#32
  let c0_i32_1 : BitVec 32 := 0#32
  ![c0_i32.toNat, c0_i32_0.toNat, v0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc2_transform_7 (i : grid2.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  let c0_i32_0 : BitVec 32 := 0#32
  ![c0_i32.toNat, v0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x16384 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x256 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x256 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S32x4x256 .fp8e4m3 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S32x4x256 .fp8e4m3 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S1024x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨1, ![12], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x6656 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x6656 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![3, 32], ![false, false]⟩

@[reducible] def k4_t1_loop : Scf.Loop 32 :=
  let c0_i32 : BitVec 32 := 0#32
  let c13_i32 : BitVec 32 := 13#32
  let v4 : BitVec 32 := Scalar.addi c0_i32 c13_i32
  let c1_i32 : BitVec 32 := 1#32
  ⟨c0_i32, v4, c1_i32⟩
def k4_mult1 (k4_t1 : Fin k4_t1_loop.trips) : BitVec 32 :=
  let c0_i32_13 : BitVec 32 := 0#32
  let c0_i32 : BitVec 32 := 0#32
  let c1_i32 : BitVec 32 := 1#32
  let arg10 : BitVec 32 := Scf.iv c0_i32 c1_i32 k4_t1
  let c1_i32_12 : BitVec 32 := 1#32
  let v19 : BitVec 32 := Scalar.muli arg10 c1_i32_12
  let v20 : BitVec 32 := Scalar.addi c0_i32_13 v19
  let c512_i32 : BitVec 32 := 512#32
  let v21 : BitVec 32 := Scalar.muli v20 c512_i32
  v21
def k4_off1 (k4_t1 : Fin k4_t1_loop.trips) : Fin 2 → Nat :=
  let c0_14 : Index := 0#32
  let c0_i32_13 : BitVec 32 := 0#32
  let c0_i32 : BitVec 32 := 0#32
  let c1_i32 : BitVec 32 := 1#32
  let arg10 : BitVec 32 := Scf.iv c0_i32 c1_i32 k4_t1
  let c1_i32_12 : BitVec 32 := 1#32
  let v19 : BitVec 32 := Scalar.muli arg10 c1_i32_12
  let v20 : BitVec 32 := Scalar.addi c0_i32_13 v19
  let c512_i32 : BitVec 32 := 512#32
  let v21 : BitVec 32 := Scalar.muli v20 c512_i32
  let v22 : BitVec 32 := v21
  let v23 : Index := Scalar.indexCast v22
  ![0, v23.toNat]
def k4_mult2 (k4_t1 : Fin k4_t1_loop.trips) : BitVec 32 :=
  let c0_i32_13 : BitVec 32 := 0#32
  let c0_i32 : BitVec 32 := 0#32
  let c1_i32 : BitVec 32 := 1#32
  let arg10 : BitVec 32 := Scf.iv c0_i32 c1_i32 k4_t1
  let c1_i32_12 : BitVec 32 := 1#32
  let v19 : BitVec 32 := Scalar.muli arg10 c1_i32_12
  let v20 : BitVec 32 := Scalar.addi c0_i32_13 v19
  let c64_i32 : BitVec 32 := 64#32
  let v27 : BitVec 32 := Scalar.muli v20 c64_i32
  v27
def k4_off2 (k4_t1 : Fin k4_t1_loop.trips) : Fin 2 → Nat :=
  let c0_i32_13 : BitVec 32 := 0#32
  let c0_i32 : BitVec 32 := 0#32
  let c1_i32 : BitVec 32 := 1#32
  let arg10 : BitVec 32 := Scf.iv c0_i32 c1_i32 k4_t1
  let c1_i32_12 : BitVec 32 := 1#32
  let v19 : BitVec 32 := Scalar.muli arg10 c1_i32_12
  let v20 : BitVec 32 := Scalar.addi c0_i32_13 v19
  let c64_i32 : BitVec 32 := 64#32
  let v27 : BitVec 32 := Scalar.muli v20 c64_i32
  let v28 : BitVec 32 := v27
  let v29 : Index := Scalar.indexCast v28
  let c0_15 : Index := 0#32
  ![v29.toNat, 0]
def k4_off3 (k4_t1 : Fin k4_t1_loop.trips) : Fin 3 → Nat :=
  let c0_i32_13 : BitVec 32 := 0#32
  let c0_i32 : BitVec 32 := 0#32
  let c1_i32 : BitVec 32 := 1#32
  let arg10 : BitVec 32 := Scf.iv c0_i32 c1_i32 k4_t1
  let c1_i32_12 : BitVec 32 := 1#32
  let v19 : BitVec 32 := Scalar.muli arg10 c1_i32_12
  let v20 : BitVec 32 := Scalar.addi c0_i32_13 v19
  let v31 : Index := Scalar.indexCast v20
  let c0_16 : Index := 0#32
  let c0_17 : Index := 0#32
  ![v31.toNat, 0, 0]
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x6656 .fp8e4m3 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S832x512 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S13x4x512 .fp8e4m3 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S1024x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1024x512 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]
-- ==== BackRefIdeal.lean ====
abbrev S3072x2048 : Shape := ⟨2, ![3072, 2048]⟩
abbrev S3072x1 : Shape := ⟨2, ![3072, 1]⟩
abbrev S256x16384 : Shape := ⟨2, ![256, 16384]⟩
abbrev S16x16384 : Shape := ⟨2, ![16, 16384]⟩
abbrev S16384 : Shape := ⟨1, ![16384]⟩
abbrev S3072x16384 : Shape := ⟨2, ![3072, 16384]⟩
abbrev S2048x13312 : Shape := ⟨2, ![2048, 13312]⟩
abbrev S128x13312 : Shape := ⟨2, ![128, 13312]⟩
abbrev S13312 : Shape := ⟨1, ![13312]⟩
abbrev S832x16384 : Shape := ⟨2, ![832, 16384]⟩
abbrev S52x16384 : Shape := ⟨2, ![52, 16384]⟩
abbrev S8 : Shape := ⟨1, ![8]⟩
abbrev S_ : Shape := ⟨0, ![]⟩
abbrev S1x256x16384 : Shape := ⟨3, ![1, 256, 16384]⟩
abbrev S8x1x1 : Shape := ⟨3, ![8, 1, 1]⟩
abbrev S8x256x16384 : Shape := ⟨3, ![8, 256, 16384]⟩
abbrev S256x8x16384 : Shape := ⟨3, ![256, 8, 16384]⟩
abbrev S2048x16384 : Shape := ⟨2, ![2048, 16384]⟩
abbrev S16x128x16384 : Shape := ⟨3, ![16, 128, 16384]⟩
abbrev S1x16384 : Shape := ⟨2, ![1, 16384]⟩
abbrev S1x2048x13312 : Shape := ⟨3, ![1, 2048, 13312]⟩
abbrev S8x2048x13312 : Shape := ⟨3, ![8, 2048, 13312]⟩
abbrev S2048x8x13312 : Shape := ⟨3, ![2048, 8, 13312]⟩
abbrev S16384x13312 : Shape := ⟨2, ![16384, 13312]⟩
abbrev S128x128x13312 : Shape := ⟨3, ![128, 128, 13312]⟩
abbrev S1x13312 : Shape := ⟨2, ![1, 13312]⟩
abbrev S1x832x16384 : Shape := ⟨3, ![1, 832, 16384]⟩
abbrev S8x832x16384 : Shape := ⟨3, ![8, 832, 16384]⟩
abbrev S832x8x16384 : Shape := ⟨3, ![832, 8, 16384]⟩
abbrev S6656x16384 : Shape := ⟨2, ![6656, 16384]⟩
abbrev S52x128x16384 : Shape := ⟨3, ![52, 128, 16384]⟩
abbrev S3072x6656 : Shape := ⟨2, ![3072, 6656]⟩
abbrev S3072 : Shape := ⟨1, ![3072]⟩
abbrev S3072x13312 : Shape := ⟨2, ![3072, 13312]⟩

abbrev nBuf : Space → Nat
  | .hbm => 94
  | .vmem => 18
  | .smem => 0
  | _ => 0

abbrev bufTy : (tb : Table) → Fin (tcTables nBuf tb) → BufTy
  | .hbm, ⟨0, _⟩ => ⟨S3072x2048, .fp8e4m3⟩
  | .hbm, ⟨1, _⟩ => ⟨S3072x1, .f32⟩
  | .hbm, ⟨2, _⟩ => ⟨S256x16384, .i32⟩
  | .hbm, ⟨3, _⟩ => ⟨S16x16384, .fp8e4m3⟩
  | .hbm, ⟨4, _⟩ => ⟨S16384, .f32⟩
  | .hbm, ⟨5, _⟩ => ⟨S3072x16384, .bf16⟩
  | .hbm, ⟨6, _⟩ => ⟨S16384, .f32⟩
  | .hbm, ⟨7, _⟩ => ⟨S2048x13312, .i32⟩
  | .hbm, ⟨8, _⟩ => ⟨S128x13312, .fp8e4m3⟩
  | .hbm, ⟨9, _⟩ => ⟨S13312, .f32⟩
  | .hbm, ⟨10, _⟩ => ⟨S832x16384, .i32⟩
  | .hbm, ⟨11, _⟩ => ⟨S52x16384, .fp8e4m3⟩
  | .hbm, ⟨12, _⟩ => ⟨S16384, .f32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S1x256x16384, .i32⟩
  | .hbm, ⟨18, _⟩ => ⟨S8x1x1, .i32⟩
  | .hbm, ⟨19, _⟩ => ⟨S8x256x16384, .i32⟩
  | .hbm, ⟨20, _⟩ => ⟨S8x256x16384, .i32⟩
  | .hbm, ⟨21, _⟩ => ⟨S8x256x16384, .i32⟩
  | .hbm, ⟨22, _⟩ => ⟨S_, .i32⟩
  | .hbm, ⟨23, _⟩ => ⟨S8x256x16384, .i32⟩
  | .hbm, ⟨24, _⟩ => ⟨S8x256x16384, .i32⟩
  | .hbm, ⟨25, _⟩ => ⟨S_, .i32⟩
  | .hbm, ⟨26, _⟩ => ⟨S8x256x16384, .i32⟩
  | .hbm, ⟨27, _⟩ => ⟨S8x256x16384, .i1⟩
  | .hbm, ⟨28, _⟩ => ⟨S_, .i32⟩
  | .hbm, ⟨29, _⟩ => ⟨S8x256x16384, .i32⟩
  | .hbm, ⟨30, _⟩ => ⟨S8x256x16384, .i32⟩
  | .hbm, ⟨31, _⟩ => ⟨S8x256x16384, .i32⟩
  | .hbm, ⟨32, _⟩ => ⟨S8x256x16384, .i8⟩
  | .hbm, ⟨33, _⟩ => ⟨S256x8x16384, .i8⟩
  | .hbm, ⟨34, _⟩ => ⟨S2048x16384, .i8⟩
  | .hbm, ⟨35, _⟩ => ⟨S16x128x16384, .fp8e4m3⟩
  | .hbm, ⟨36, _⟩ => ⟨S2048x16384, .fp8e4m3⟩
  | .hbm, ⟨37, _⟩ => ⟨S1x16384, .f32⟩
  | .hbm, ⟨38, _⟩ => ⟨S1x16384, .f32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S1x2048x13312, .i32⟩
  | .hbm, ⟨44, _⟩ => ⟨S8x1x1, .i32⟩
  | .hbm, ⟨45, _⟩ => ⟨S8x2048x13312, .i32⟩
  | .hbm, ⟨46, _⟩ => ⟨S8x2048x13312, .i32⟩
  | .hbm, ⟨47, _⟩ => ⟨S8x2048x13312, .i32⟩
  | .hbm, ⟨48, _⟩ => ⟨S_, .i32⟩
  | .hbm, ⟨49, _⟩ => ⟨S8x2048x13312, .i32⟩
  | .hbm, ⟨50, _⟩ => ⟨S8x2048x13312, .i32⟩
  | .hbm, ⟨51, _⟩ => ⟨S_, .i32⟩
  | .hbm, ⟨52, _⟩ => ⟨S8x2048x13312, .i32⟩
  | .hbm, ⟨53, _⟩ => ⟨S8x2048x13312, .i1⟩
  | .hbm, ⟨54, _⟩ => ⟨S_, .i32⟩
  | .hbm, ⟨55, _⟩ => ⟨S8x2048x13312, .i32⟩
  | .hbm, ⟨56, _⟩ => ⟨S8x2048x13312, .i32⟩
  | .hbm, ⟨57, _⟩ => ⟨S8x2048x13312, .i32⟩
  | .hbm, ⟨58, _⟩ => ⟨S8x2048x13312, .i8⟩
  | .hbm, ⟨59, _⟩ => ⟨S2048x8x13312, .i8⟩
  | .hbm, ⟨60, _⟩ => ⟨S16384x13312, .i8⟩
  | .hbm, ⟨61, _⟩ => ⟨S128x128x13312, .fp8e4m3⟩
  | .hbm, ⟨62, _⟩ => ⟨S16384x13312, .fp8e4m3⟩
  | .hbm, ⟨63, _⟩ => ⟨S1x13312, .f32⟩
  | .hbm, ⟨64, _⟩ => ⟨S8, .i32⟩
  | .hbm, ⟨65, _⟩ => ⟨S_, .i32⟩
  | .hbm, ⟨66, _⟩ => ⟨S8, .i32⟩
  | .hbm, ⟨67, _⟩ => ⟨S8, .i32⟩
  | .hbm, ⟨68, _⟩ => ⟨S1x832x16384, .i32⟩
  | .hbm, ⟨69, _⟩ => ⟨S8x1x1, .i32⟩
  | .hbm, ⟨70, _⟩ => ⟨S8x832x16384, .i32⟩
  | .hbm, ⟨71, _⟩ => ⟨S8x832x16384, .i32⟩
  | .hbm, ⟨72, _⟩ => ⟨S8x832x16384, .i32⟩
  | .hbm, ⟨73, _⟩ => ⟨S_, .i32⟩
  | .hbm, ⟨74, _⟩ => ⟨S8x832x16384, .i32⟩
  | .hbm, ⟨75, _⟩ => ⟨S8x832x16384, .i32⟩
  | .hbm, ⟨76, _⟩ => ⟨S_, .i32⟩
  | .hbm, ⟨77, _⟩ => ⟨S8x832x16384, .i32⟩
  | .hbm, ⟨78, _⟩ => ⟨S8x832x16384, .i1⟩
  | .hbm, ⟨79, _⟩ => ⟨S_, .i32⟩
  | .hbm, ⟨80, _⟩ => ⟨S8x832x16384, .i32⟩
  | .hbm, ⟨81, _⟩ => ⟨S8x832x16384, .i32⟩
  | .hbm, ⟨82, _⟩ => ⟨S8x832x16384, .i32⟩
  | .hbm, ⟨83, _⟩ => ⟨S8x832x16384, .i8⟩
  | .hbm, ⟨84, _⟩ => ⟨S832x8x16384, .i8⟩
  | .hbm, ⟨85, _⟩ => ⟨S6656x16384, .i8⟩
  | .hbm, ⟨86, _⟩ => ⟨S52x128x16384, .fp8e4m3⟩
  | .hbm, ⟨87, _⟩ => ⟨S6656x16384, .fp8e4m3⟩
  | .hbm, ⟨88, _⟩ => ⟨S1x16384, .f32⟩
  | .hbm, ⟨89, _⟩ => ⟨S3072x16384, .bf16⟩
  | .hbm, ⟨90, _⟩ => ⟨S3072x16384, .fp8e4m3⟩
  | .hbm, ⟨91, _⟩ => ⟨S3072x1, .f32⟩
  | .hbm, ⟨92, _⟩ => ⟨S3072x6656, .fp8e4m3⟩
  | .hbm, ⟨93, _⟩ => ⟨S3072x1, .f32⟩
  | .local _ .vmem, ⟨0, _⟩ => ⟨S3072x2048, .fp8e4m3⟩
  | .local _ .vmem, ⟨1, _⟩ => ⟨S3072x1, .f32⟩
  | .local _ .vmem, ⟨2, _⟩ => ⟨S2048x16384, .i8⟩
  | .local _ .vmem, ⟨3, _⟩ => ⟨S2048x16384, .fp8e4m3⟩
  | .local _ .vmem, ⟨4, _⟩ => ⟨S1x16384, .f32⟩
  | .local _ .vmem, ⟨5, _⟩ => ⟨S3072x16384, .bf16⟩
  | .local _ .vmem, ⟨6, _⟩ => ⟨S1x16384, .f32⟩
  | .local _ .vmem, ⟨7, _⟩ => ⟨S16384x13312, .i8⟩
  | .local _ .vmem, ⟨8, _⟩ => ⟨S16384x13312, .fp8e4m3⟩
  | .local _ .vmem, ⟨9, _⟩ => ⟨S1x13312, .f32⟩
  | .local _ .vmem, ⟨10, _⟩ => ⟨S6656x16384, .i8⟩
  | .local _ .vmem, ⟨11, _⟩ => ⟨S6656x16384, .fp8e4m3⟩
  | .local _ .vmem, ⟨12, _⟩ => ⟨S1x16384, .f32⟩
  | .local _ .vmem, ⟨13, _⟩ => ⟨S3072x16384, .bf16⟩
  | .local _ .vmem, ⟨14, _⟩ => ⟨S3072x16384, .fp8e4m3⟩
  | .local _ .vmem, ⟨15, _⟩ => ⟨S3072x1, .f32⟩
  | .local _ .vmem, ⟨16, _⟩ => ⟨S3072x6656, .fp8e4m3⟩
  | .local _ .vmem, ⟨17, _⟩ => ⟨S3072x1, .f32⟩
  | _, _ => ⟨S3072x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64_0 : Ref sig .tc := ⟨.hbm, 89, rfl⟩
abbrev main_v64_1 : Ref sig .tc := ⟨.hbm, 90, rfl⟩
abbrev main_v64_2 : Ref sig .tc := ⟨.hbm, 91, rfl⟩
abbrev main_v64_3 : Ref sig .tc := ⟨.hbm, 92, rfl⟩
abbrev main_v64_4 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S3072x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x16384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x13312 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x13312 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x13312 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6656x16384 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6656x16384 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x16384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3072x16384 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3072x16384 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3072x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3072x6656 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3072x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.LinMath.lean ====
/- The sums behind a product with packed int4 weights: one contraction over all rows of the weight, read once by loop
   trips of 512 rows and once by words of eight 4-bit fields. Nothing here is about a particular program. -/
module

public import Idealize.ShloMosaic.Lib.Pointwise

@[expose] public section

noncomputable section

open Idealize.ShloMosaic

namespace Lin

/-- A sum over `a * b` positions is the sum over `a` blocks of `b` positions. -/
theorem sum_split {M : Type*} [AddCommMonoid M] (a b K : ℕ) (h : K = a * b) (F : Fin K → M) :
    ∑ q, F q = ∑ i : Fin a, ∑ j : Fin b, F ⟨b * i.val + j.val, by
      subst h
      have h1 := i.isLt
      have h2 := j.isLt
      calc b * i.val + j.val < b * i.val + b := by omega
        _ = b * (i.val + 1) := by ring
        _ ≤ b * a := Nat.mul_le_mul_left b h1
        _ = a * b := Nat.mul_comm b a⟩ := by
  subst h
  rw [← finProdFinEquiv.sum_comp, Fintype.sum_prod_type]
  refine Finset.sum_congr rfl fun i _ => Finset.sum_congr rfl fun j _ => ?_
  congr 1
  apply Fin.ext
  simp [finProdFinEquiv, Nat.add_comm]

/-- The value of 4-bit field `j` of a word: the field, sign extended, as a real number. -/
def nib (w : BitVec 32) (j : ℕ) : EReal :=
  FloatOps.sitofp (F := Ideal) .bf16 (BitVec.setWidth 4 (IntOp.shrui .vector w (IntOp.muli 4#32 (BitVec.ofNat 32 j))))

/-- One element of a quantised product: row `x` of the left operand against one column of the packed weight, whose
    word `i` holds rows `8 i … 8 i + 7` and whose group `i` of 128 rows has the scale `g i`. -/
def dot (K W G : ℕ) (hW : K = 8 * W) (hG : K = 128 * G) (x : Fin K → EReal) (w : Fin W → BitVec 32) (g : Fin G → EReal) : EReal :=
  ∑ q : Fin K, x q * (nib (w ⟨q.val / 8, by omega⟩) (q.val % 8) * g ⟨q.val / 128, by omega⟩)

/-- The product by trips of 512 rows. -/
theorem dot_trips (T K W G : ℕ) (hT : K = 512 * T) (hW : K = 8 * W) (hG : K = 128 * G) (x : Fin K → EReal) (w : Fin W → BitVec 32)
    (g : Fin G → EReal) :
    dot K W G hW hG x w g = ∑ k : Fin T, ∑ r : Fin 512, x ⟨512 * k.val + r.val, by omega⟩
      * (nib (w ⟨64 * k.val + r.val / 8, by omega⟩) (r.val % 8) * g ⟨4 * k.val + r.val / 128, by omega⟩) := by
  unfold dot
  rw [sum_split T 512 K (by omega)]
  refine Finset.sum_congr rfl fun k _ => Finset.sum_congr rfl fun r _ => ?_
  have h1 : ∀ h h', (⟨(512 * k.val + r.val) / 8, h⟩ : Fin W) = ⟨64 * k.val + r.val / 8, h'⟩ := fun _ _ => Fin.ext (by dsimp only; omega)
  have h2 : (512 * k.val + r.val) % 8 = r.val % 8 := by omega
  have h3 : ∀ h h', (⟨(512 * k.val + r.val) / 128, h⟩ : Fin G) = ⟨4 * k.val + r.val / 128, h'⟩ := fun _ _ => Fin.ext (by dsimp only; omega)
  rw [h1, h2, h3]

/-- The product by words of eight fields. -/
theorem dot_words (K W G : ℕ) (hW : K = 8 * W) (hG : K = 128 * G) (x : Fin K → EReal) (w : Fin W → BitVec 32) (g : Fin G → EReal) :
    dot K W G hW hG x w g = ∑ i : Fin W, ∑ j : Fin 8, x ⟨8 * i.val + j.val, by omega⟩
      * (nib (w i) j.val * g ⟨i.val / 16, by omega⟩) := by
  unfold dot
  rw [sum_split W 8 K (by omega)]
  refine Finset.sum_congr rfl fun k _ => Finset.sum_congr rfl fun r _ => ?_
  have h1 : ∀ h h', (⟨(8 * k.val + r.val) / 8, h⟩ : Fin W) = ⟨k.val, h'⟩ := fun _ _ => Fin.ext (by dsimp only; omega)
  have h2 : (8 * k.val + r.val) % 8 = r.val := by omega
  have h3 : ∀ h h', (⟨(8 * k.val + r.val) / 128, h⟩ : Fin G) = ⟨k.val / 16, h'⟩ := fun _ _ => Fin.ext (by dsimp only; omega)
  rw [h1, h2, h3]

/-- One element of a quantised product, scaled by its row's and its column's scale. -/
def elem (T K W G N : ℕ) (hW : K = 8 * W) (hG : K = 128 * G) (A : FVec Ideal ⟨2, ![T, K]⟩ .fp8e4m3) (s : FVec Ideal ⟨2, ![T, 1]⟩ .f32)
    (w : IVec ⟨2, ![W, N]⟩ 32) (g : FVec Ideal ⟨2, ![G, N]⟩ .fp8e4m3) (cs : FVec Ideal ⟨1, ![N]⟩ .f32) (t : Fin T) (n : Fin N) : EReal :=
  dot K W G hW hG (fun q => A (ix2 t q)) (fun i => w (ix2 i n)) (fun i => g (ix2 i n)) * s (ix2 t 0) * cs (ix1 n)

end Lin
-- ==== Proof.GateUpLoop.lean ====
/- The loop over the contracted axis in the gate and up projections: after each trip the accumulator's left half holds the
   gate's partial product and its right half the up projection's. -/
module

public import proofs.«01_k».proof.Proof.Gen.GateUpIdeal.Loops
public import proofs.«01_k».proof.Proof.LinMath
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem

namespace Cert.GateUpIdeal.Loop

open Cert.GateUpIdeal Cert.GateUpIdeal.Gen

/-- One trip's share of one element: 512 rows of the weight. -/
def trip (x : FVec Ideal S1024x16384 .fp8e4m3) (w : IVec S2048x256 32) (g : FVec Ideal S32x4x256 .fp8e4m3) (t : Fin 1024) (n : Fin 256)
    (k : Fin 32) : EReal :=
  ∑ r : Fin 512, x (ix2 t ⟨512 * k.val + r.val, by omega⟩)
    * (Lin.nib (w (ix2 ⟨64 * k.val + r.val / 8, by omega⟩ n)) (r.val % 8) * g (ix3 k ⟨r.val / 128, by omega⟩ n))

theorem trips_eq : k0_t1_loop.trips = 32 := by decide

/-- What a trip stores in the left half. -/
theorem gate_apply (x : FVec Ideal S1024x16384 .fp8e4m3) (w : IVec S2048x256 32) (g : FVec Ideal S32x4x256 .fp8e4m3)
    (a : FVec Ideal S1024x512 .f32) (k : Fin k0_t1_loop.trips) (t : Fin 1024) (n : Fin 256) :
    k0_pay5 (View.ld x (Rect.unit (s := S1024x16384) (k0_off1 k) S1024x512.size (k0_off1_inb k))) (View.ld w (Rect.unit (s := S2048x256) (k0_off2 k) S64x256.size (k0_off2_inb k)))
          (View.ld g (Rect.unit (s := S32x4x256) (k0_off3 k) S1x4x256.size (k0_off3_inb k)))
          (View.ld a (Rect.unit (s := S1024x512) ![0, 0] S1024x256.size inb_S1024x512_S1024x256_0_0)) (ix2 t n)
      = a (ix2 t ⟨n.val, by omega⟩) + trip x w g t n ⟨k.val, k.isLt.trans_eq trips_eq⟩ := by
  pointwise [k0_pay5, k0_pay4]
  unfold trip
  congr 1
  refine Finset.sum_congr rfl fun r _ => ?_
  simp only [k0_off1_eq, k0_off2_eq, k0_off3_eq]
  simp [Lin.nib]

/-- What a trip stores in the right half. -/
theorem up_apply (x : FVec Ideal S1024x16384 .fp8e4m3) (w : IVec S2048x256 32) (g : FVec Ideal S32x4x256 .fp8e4m3)
    (a : FVec Ideal S1024x512 .f32) (k : Fin k0_t1_loop.trips) (t : Fin 1024) (n : Fin 256) :
    k0_pay2 (k0_pay4 (View.ld x (Rect.unit (s := S1024x16384) (k0_off1 k) S1024x512.size (k0_off1_inb k)))) (View.ld w (Rect.unit (s := S2048x256) (k0_off2 k) S64x256.size (k0_off2_inb k)))
          (View.ld g (Rect.unit (s := S32x4x256) (k0_off3 k) S1x4x256.size (k0_off3_inb k)))
          (View.ld a (Rect.unit (s := S1024x512) ![0, 256] S1024x256.size inb_S1024x512_S1024x256_0_256)) (ix2 t n)
      = a (ix2 t ⟨256 + n.val, by omega⟩) + trip x w g t n ⟨k.val, k.isLt.trans_eq trips_eq⟩ := by
  pointwise [k0_pay2, k0_pay4]
  unfold trip
  congr 1
  refine Finset.sum_congr rfl fun r _ => ?_
  simp only [k0_off1_eq, k0_off2_eq, k0_off3_eq]
  simp [Lin.nib]

section
variable (𝒱 : Variants) (c : Dev nD) (bd : Option 𝒱.V) (i : grid0.Coords)
  (arg2 : Memref sig .tc .vmem S1024x16384 .fp8e4m3) (harg2 : arg2.IsWhole)
  (arg3 : Memref sig .tc .vmem S1024x1 .f32) (harg3 : arg3.IsWhole)
  (arg4 : Memref sig .tc .vmem S2048x256 .i32) (harg4 : arg4.IsWhole)
  (arg5 : Memref sig .tc .vmem S2048x256 .i32) (harg5 : arg5.IsWhole)
  (arg6 : Memref sig .tc .vmem S32x4x256 .fp8e4m3) (harg6 : arg6.IsWhole)
  (arg7 : Memref sig .tc .vmem S32x4x256 .fp8e4m3) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S1024x256 .f32) (harg10 : arg10.IsWhole)
  (arg11 : Memref sig .tc .vmem S1024x512 .f32) (harg11 : arg11.IsWhole)
  (x2 : FVec Ideal S1024x16384 .fp8e4m3) (x4 x5 : IVec S2048x256 32) (x6 x7 : FVec Ideal S32x4x256 .fp8e4m3)
  (G : BufTy.Contents (Elt Ideal) arg11.view.ty)

/-- The two stores of a trip. -/
theorem pieces (k : Fin k0_t1_loop.trips) (f : BufTy.Contents (Elt Ideal) arg11.view.ty) :
    tripL_k0_t1 (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7) k f
      = [⟨Rect.unit (s := S1024x512) ![0, 256] S1024x256.size inb_S1024x512_S1024x256_0_256,
          k0_pay2 (k0_pay4 (View.ld x2 (Rect.unit (s := S1024x16384) (k0_off1 k) S1024x512.size (k0_off1_inb k)))) (View.ld x5 (Rect.unit (s := S2048x256) (k0_off2 k) S64x256.size (k0_off2_inb k)))
            (View.ld x7 (Rect.unit (s := S32x4x256) (k0_off3 k) S1x4x256.size (k0_off3_inb k)))
            (View.ld (View.read (Elt Ideal) arg11.view f) (Rect.unit (s := S1024x512) ![0, 256] S1024x256.size inb_S1024x512_S1024x256_0_256))⟩,
         ⟨Rect.unit (s := S1024x512) ![0, 0] S1024x256.size inb_S1024x512_S1024x256_0_0,
          k0_pay5 (View.ld x2 (Rect.unit (s := S1024x16384) (k0_off1 k) S1024x512.size (k0_off1_inb k))) (View.ld x4 (Rect.unit (s := S2048x256) (k0_off2 k) S64x256.size (k0_off2_inb k)))
            (View.ld x6 (Rect.unit (s := S32x4x256) (k0_off3 k) S1x4x256.size (k0_off3_inb k)))
            (View.ld (View.read (Elt Ideal) arg11.view f) (Rect.unit (s := S1024x512) ![0, 0] S1024x256.size inb_S1024x512_S1024x256_0_0))⟩] := by
  unfold tripL_k0_t1 trip_k0_t1
  frame_out

/-- The accumulator after the first `k` trips, left half. -/
theorem gate_acc (t : Fin 1024) (n : Fin 256) : ∀ (k : ℕ) (hk : k ≤ 32),
    View.read (Elt Ideal) arg11.view (arg11.view.writes (Elt Ideal) G (pb_k0_t1 (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7) G k)) (ix2 t ⟨n.val, by omega⟩)
      = View.read (Elt Ideal) arg11.view G (ix2 t ⟨n.val, by omega⟩) + ∑ q : Fin k, trip x2 x4 x6 t n ⟨q.val, by omega⟩ := by
  intro k
  induction k with
  | zero => intro _; rw [pb_k0_t1.eq_1]; simp [View.writes]
  | succ k ih =>
    intro hk
    have h := pb_k0_t1_succ (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7) G ⟨k, by rw [trips_eq]; omega⟩
    dsimp only at h
    rw [h, pieces, List.cons_append, List.cons_append, List.nil_append]
    refine (View.read_writes_cons_unit_of_not_mem arg11.view G _ _ _ (ix2 t ⟨n.val, by omega⟩) (off' := ![0, 256]) rfl (1 : Fin 2) (Or.inl (by show n.val < 256; omega))).trans ?_
    refine (View.read_writes_cons_unit_of_mem arg11.view G _ _ _ (ix2 t ⟨n.val, by omega⟩) (ix2 t n) (off' := ![0, 0]) rfl
      (fun a => by fin_cases a <;> simp [ix2])).trans ?_
    rw [gate_apply, ih (by omega), Fin.sum_univ_castSucc, ← add_assoc]
    rfl

/-- The accumulator after the first `k` trips, right half. -/
theorem up_acc (t : Fin 1024) (n : Fin 256) : ∀ (k : ℕ) (hk : k ≤ 32),
    View.read (Elt Ideal) arg11.view (arg11.view.writes (Elt Ideal) G (pb_k0_t1 (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7) G k)) (ix2 t ⟨256 + n.val, by omega⟩)
      = View.read (Elt Ideal) arg11.view G (ix2 t ⟨256 + n.val, by omega⟩) + ∑ q : Fin k, trip x2 x5 x7 t n ⟨q.val, by omega⟩ := by
  intro k
  induction k with
  | zero => intro _; rw [pb_k0_t1.eq_1]; simp [View.writes]
  | succ k ih =>
    intro hk
    have h := pb_k0_t1_succ (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7) G ⟨k, by rw [trips_eq]; omega⟩
    dsimp only at h
    rw [h, pieces, List.cons_append, List.cons_append, List.nil_append]
    refine (View.read_writes_cons_unit_of_mem arg11.view G _ _ _ (ix2 t ⟨256 + n.val, by omega⟩) (ix2 t n) (off' := ![0, 256]) rfl
      (fun a => by fin_cases a <;> simp [ix2])).trans ?_
    rw [up_apply, ih (by omega), Fin.sum_univ_castSucc, ← add_assoc]
    rfl
/-- The left half of the accumulator as the loop leaves it, started from zeros. -/
theorem gate_read (t : Fin 1024) (n : Fin 256) :
    arg11.view.readCov (Val := Elt Ideal) (pb_k0_t1 (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7)
        (arg11.view.writes (Elt Ideal) arg11.view.junk [⟨Rect.unit (s := S1024x512) ![0, 0] S1024x512.size inb_S1024x512_S1024x512_0_0, k0_pay1 (F := Ideal)⟩])
        k0_t1_loop.trips ++ [⟨Rect.unit (s := S1024x512) ![0, 0] S1024x512.size inb_S1024x512_S1024x512_0_0, k0_pay1 (F := Ideal)⟩])
      (Rect.unit (s := S1024x512) ![0, 0] S1024x256.size inb_S1024x512_S1024x256_0_0).toLoadRect (ix2 t n)
      = ∑ q : Fin 32, trip x2 x4 x6 t n q := by
  have h := gate_acc 𝒱 c bd i arg2 harg2 arg3 harg3 arg4 harg4 arg5 harg5 arg6 harg6 arg7 harg7 arg8 harg8 arg9 harg9 arg10 harg10 arg11 harg11 x2 x4 x5 x6 x7
    (arg11.view.writes (Elt Ideal) arg11.view.junk [⟨Rect.unit (s := S1024x512) ![0, 0] S1024x512.size inb_S1024x512_S1024x512_0_0, k0_pay1 (F := Ideal)⟩])
    t n 32 le_rfl
  have e : (Rect.unit (s := S1024x512) ![0, 0] S1024x256.size inb_S1024x512_S1024x256_0_0).toLoadRect.idx (ix2 t n) = ix2 t ⟨n.val, by omega⟩ := by
    funext a; fin_cases a <;> apply Fin.ext <;> simp [Rect.unit, LoadRect.idx, Rect.toLoadRect, ix2]
  have z : View.read (Elt Ideal) arg11.view (arg11.view.writes (Elt Ideal) arg11.view.junk [⟨Rect.unit (s := S1024x512) ![0, 0] S1024x512.size inb_S1024x512_S1024x512_0_0, k0_pay1 (F := Ideal)⟩])
      (ix2 t ⟨n.val, by omega⟩) = 0 := by
    refine (View.read_writes_cons_unit_of_mem arg11.view arg11.view.junk _ _ _ (ix2 t ⟨n.val, by omega⟩) (ix2 t ⟨n.val, by omega⟩) (off' := ![0, 0]) rfl
      (fun a => by fin_cases a <;> simp [ix2])).trans ?_
    pointwise [k0_pay1]
  show View.read (Elt Ideal) arg11.view _ _ = _
  rw [View.writes_append, e]
  refine h.trans ?_
  rw [z, zero_add]

/-- The right half of the accumulator as the loop leaves it, started from zeros. -/
theorem up_read (t : Fin 1024) (n : Fin 256) :
    arg11.view.readCov (Val := Elt Ideal) (pb_k0_t1 (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7)
        (arg11.view.writes (Elt Ideal) arg11.view.junk [⟨Rect.unit (s := S1024x512) ![0, 0] S1024x512.size inb_S1024x512_S1024x512_0_0, k0_pay1 (F := Ideal)⟩])
        k0_t1_loop.trips ++ [⟨Rect.unit (s := S1024x512) ![0, 0] S1024x512.size inb_S1024x512_S1024x512_0_0, k0_pay1 (F := Ideal)⟩])
      (Rect.unit (s := S1024x512) ![0, 256] S1024x256.size inb_S1024x512_S1024x256_0_256).toLoadRect (ix2 t n)
      = ∑ q : Fin 32, trip x2 x5 x7 t n q := by
  have h := up_acc 𝒱 c bd i arg2 harg2 arg3 harg3 arg4 harg4 arg5 harg5 arg6 harg6 arg7 harg7 arg8 harg8 arg9 harg9 arg10 harg10 arg11 harg11 x2 x4 x5 x6 x7
    (arg11.view.writes (Elt Ideal) arg11.view.junk [⟨Rect.unit (s := S1024x512) ![0, 0] S1024x512.size inb_S1024x512_S1024x512_0_0, k0_pay1 (F := Ideal)⟩])
    t n 32 le_rfl
  have e : (Rect.unit (s := S1024x512) ![0, 256] S1024x256.size inb_S1024x512_S1024x256_0_256).toLoadRect.idx (ix2 t n) = ix2 t ⟨256 + n.val, by omega⟩ := by
    funext a; fin_cases a <;> apply Fin.ext <;> simp [Rect.unit, LoadRect.idx, Rect.toLoadRect, ix2]
  have z : View.read (Elt Ideal) arg11.view (arg11.view.writes (Elt Ideal) arg11.view.junk [⟨Rect.unit (s := S1024x512) ![0, 0] S1024x512.size inb_S1024x512_S1024x512_0_0, k0_pay1 (F := Ideal)⟩])
      (ix2 t ⟨256 + n.val, by omega⟩) = 0 := by
    refine (View.read_writes_cons_unit_of_mem arg11.view arg11.view.junk _ _ _ (ix2 t ⟨256 + n.val, by omega⟩) (ix2 t ⟨256 + n.val, by omega⟩) (off' := ![0, 0]) rfl
      (fun a => by fin_cases a <;> simp [ix2])).trans ?_
    pointwise [k0_pay1]
  show View.read (Elt Ideal) arg11.view _ _ = _
  rw [View.writes_append, e]
  refine h.trans ?_
  rw [z, zero_add]

end

end Cert.GateUpIdeal.Loop
-- ==== Proof.GateUpBlock.lean ====
/- What one grid point of the gate and up projections stores, from the blocks it reads. -/
module

public import proofs.«01_k».proof.Proof.Gen.GateUpIdeal.Frame
public import proofs.«01_k».proof.Proof.GateUpLoop

@[expose] public section

set_option maxRecDepth 16384

noncomputable section

open Idealize.ShloMosaic Idealize.ShloMosaic.TcCoe Idealize.SL.Sem

namespace Cert.GateUpIdeal.Block

open Cert.GateUpIdeal Cert.GateUpIdeal.Gen

/-- One projection's value at one element of the block. -/
def val (x : FVec Ideal S1024x16384 .fp8e4m3) (s : FVec Ideal S1024x1 .f32) (w : IVec S2048x256 32) (g : FVec Ideal S32x4x256 .fp8e4m3)
    (cs : FVec Ideal S1x256 .f32) (a : Fin 1024) (b : Fin 256) : EReal :=
  (∑ q : Fin 32, Loop.trip x w g a b q) * s (ix2 a 0) * cs (ix2 0 b)

/-- One element of the block a grid point stores, from the two halves of the accumulator. -/
theorem pay_apply (v5 : FVec Ideal S1024x256 .f32) (v6 : FVec Ideal S1024x1 .f32) (v9 : FVec Ideal S1x256 .f32)
    (v13 : FVec Ideal S1024x256 .f32) (v14 : FVec Ideal S1024x1 .f32) (v17 : FVec Ideal S1x256 .f32) (a : Fin 1024) (b : Fin 256) :
    k0_pay3 (F := Ideal) v5 v6 v9 v13 v14 v17 (ix2 a b)
      = v5 (ix2 a b) * v6 (ix2 a 0) * v9 (ix2 0 b) * Ideal.logistic (v5 (ix2 a b) * v6 (ix2 a 0) * v9 (ix2 0 b))
        * (v13 (ix2 a b) * v14 (ix2 a 0) * v17 (ix2 0 b)) := by
  pointwise [k0_pay3]

/-- One element of the block a grid point stores. -/
theorem out_apply (c : Dev nD) (i : grid0.Coords) (arg2 : Memref sig .tc .vmem S1024x16384 .fp8e4m3) (harg2 : arg2.IsWhole) (arg3 : Memref sig .tc .vmem S1024x1 .f32) (harg3 : arg3.IsWhole) (arg4 : Memref sig .tc .vmem S2048x256 .i32) (harg4 : arg4.IsWhole) (arg5 : Memref sig .tc .vmem S2048x256 .i32) (harg5 : arg5.IsWhole) (arg6 : Memref sig .tc .vmem S32x4x256 .fp8e4m3) (harg6 : arg6.IsWhole) (arg7 : Memref sig .tc .vmem S32x4x256 .fp8e4m3) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x512 .f32) (harg11 : arg11.IsWhole)
    (x0 : Vec Ideal S1024x16384 .fp8e4m3) (x1 : Vec Ideal S1024x1 .f32) (x2 : Vec Ideal S2048x256 .i32) (x3 : Vec Ideal S2048x256 .i32) (x4 : Vec Ideal S32x4x256 .fp8e4m3) (x5 : Vec Ideal S32x4x256 .fp8e4m3) (x6 : Vec Ideal S1x256 .f32) (x7 : Vec Ideal S1x256 .f32) (a : Fin 1024) (b : Fin 256) :
    out0_A_8 (F := Ideal) c i arg2 harg2 arg3 harg3 arg4 harg4 arg5 harg5 arg6 harg6 arg7 harg7 arg8 harg8 arg9 harg9 arg10 harg10 arg11 harg11 x0 x1 x2 x3 x4 x5 x6 x7 (ix2 a b)
      = val x0 x1 x2 x4 x6 a b * Ideal.logistic (val x0 x1 x2 x4 x6 a b) * val x0 x1 x3 x5 x7 a b := by
  unfold out0_A_8
  frame_out
  rw [pay_apply]
  have hg := Loop.gate_read Variants.none c none i arg2 harg2 arg3 harg3 arg4 harg4 arg5 harg5 arg6 harg6 arg7 harg7 arg8 harg8 arg9 harg9 arg10 harg10 arg11 harg11 x0 x2 x3 x4 x5 a b
  have hu := Loop.up_read Variants.none c none i arg2 harg2 arg3 harg3 arg4 harg4 arg5 harg5 arg6 harg6 arg7 harg7 arg8 harg8 arg9 harg9 arg10 harg10 arg11 harg11 x0 x2 x3 x4 x5 a b
  unfold val
  rw [← hg, ← hu]

end Cert.GateUpIdeal.Block
-- ==== Proof.GateUpSpec.lean ====
/- The value both programs of the gate and up projections compute, element by element. -/
module

public import proofs.«01_k».proof.Proof.LinMath

@[expose] public section

noncomputable section

open Idealize.ShloMosaic

namespace GateUp

/-- Row `t`, column `n` of the two projections side by side. -/
abbrev lin (A : FVec Ideal ⟨2, ![3072, 16384]⟩ .fp8e4m3) (s : FVec Ideal ⟨2, ![3072, 1]⟩ .f32) (w : IVec ⟨2, ![2048, 13312]⟩ 32)
    (g : FVec Ideal ⟨2, ![128, 13312]⟩ .fp8e4m3) (cs : FVec Ideal ⟨1, ![13312]⟩ .f32) (t : Fin 3072) (n : Fin 13312) : EReal :=
  Lin.elem 3072 16384 2048 128 13312 rfl rfl A s w g cs t n

/-- One element of the result: the gate's value times its sigmoid, times the up projection's value. -/
def out (A : FVec Ideal ⟨2, ![3072, 16384]⟩ .fp8e4m3) (s : FVec Ideal ⟨2, ![3072, 1]⟩ .f32) (w : IVec ⟨2, ![2048, 13312]⟩ 32)
    (g : FVec Ideal ⟨2, ![128, 13312]⟩ .fp8e4m3) (cs : FVec Ideal ⟨1, ![13312]⟩ .f32) (t : Fin 3072) (n : Fin 6656) : EReal :=
  lin A s w g cs t ⟨n.val, by omega⟩ * Ideal.logistic (lin A s w g cs t ⟨n.val, by omega⟩) * lin A s w g cs t ⟨6656 + n.val, by omega⟩

/-- The whole result. -/
def arr (A : FVec Ideal ⟨2, ![3072, 16384]⟩ .fp8e4m3) (s : FVec Ideal ⟨2, ![3072, 1]⟩ .f32) (w : IVec ⟨2, ![2048, 13312]⟩ 32)
    (g : FVec Ideal ⟨2, ![128, 13312]⟩ .fp8e4m3) (cs : FVec Ideal ⟨1, ![13312]⟩ .f32) : FVec Ideal ⟨2, ![3072, 6656]⟩ .f32 :=
  fun i => out A s w g cs (i 0) (i 1)

end GateUp
-- ==== Proof.GateUpArray.lean ====
/- The array the kernel's gate and up call leaves, element by element: every grid point's block is a block of it. -/
module

public import proofs.«01_k».proof.Proof.Gen.GateUpIdeal.Value
public import proofs.«01_k».proof.Proof.GateUpBlock
public import proofs.«01_k».proof.Proof.GateUpSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.GateUpIdeal.Arr

open Cert.GateUpIdeal Cert.GateUpIdeal.Gen

variable (m : (ℓ : Loc nD τ sig) → Buf (Elt Ideal) ℓ)

/-- Where each window's block lies at a grid point. -/
theorem idx : ∀ t : Fin cfg0.N,
    win0_0.index t = ![(grid0.coords t 0).val, 0] ∧ win0_1.index t = ![(grid0.coords t 0).val, 0]
    ∧ win0_2.index t = ![0, (grid0.coords t 1).val] ∧ win0_3.index t = ![0, (grid0.coords t 1).val + 26]
    ∧ win0_4.index t = ![0, 0, (grid0.coords t 1).val] ∧ win0_5.index t = ![0, 0, (grid0.coords t 1).val + 26]
    ∧ win0_6.index t = ![0, (grid0.coords t 1).val] ∧ win0_7.index t = ![0, (grid0.coords t 1).val + 26]
    ∧ win0_8.index t = ![(grid0.coords t 0).val, (grid0.coords t 1).val] :=
  (by decide +kernel : ∀ t : Fin grid0.N,
    win0_0.index t = ![(grid0.coords t 0).val, 0] ∧ win0_1.index t = ![(grid0.coords t 0).val, 0]
    ∧ win0_2.index t = ![0, (grid0.coords t 1).val] ∧ win0_3.index t = ![0, (grid0.coords t 1).val + 26]
    ∧ win0_4.index t = ![0, 0, (grid0.coords t 1).val] ∧ win0_5.index t = ![0, 0, (grid0.coords t 1).val + 26]
    ∧ win0_6.index t = ![0, (grid0.coords t 1).val] ∧ win0_7.index t = ![0, (grid0.coords t 1).val + 26]
    ∧ win0_8.index t = ![(grid0.coords t 0).val, (grid0.coords t 1).val])

/-- The trips' sum over one block is a whole row times a whole column. -/
theorem sum_gate (c : Dev nD) (t : Fin cfg0.N) (a : Fin 1024) (b : Fin 256) (h0 h1) :
    (∑ q : Fin 32, Loop.trip (iblk m c 0 t) (iblk m c 2 t) (iblk m c 4 t) a b q) * iblk m c 1 t (ix2 a 0) * iblk m c 6 t (ix2 0 b)
      = GateUp.lin (m (c.tc.loc main_arg0)) (m (c.tc.loc main_arg1)) (m (c.tc.loc main_arg2)) (m (c.tc.loc main_arg3)) (m (c.tc.loc main_arg4))
          ⟨(grid0.coords t 0).val * 1024 + a.val, h0⟩ ⟨(grid0.coords t 1).val * 256 + b.val, h1⟩ := by
  unfold GateUp.lin Lin.elem
  rw [Lin.dot_trips 32 16384 2048 128 rfl rfl rfl]
  unfold Loop.trip
  blk_point [iblk, V, idx t]

/-- The same for the up projection: the trips' sum over one block is a whole row times a whole column. -/
theorem sum_up (c : Dev nD) (t : Fin cfg0.N) (a : Fin 1024) (b : Fin 256) (h0 h1) :
    (∑ q : Fin 32, Loop.trip (iblk m c 0 t) (iblk m c 3 t) (iblk m c 5 t) a b q) * iblk m c 1 t (ix2 a 0) * iblk m c 7 t (ix2 0 b)
      = GateUp.lin (m (c.tc.loc main_arg0)) (m (c.tc.loc main_arg1)) (m (c.tc.loc main_arg2)) (m (c.tc.loc main_arg3)) (m (c.tc.loc main_arg4))
          ⟨(grid0.coords t 0).val * 1024 + a.val, h0⟩ ⟨((grid0.coords t 1).val + 26) * 256 + b.val, h1⟩ := by
  unfold GateUp.lin Lin.elem
  rw [Lin.dot_trips 32 16384 2048 128 rfl rfl rfl]
  unfold Loop.trip
  blk_point [iblk, V, idx t]

/-- The result array as a whole. -/
theorem final (c : Dev nD) : (dats m 0 c).arrAt 8 (cfgs 0).N
    = GateUp.arr (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t _ y => ?_
  idx_vars y
  blk_simp
  unfold GateUp.arr
  rw [after0_8]
  unfold outsAt0
  have hi : (grid0.coords t 0).val < 3 := (grid0.coords t 0).isLt
  have hj : (grid0.coords t 1).val < 26 := (grid0.coords t 1).isLt
  have e0 : ((View.whole main_v2).slice (win0_8.rect t)).emb (ix2 y0 y1) 0 = (⟨(grid0.coords t 0).val * 1024 + y0.val, by omega⟩ : Fin 3072) := by
    refine Fin.ext ?_
    blk_simp [idx t]
  have e1 : ((View.whole main_v2).slice (win0_8.rect t)).emb (ix2 y0 y1) 1 = (⟨(grid0.coords t 1).val * 256 + y1.val, by omega⟩ : Fin 6656) := by
    refine Fin.ext ?_
    blk_simp [idx t]
  rw [e0, e1]
  refine (Block.out_apply _ _ _ _ _ _ _ _ _ _ _ _ _ _ _ _ _ _ _ _ _ _ _ _ _ _ _ _ _ _ y0 y1).trans ?_
  unfold Block.val
  rw [sum_gate m c t y0 y1 (by omega) (by omega), sum_up m c t y0 y1 (by omega) (by omega)]
  unfold GateUp.out
  refine congrArg _ (congrArg _ (Fin.ext ?_))
  show ((grid0.coords t 1).val + 26) * 256 + y1.val = 6656 + ((grid0.coords t 1).val * 256 + y1.val)
  omega

end Cert.GateUpIdeal.Arr
-- ==== Proof.Nibble.lean ====
/- One 4-bit field of a packed word, read in two ways: shifted down and cut to four bits, and shifted down arithmetically,
   masked and wrapped to signed by a comparison. -/
module

public import proofs.«01_k».proof.Proof.LinMath

@[expose] public section

noncomputable section

open Idealize.ShloMosaic

namespace Lin

/-- The field as an 8-bit integer: arithmetic shift, mask, and 16 taken off the codes from 8 up. -/
def field (w : BitVec 32) (j : ℕ) : BitVec 8 :=
  BitVec.setWidth 8 (Scalar.select (IntOp.cmpi .sge (IntOp.andi (IntOp.shrsi .host w (IntOp.muli 4#32 (BitVec.ofNat 32 j))) 15#32) 8#32)
    (IntOp.subi (IntOp.andi (IntOp.shrsi .host w (IntOp.muli 4#32 (BitVec.ofNat 32 j))) 15#32) 16#32)
    (IntOp.andi (IntOp.shrsi .host w (IntOp.muli 4#32 (BitVec.ofNat 32 j))) 15#32))

/-- Masking the arithmetic shift leaves the four bits that cutting the logical shift leaves. -/
theorem mask_eq (w : BitVec 32) (j : Fin 8) :
    IntOp.andi (IntOp.shrsi .host w (IntOp.muli 4#32 (BitVec.ofNat 32 j.val))) 15#32
      = BitVec.setWidth 32 (BitVec.setWidth 4 (IntOp.shrui .vector w (IntOp.muli 4#32 (BitVec.ofNat 32 j.val)))) := by
  have hs : (IntOp.muli 4#32 (BitVec.ofNat 32 j.val)).toNat = 4 * j.val := by
    revert j; decide
  have hj := j.isLt
  unfold IntOp.shrsi IntOp.shrui IntOp.andi
  rw [if_pos (by omega), if_pos (by omega)]
  apply BitVec.eq_of_getLsbD_eq
  intro i hi
  rw [BitVec.getLsbD_and, BitVec.sshiftRight', BitVec.ushiftRight_eq', hs, BitVec.getLsbD_sshiftRight]
  simp only [BitVec.getLsbD_setWidth, BitVec.getLsbD_ushiftRight, hi, decide_true, Bool.true_and]
  by_cases h4 : i < 4
  · have h15 : (15#32).getLsbD i = true := by
      interval_cases i <;> decide
    rw [h15, Bool.and_true, if_pos (by omega)]
    have : ¬ 32 ≤ i := by omega
    simp [h4, this]
  · have h15 : (15#32).getLsbD i = false := by
      interval_cases i <;> first | decide | omega
    rw [h15, Bool.and_false]
    simp [h4]

/-- The two readings of a field have one value. -/
theorem field_toInt (w : BitVec 32) (j : Fin 8) :
    (field w j.val).toInt = (BitVec.setWidth 4 (IntOp.shrui .vector w (IntOp.muli 4#32 (BitVec.ofNat 32 j.val)))).toInt := by
  unfold field
  rw [mask_eq]
  generalize BitVec.setWidth 4 (IntOp.shrui .vector w (IntOp.muli 4#32 (BitVec.ofNat 32 j.val))) = b
  revert b
  decide

/-- The field as a real number is `nib`. -/
theorem sitofp_field (w : BitVec 32) (j : Fin 8) :
    FloatOps.sitofp (F := Ideal) .bf16 (field w j.val) = nib w j.val := by
  show (((field w j.val).toInt : ℝ) : EReal) = _
  rw [field_toInt]
  rfl

end Lin
-- ==== Proof.GateUpRef.lean ====
/- What the reference of the gate and up projections computes, element by element. -/
module

public import proofs.«01_k».proof.Proof.Gen.GateUpRefIdeal.Read
public import proofs.«01_k».proof.Proof.Nibble
public import proofs.«01_k».proof.Proof.GateUpSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.GateUpRefIdeal.Elem

open Cert.GateUpRefIdeal Cert.GateUpRefIdeal.Gen Cert.GateUpRefIdeal.Value

variable (m : (ℓ : Loc nD τ sig) → Buf (Elt Ideal) ℓ)

/-- The reference's one launch takes every array whole. -/
theorem idx : win0_0.index t0_0 = ![0, 0] ∧ win0_1.index t0_0 = ![0, 0] ∧ win0_2.index t0_0 = ![0, 0, 0] := by decide +kernel

theorem blk0 (c : Dev nD) : iblk m c 0 t0_0 = V m c main_arg0 := by
  funext j
  blk_ext [iblk, idx]
theorem blk1 (c : Dev nD) : iblk m c 1 t0_0 = V m c main_arg3 := by
  funext j
  blk_ext [iblk, idx]
theorem blk2 (c : Dev nD) : iblk m c 2 t0_0 = V m c main_v15 := by
  funext j
  blk_ext [iblk, idx]

/-- The launch's first result: the activations' codes, cast. -/
theorem reg0 (c : Dev nD) : reg_main_v16_0 m c = k0_pay1 (m ((c : Thread nD τ).loc main_arg0)) := by
  unfold reg_main_v16_0
  refine (dats m 0 c).arrAt_eq_of_after_last 3 t0_0 (by decide +kernel) _ fun j => ?_
  blk_simp; rw [after0_3]; frame_out; rw [blk0, V_main_arg0]
/-- The launch's second result: the group scales, cast. -/
theorem reg1 (c : Dev nD) : reg_main_v16_1 m c = k0_pay2 (m ((c : Thread nD τ).loc main_arg3)) := by
  unfold reg_main_v16_1
  refine (dats m 0 c).arrAt_eq_of_after_last 4 t0_0 (by decide +kernel) _ fun j => ?_
  blk_simp; rw [after0_4]; frame_out; rw [blk1, V_main_arg3]
/-- The launch's third result: the fields of the packed weight, cast. -/
theorem reg2 (c : Dev nD) : reg_main_v16_2 m c = k0_pay3 (V m c main_v15) := by
  unfold reg_main_v16_2
  refine (dats m 0 c).arrAt_eq_of_after_last 5 t0_0 (by decide +kernel) _ fun j => ?_
  blk_simp; rw [after0_5]; frame_out
  rw [blk2]

/-- Field `a` of word `b` of column `d` of the packed weight. -/
theorem fields (c : Dev nD) (a : Fin 8) (b : Fin 2048) (d : Fin 13312) :
    reg_main_v16_2 m c (ix3 a b d) = Lin.nib (m ((c : Thread nD τ).loc main_arg2) (ix2 b d)) a.val := by
  rw [reg2]
  entry_read
  simp only [Gen.hostOps0, Gen.hostOps0_1, Gen.hostOps0_2, TRef.binary, TRef.nullary, TRef.unary, TRef.ternary, TRef.toBuf,
    TRef.ofBuf, cast_eq, List.flatten_cons, List.flatten_nil, List.append_nil, List.cons_append, List.nil_append]
  after_results
  pointwise [k0_pay3]
  exact Lin.sitofp_field _ a

/-- The activations' codes, element by element. -/
theorem act (c : Dev nD) (t : Fin 3072) (q : Fin 16384) :
    reg_main_v16_0 m c (ix2 t q) = m ((c : Thread nD τ).loc main_arg0) (ix2 t q) := by
  rw [reg0]; rfl
/-- The group scales, element by element. -/
theorem gscale (c : Dev nD) (t : Fin 128) (q : Fin 13312) :
    reg_main_v16_1 m c (ix2 t q) = m ((c : Thread nD τ).loc main_arg3) (ix2 t q) := by
  rw [reg1]; rfl

/-- One element of the reference's result. -/
theorem val (c : Dev nD) (t : Fin 3072) (n : Fin 6656) :
    Read.val_main_v34 (F := Ideal) (m ((c : Thread nD τ).loc main_arg1)) (m ((c : Thread nD τ).loc main_arg4)) (reg_main_v16_0 m c)
        (reg_main_v16_1 m c) (reg_main_v16_2 m c) (ix2 t n)
      = GateUp.out (m ((c : Thread nD τ).loc main_arg0)) (m ((c : Thread nD τ).loc main_arg1)) (m ((c : Thread nD τ).loc main_arg2))
          (m ((c : Thread nD τ).loc main_arg3)) (m ((c : Thread nD τ).loc main_arg4)) t n := by
  have h0 := act m c t
  have h1 := gscale m c
  have h2 := fields m c
  revert h0 h1 h2
  generalize reg_main_v16_0 m c = r0
  generalize reg_main_v16_1 m c = r1
  generalize reg_main_v16_2 m c = r2
  intro h0 h1 h2
  unfold Read.val_main_v34 Read.val_main_v33 Read.val_main_v32 Read.val_main_v31 Read.val_main_v30 Read.val_main_v29 Read.val_main_v28
    Read.val_main_v27 Read.val_main_v26 Read.val_main_v25 Read.val_main_v24 Read.val_main_call1_v5 Read.val_main_call1_v4
    Read.val_main_call1_v3 Read.val_main_call1_v2 Read.val_main_call1_v1 Read.val_main_call1_v0 Read.val_main_call1_cst
    Read.val_main_call1_cst_0 Read.val_main_v31 Read.val_main_v30 Read.val_main_v29 Read.val_main_v28 Read.val_main_v27
    Read.val_main_v26 Read.val_main_v25 Read.val_main_v24 Read.val_main_v23 Read.val_main_v22 Read.val_main_v21 Read.val_main_v20
    Read.val_main_v19 Read.val_main_v18 Read.val_main_v17
  pointwise
  simp only [h0, h1, h2, GateUp.out, GateUp.lin, Lin.elem, Lin.dot_words, Ideal.logistic, Nat.mul_comm 8]

end Cert.GateUpRefIdeal.Elem
-- ==== Proof.GateUpClaim.lean ====
/- The gate and up call and its reference leave the same array. -/
module

public import proofs.«01_k».proof.Defs
public import proofs.«01_k».proof.Proof.GateUpArray
public import proofs.«01_k».proof.Proof.GateUpRef

@[expose] public section

set_option maxRecDepth 16384

noncomputable section

open Idealize.ShloMosaic Idealize.ShloMosaic.TcCoe Idealize.SL.Sem Idealize.ShloMosaic.StableHlo

namespace Cert.GateUpRefIdeal.Elem

open Cert.GateUpRefIdeal

/-- The reference's result array as a whole. -/
theorem final (m : (ℓ : Loc nD τ sig) → Buf (Elt Ideal) ℓ) (c : Dev nD) :
    Read.val_main_v34 (F := Ideal) (m (c.tc.loc main_arg1)) (m (c.tc.loc main_arg4)) (Value.reg_main_v16_0 m c) (Value.reg_main_v16_1 m c) (Value.reg_main_v16_2 m c)
      = GateUp.arr (m (c.tc.loc main_arg0)) (m (c.tc.loc main_arg1)) (m (c.tc.loc main_arg2)) (m (c.tc.loc main_arg3)) (m (c.tc.loc main_arg4)) := by
  funext i
  idx_vars i
  exact val m c i0 i1

end Cert.GateUpRefIdeal.Elem

namespace Cert.GateUpIdeal

/-- From memories agreeing on the arguments both runs end with the same array. -/
theorem algebraic : @Cert.algebraic_GateUpIdeal_GateUpRefIdeal Cert.GateUpIdeal.Gen.facts Cert.GateUpRefIdeal.Gen.facts := by
  intro m g m' g' _ ha
  refine ⟨fun c => (Gen.dats m 0 c).arrAt 8 cfg0.N, Value.run_blocks m g, ?_⟩
  refine (θ_run _ _ _).mono (fun r h c => ⟨(h c).1.trans ?_, (h c).2⟩) (Cert.GateUpRefIdeal.Value.run m' g')
  obtain ⟨h0, h1, h2, h3, h4⟩ := ha c
  refine (Cert.GateUpRefIdeal.Elem.final m' c).trans ?_
  exact (congr (congr (congr (congr (congrArg GateUp.arr h0) h1) h2) h3) h4).trans (Arr.final m c).symm

end Cert.GateUpIdeal
-- ==== Proof.DownLoop.lean ====
/- The loop over the contracted axis in the down projection: after each trip the accumulator holds the partial product. -/
module

public import proofs.«01_k».proof.Proof.Gen.DownIdeal.Loops
public import proofs.«01_k».proof.Proof.LinMath
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem Idealize.ShloMosaic.StableHlo
open Idealize.ShloMosaic.Pipeline (Dat)

namespace Cert.DownIdeal.Loop

open Cert.DownIdeal Cert.DownIdeal.Gen

/-- One trip's share of one element: 512 rows of the weight. -/
def trip (x : FVec Ideal S1024x6656 .fp8e4m3) (w : IVec S832x512 32) (g : FVec Ideal S13x4x512 .fp8e4m3) (t : Fin 1024) (n : Fin 512) (k : Fin 13) : EReal :=
  ∑ r : Fin 512, x (ix2 t ⟨512 * k.val + r.val, by omega⟩)
    * (Lin.nib (w (ix2 ⟨64 * k.val + r.val / 8, by omega⟩ n)) (r.val % 8) * g (ix3 k ⟨r.val / 128, by omega⟩ n))

theorem trips_eq : k0_t1_loop.trips = 13 := by decide

/-- What a trip stores. -/
theorem pay_apply (x : FVec Ideal S1024x6656 .fp8e4m3) (w : IVec S832x512 32) (g : FVec Ideal S13x4x512 .fp8e4m3)
    (a : FVec Ideal S1024x512 .f32) (k : Fin k0_t1_loop.trips) (t : Fin 1024) (n : Fin 512) :
    k0_pay2 (View.ld x (Rect.unit (s := S1024x6656) (k0_off1 k) S1024x512.size (k0_off1_inb k))) (View.ld w (Rect.unit (s := S832x512) (k0_off2 k) S64x512.size (k0_off2_inb k)))
          (View.ld g (Rect.unit (s := S13x4x512) (k0_off3 k) S1x4x512.size (k0_off3_inb k)))
          (View.ld a (Rect.unit (s := S1024x512) ![0, 0] S1024x512.size inb_S1024x512_S1024x512_0_0)) (ix2 t n)
      = a (ix2 t n) + trip x w g t n ⟨k.val, k.isLt.trans_eq trips_eq⟩ := by
  pointwise [k0_pay2]
  unfold trip
  congr 1
  refine Finset.sum_congr rfl fun r _ => ?_
  simp only [k0_off1_eq, k0_off2_eq, k0_off3_eq]
  simp [Lin.nib]

section
variable (𝒱 : Variants) (c : Dev nD) (bd : Option 𝒱.V) (i : grid0.Coords)
  (arg2 : Memref sig .tc .vmem S1024x6656 .fp8e4m3) (harg2 : arg2.IsWhole)
  (arg3 : Memref sig .tc .vmem S1024x1 .f32) (harg3 : arg3.IsWhole)
  (arg4 : Memref sig .tc .vmem S832x512 .i32) (harg4 : arg4.IsWhole)
  (arg5 : Memref sig .tc .vmem S13x4x512 .fp8e4m3) (harg5 : arg5.IsWhole)
  (arg6 : Memref sig .tc .vmem S1x512 .f32) (harg6 : arg6.IsWhole)
  (arg7 : Memref sig .tc .vmem S1024x512 .f32) (harg7 : arg7.IsWhole)
  (arg8 : Memref sig .tc .vmem S1024x512 .bf16) (harg8 : arg8.IsWhole)
  (arg9 : Memref sig .tc .vmem S1024x512 .f32) (harg9 : arg9.IsWhole)
  (x2 : FVec Ideal S1024x6656 .fp8e4m3) (x4 : IVec S832x512 32) (x5 : FVec Ideal S13x4x512 .fp8e4m3)
  (G : BufTy.Contents (Elt Ideal) arg9.view.ty)

/-- The store of a trip. -/
theorem pieces (k : Fin k0_t1_loop.trips) (f : BufTy.Contents (Elt Ideal) arg9.view.ty) :
    tripL_k0_t1 (F := Ideal) 𝒱 c bd i arg2 harg2 arg3 harg3 arg4 harg4 arg5 harg5 arg6 harg6 arg7 harg7 arg8 harg8 arg9 harg9 (harg2.unread x2) (harg4.unread x4) (harg5.unread x5) k f
      = [⟨(Rect.unit (s := S1024x512) ![0, 0] S1024x512.size inb_S1024x512_S1024x512_0_0),
          k0_pay2 (View.ld x2 (Rect.unit (s := S1024x6656) (k0_off1 k) S1024x512.size (k0_off1_inb k))) (View.ld x4 (Rect.unit (s := S832x512) (k0_off2 k) S64x512.size (k0_off2_inb k)))
          (View.ld x5 (Rect.unit (s := S13x4x512) (k0_off3 k) S1x4x512.size (k0_off3_inb k)))
            (View.ld (View.read (Elt Ideal) arg9.view f) (Rect.unit (s := S1024x512) ![0, 0] S1024x512.size inb_S1024x512_S1024x512_0_0))⟩] := by
  unfold tripL_k0_t1 trip_k0_t1
  frame_out

/-- The accumulator after the first `k` trips. -/
theorem acc (t : Fin 1024) (n : Fin 512) : ∀ (k : ℕ) (hk : k ≤ 13),
    View.read (Elt Ideal) arg9.view (arg9.view.writes (Elt Ideal) G (pb_k0_t1 (F := Ideal) 𝒱 c bd i arg2 harg2 arg3 harg3 arg4 harg4 arg5 harg5 arg6 harg6 arg7 harg7 arg8 harg8 arg9 harg9 (harg2.unread x2) (harg4.unread x4) (harg5.unread x5) G k)) (ix2 t n)
      = View.read (Elt Ideal) arg9.view G (ix2 t n) + ∑ q : Fin k, trip x2 x4 x5 t n ⟨q.val, by omega⟩ := by
  intro k
  induction k with
  | zero => intro _; rw [pb_k0_t1.eq_1]; simp [View.writes]
  | succ k ih =>
    intro hk
    have h := pb_k0_t1_succ (F := Ideal) 𝒱 c bd i arg2 harg2 arg3 harg3 arg4 harg4 arg5 harg5 arg6 harg6 arg7 harg7 arg8 harg8 arg9 harg9 (harg2.unread x2) (harg4.unread x4) (harg5.unread x5) G ⟨k, by rw [trips_eq]; omega⟩
    dsimp only at h
    rw [h, pieces, List.cons_append, List.nil_append]
    refine (View.read_writes_cons_unit_of_mem arg9.view G _ _ _ (ix2 t n) (ix2 t n) (off' := ![0, 0]) rfl
      (fun a => by fin_cases a <;> simp [ix2])).trans ?_
    rw [pay_apply, ih (by omega), Fin.sum_univ_castSucc, ← add_assoc]
    rfl

/-- The accumulator as the loop leaves it, started from zeros. -/
theorem acc_read (t : Fin 1024) (n : Fin 512) :
    arg9.view.readCov (Val := Elt Ideal) (pb_k0_t1 (F := Ideal) 𝒱 c bd i arg2 harg2 arg3 harg3 arg4 harg4 arg5 harg5 arg6 harg6 arg7 harg7 arg8 harg8 arg9 harg9 (harg2.unread x2) (harg4.unread x4) (harg5.unread x5)
        (arg9.view.writes (Elt Ideal) arg9.view.junk [⟨(Rect.unit (s := S1024x512) ![0, 0] S1024x512.size inb_S1024x512_S1024x512_0_0), k0_pay1 (F := Ideal)⟩])
        k0_t1_loop.trips ++ [⟨(Rect.unit (s := S1024x512) ![0, 0] S1024x512.size inb_S1024x512_S1024x512_0_0), k0_pay1 (F := Ideal)⟩]) (Rect.unit (s := S1024x512) ![0, 0] S1024x512.size inb_S1024x512_S1024x512_0_0).toLoadRect (ix2 t n)
      = ∑ q : Fin 13, trip x2 x4 x5 t n q := by
  have h := acc 𝒱 c bd i arg2 harg2 arg3 harg3 arg4 harg4 arg5 harg5 arg6 harg6 arg7 harg7 arg8 harg8 arg9 harg9 x2 x4 x5
    (arg9.view.writes (Elt Ideal) arg9.view.junk [⟨(Rect.unit (s := S1024x512) ![0, 0] S1024x512.size inb_S1024x512_S1024x512_0_0), k0_pay1 (F := Ideal)⟩]) t n 13 le_rfl
  have e : (Rect.unit (s := S1024x512) ![0, 0] S1024x512.size inb_S1024x512_S1024x512_0_0).toLoadRect.idx (ix2 t n) = ix2 t n := by
    funext a; fin_cases a <;> apply Fin.ext <;> simp [Rect.unit, LoadRect.idx, Rect.toLoadRect, ix2]
  have z : View.read (Elt Ideal) arg9.view (arg9.view.writes (Elt Ideal) arg9.view.junk [⟨(Rect.unit (s := S1024x512) ![0, 0] S1024x512.size inb_S1024x512_S1024x512_0_0), k0_pay1 (F := Ideal)⟩]) (ix2 t n) = 0 := by
    refine (View.read_writes_cons_unit_of_mem arg9.view arg9.view.junk _ _ _ (ix2 t n) (ix2 t n) (off' := ![0, 0]) rfl
      (fun a => by fin_cases a <;> simp [ix2])).trans ?_
    pointwise [k0_pay1]
  show View.read (Elt Ideal) arg9.view _ _ = _
  rw [View.writes_append, e]
  refine h.trans ?_
  rw [z, zero_add]

end

end Cert.DownIdeal.Loop
-- ==== Proof.DownBlock.lean ====
/- What one grid point of the down projection stores, from the blocks it reads. -/
module

public import proofs.«01_k».proof.Proof.Gen.DownIdeal.Frame
public import proofs.«01_k».proof.Proof.DownLoop

@[expose] public section

set_option maxRecDepth 16384

noncomputable section

open Idealize.ShloMosaic Idealize.ShloMosaic.TcCoe Idealize.SL.Sem Idealize.ShloMosaic.StableHlo
open Idealize.ShloMosaic.Pipeline (Dat)

namespace Cert.DownIdeal.Block

open Cert.DownIdeal Cert.DownIdeal.Gen

/-- The residual plus the scaled product at one element of the block. -/
def val (h : FVec Ideal S1024x512 .f32) (x : FVec Ideal S1024x6656 .fp8e4m3) (w : IVec S832x512 32) (g : FVec Ideal S13x4x512 .fp8e4m3) (s : FVec Ideal S1024x1 .f32) (cs : FVec Ideal S1x512 .f32) (a : Fin 1024) (b : Fin 512) : EReal :=
  h (ix2 a b) + (∑ q : Fin 13, Loop.trip x w g a b q) * s (ix2 a 0) * cs (ix2 0 b)

/-- One element of the block a grid point stores, from the accumulator. -/
theorem pay_apply (h : FVec Ideal S1024x512 .f32) (v : FVec Ideal S1024x512 .f32) (s : FVec Ideal S1024x1 .f32)
    (cs : FVec Ideal S1x512 .f32) (a : Fin 1024) (b : Fin 512) :
    k0_pay3 (F := Ideal) h v s cs (ix2 a b) = h (ix2 a b) + v (ix2 a b) * s (ix2 a 0) * cs (ix2 0 b) := by
  pointwise [k0_pay3]

/-- One element of the block a grid point stores. -/
theorem out_apply (c : Dev nD) (i : grid0.Coords) (arg2 : Memref sig .tc .vmem S1024x6656 .fp8e4m3) (harg2 : arg2.IsWhole) (arg3 : Memref sig .tc .vmem S1024x1 .f32) (harg3 : arg3.IsWhole) (arg4 : Memref sig .tc .vmem S832x512 .i32) (harg4 : arg4.IsWhole) (arg5 : Memref sig .tc .vmem S13x4x512 .fp8e4m3) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole)
    (x0 : Vec Ideal S1024x6656 .fp8e4m3) (x1 : Vec Ideal S1024x1 .f32) (x2 : Vec Ideal S832x512 .i32) (x3 : Vec Ideal S13x4x512 .fp8e4m3) (x4 : Vec Ideal S1x512 .f32) (x5 : Vec Ideal S1024x512 .f32) (a : Fin 1024) (b : Fin 512) :
    out0_A_6 (F := Ideal) c i arg2 harg2 arg3 harg3 arg4 harg4 arg5 harg5 arg6 harg6 arg7 harg7 arg8 harg8 arg9 harg9 x0 x1 x2 x3 x4 x5 (ix2 a b)
      = val x5 x0 x2 x3 x1 x4 a b := by
  unfold out0_A_6
  frame_out
  rw [pay_apply]
  unfold val
  rw [← Loop.acc_read Variants.none c none i arg2 harg2 arg3 harg3 arg4 harg4 arg5 harg5 arg6 harg6 arg7 harg7 arg8 harg8 arg9 harg9 x0 x2 x3 a b]

end Cert.DownIdeal.Block
-- ==== Proof.ResidualSpec.lean ====
/- The value both programs of a linear layer added to a residual compute, element by element. -/
module

public import proofs.«01_k».proof.Proof.LinMath

@[expose] public section

noncomputable section

open Idealize.ShloMosaic

namespace Residual

variable (K W G : ℕ) (hW : K = 8 * W) (hG : K = 128 * G) (φ : FTy) (A : FVec Ideal ⟨2, ![3072, K]⟩ .fp8e4m3) (s : FVec Ideal ⟨2, ![3072, 1]⟩ .f32)
  (w : IVec ⟨2, ![W, 16384]⟩ 32) (g : FVec Ideal ⟨2, ![G, 16384]⟩ .fp8e4m3) (cs : FVec Ideal ⟨1, ![16384]⟩ .f32)
  (h : FVec Ideal ⟨2, ![3072, 16384]⟩ φ)

/-- One element of the result: the residual plus the scaled quantised product. -/
def out (t : Fin 3072) (n : Fin 16384) : EReal :=
  h (ix2 t n) + Lin.elem 3072 K W G 16384 hW hG A s w g cs t n

/-- The whole result. -/
def arr (ψ : FTy) : FVec Ideal ⟨2, ![3072, 16384]⟩ ψ := fun i => out K W G hW hG φ A s w g cs h (i 0) (i 1)

end Residual
-- ==== Proof.DownArray.lean ====
/- The array the down projection leaves, element by element: every grid point's block is a block of it. -/
module

public import proofs.«01_k».proof.Proof.Gen.DownIdeal.Value
public import proofs.«01_k».proof.Proof.DownBlock
public import proofs.«01_k».proof.Proof.ResidualSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.DownIdeal.Arr

open Cert.DownIdeal Cert.DownIdeal.Gen

variable (m : (ℓ : Loc nD τ sig) → Buf (Elt Ideal) ℓ)

/-- Where each window's block lies at a grid point. -/
theorem idx : ∀ t : Fin cfg0.N,
    win0_0.index t = ![(grid0.coords t 0).val, 0] ∧ win0_1.index t = ![(grid0.coords t 0).val, 0]
    ∧ win0_2.index t = ![0, (grid0.coords t 1).val] ∧ win0_3.index t = ![0, 0, (grid0.coords t 1).val] ∧ win0_4.index t = ![0, (grid0.coords t 1).val]
    ∧ win0_5.index t = ![(grid0.coords t 0).val, (grid0.coords t 1).val] ∧ win0_6.index t = ![(grid0.coords t 0).val, (grid0.coords t 1).val] :=
  (by decide +kernel : ∀ t : Fin grid0.N,
    win0_0.index t = ![(grid0.coords t 0).val, 0] ∧ win0_1.index t = ![(grid0.coords t 0).val, 0]
    ∧ win0_2.index t = ![0, (grid0.coords t 1).val] ∧ win0_3.index t = ![0, 0, (grid0.coords t 1).val] ∧ win0_4.index t = ![0, (grid0.coords t 1).val]
    ∧ win0_5.index t = ![(grid0.coords t 0).val, (grid0.coords t 1).val] ∧ win0_6.index t = ![(grid0.coords t 0).val, (grid0.coords t 1).val])

/-- A block's element is the array's: a whole row times a whole column, added to the residual. -/
theorem sum_val (c : Dev nD) (t : Fin cfg0.N) (a : Fin 1024) (b : Fin 512) (h0 h1) :
    Block.val (iblk m c 5 t) (iblk m c 0 t) (iblk m c 2 t) (iblk m c 3 t) (iblk m c 1 t) (iblk m c 4 t) a b
      = Residual.out 6656 832 52 rfl rfl .f32 (m (c.tc.loc main_arg0)) (m (c.tc.loc main_arg1)) (m (c.tc.loc main_arg2)) (m (c.tc.loc main_arg3)) (m (c.tc.loc main_arg4)) (m (c.tc.loc main_arg5))
          ⟨(grid0.coords t 0).val * 1024 + a.val, h0⟩ ⟨(grid0.coords t 1).val * 512 + b.val, h1⟩ := by
  unfold Residual.out Lin.elem Block.val
  rw [Lin.dot_trips 13 6656 832 52 rfl rfl rfl]
  unfold Loop.trip
  blk_point [iblk, V, idx t]

/-- The result array as a whole. -/
theorem final (c : Dev nD) : (dats m 0 c).arrAt 6 (cfgs 0).N
    = Residual.arr 6656 832 52 rfl rfl .f32 (m (c.tc.loc main_arg0)) (m (c.tc.loc main_arg1)) (m (c.tc.loc main_arg2)) (m (c.tc.loc main_arg3)) (m (c.tc.loc main_arg4)) (m (c.tc.loc main_arg5)) .bf16 := by
  refine (dats m 0 c).arrAt_eq_of_covers 6 _ (by decide +kernel) fun t _ y => ?_
  idx_vars y
  blk_simp
  unfold Residual.arr
  rw [after0_6]
  unfold outsAt0
  have hi : (grid0.coords t 0).val < 3 := (grid0.coords t 0).isLt
  have hj : (grid0.coords t 1).val < 32 := (grid0.coords t 1).isLt
  have e0 : ((View.whole main_v2).slice (win0_6.rect t)).emb (ix2 y0 y1) 0 = (⟨(grid0.coords t 0).val * 1024 + y0.val, by omega⟩ : Fin 3072) := by
    refine Fin.ext ?_
    blk_simp [idx t]
  have e1 : ((View.whole main_v2).slice (win0_6.rect t)).emb (ix2 y0 y1) 1 = (⟨(grid0.coords t 1).val * 512 + y1.val, by omega⟩ : Fin 16384) := by
    refine Fin.ext ?_
    blk_simp [idx t]
  rw [e0, e1]
  refine (Block.out_apply _ _ _ _ _ _ _ _ _ _ _ _ _ _ _ _ _ _ _ _ _ _ _ _  y0 y1).trans ?_
  exact sum_val m c t y0 y1 (by omega) (by omega)

end Cert.DownIdeal.Arr
-- ==== Proof.DownRef.lean ====
/- What the reference of the down projection computes, element by element. -/
module

public import proofs.«01_k».proof.Proof.Gen.DownRefIdeal.Read
public import proofs.«01_k».proof.Proof.Nibble
public import proofs.«01_k».proof.Proof.ResidualSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.DownRefIdeal.Elem

open Cert.DownRefIdeal Cert.DownRefIdeal.Gen Cert.DownRefIdeal.Value

variable (m : (ℓ : Loc nD τ sig) → Buf (Elt Ideal) ℓ)

/-- The reference's one launch takes every array whole. -/
theorem idx : win0_0.index t0_0 = ![0, 0] ∧ win0_1.index t0_0 = ![0, 0] ∧ win0_2.index t0_0 = ![0, 0, 0] := by decide +kernel

theorem blk0 (c : Dev nD) : iblk m c 0 t0_0 = V m c main_arg0 := by
  funext j
  blk_ext [iblk, idx]
theorem blk1 (c : Dev nD) : iblk m c 1 t0_0 = V m c main_arg3 := by
  funext j
  blk_ext [iblk, idx]
theorem blk2 (c : Dev nD) : iblk m c 2 t0_0 = V m c main_v15 := by
  funext j
  blk_ext [iblk, idx]

/-- The launch's first result: the activations' codes, cast. -/
theorem reg0 (c : Dev nD) : reg_main_v16_0 m c = k0_pay1 (m ((c : Thread nD τ).loc main_arg0)) := by
  unfold reg_main_v16_0
  refine (dats m 0 c).arrAt_eq_of_after_last 3 t0_0 (by decide +kernel) _ fun j => ?_
  blk_simp; rw [after0_3]; frame_out; rw [blk0, V_main_arg0]
/-- The launch's second result: the group scales, cast. -/
theorem reg1 (c : Dev nD) : reg_main_v16_1 m c = k0_pay2 (m ((c : Thread nD τ).loc main_arg3)) := by
  unfold reg_main_v16_1
  refine (dats m 0 c).arrAt_eq_of_after_last 4 t0_0 (by decide +kernel) _ fun j => ?_
  blk_simp; rw [after0_4]; frame_out; rw [blk1, V_main_arg3]
/-- The launch's third result: the fields of the packed weight, cast. -/
theorem reg2 (c : Dev nD) : reg_main_v16_2 m c = k0_pay3 (V m c main_v15) := by
  unfold reg_main_v16_2
  refine (dats m 0 c).arrAt_eq_of_after_last 5 t0_0 (by decide +kernel) _ fun j => ?_
  blk_simp; rw [after0_5]; frame_out
  rw [blk2]

/-- Field `a` of word `b` of column `d` of the packed weight. -/
theorem fields (c : Dev nD) (a : Fin 8) (b : Fin 832) (d : Fin 16384) :
    reg_main_v16_2 m c (ix3 a b d) = Lin.nib (m ((c : Thread nD τ).loc main_arg2) (ix2 b d)) a.val := by
  rw [reg2]
  entry_read
  simp only [Gen.hostOps0, Gen.hostOps0_1, Gen.hostOps0_2, TRef.binary, TRef.nullary, TRef.unary, TRef.ternary, TRef.toBuf,
    TRef.ofBuf, cast_eq, List.flatten_cons, List.flatten_nil, List.append_nil, List.cons_append, List.nil_append]
  after_results
  pointwise [k0_pay3]
  exact Lin.sitofp_field _ a

/-- The activations' codes, element by element. -/
theorem act (c : Dev nD) (t : Fin 3072) (q : Fin 6656) :
    reg_main_v16_0 m c (ix2 t q) = m ((c : Thread nD τ).loc main_arg0) (ix2 t q) := by
  rw [reg0]; rfl
/-- The group scales, element by element. -/
theorem gscale (c : Dev nD) (t : Fin 52) (q : Fin 16384) :
    reg_main_v16_1 m c (ix2 t q) = m ((c : Thread nD τ).loc main_arg3) (ix2 t q) := by
  rw [reg1]; rfl

/-- One element of the reference's result. -/
theorem val (c : Dev nD) (t : Fin 3072) (n : Fin 16384) :
    Read.val_main_v32 (F := Ideal) (m (c.tc.loc main_arg1)) (m (c.tc.loc main_arg4)) (m (c.tc.loc main_arg5)) (reg_main_v16_0 m c) (reg_main_v16_1 m c) (reg_main_v16_2 m c) (ix2 t n)
      = Residual.out 6656 832 52 rfl rfl .f32 (m (c.tc.loc main_arg0)) (m (c.tc.loc main_arg1)) (m (c.tc.loc main_arg2)) (m (c.tc.loc main_arg3)) (m (c.tc.loc main_arg4)) (m (c.tc.loc main_arg5)) t n := by
  have h0 := act m c t
  have h1 := gscale m c
  have h2 := fields m c
  revert h0 h1 h2
  generalize reg_main_v16_0 m c = r0
  generalize reg_main_v16_1 m c = r1
  generalize reg_main_v16_2 m c = r2
  intro h0 h1 h2
  unfold Read.val_main_v32 Read.val_main_v31 Read.val_main_v30 Read.val_main_v29 Read.val_main_v28 Read.val_main_v27 Read.val_main_v26 Read.val_main_v25 Read.val_main_v24 Read.val_main_v23 Read.val_main_v22 Read.val_main_v21 Read.val_main_v20 Read.val_main_v19 Read.val_main_v18 Read.val_main_v17
  pointwise
  simp only [h0, h1, h2, Residual.out, Lin.elem, Lin.dot_words, Nat.mul_comm 8]

/-- The reference's result as a whole. -/
theorem final (c : Dev nD) :
    Read.val_main_v32 (F := Ideal) (m (c.tc.loc main_arg1)) (m (c.tc.loc main_arg4)) (m (c.tc.loc main_arg5)) (reg_main_v16_0 m c) (reg_main_v16_1 m c) (reg_main_v16_2 m c)
      = Residual.arr 6656 832 52 rfl rfl .f32 (m (c.tc.loc main_arg0)) (m (c.tc.loc main_arg1)) (m (c.tc.loc main_arg2)) (m (c.tc.loc main_arg3)) (m (c.tc.loc main_arg4)) (m (c.tc.loc main_arg5)) .bf16 := by
  funext i
  idx_vars i
  exact val m c i0 i1

end Cert.DownRefIdeal.Elem
-- ==== Proof.DownClaim.lean ====
/- The down projection and its reference leave the same array. -/
module

public import proofs.«01_k».proof.Defs
public import proofs.«01_k».proof.Proof.DownArray
public import proofs.«01_k».proof.Proof.DownRef

@[expose] public section

set_option maxRecDepth 16384

noncomputable section

open Idealize.ShloMosaic Idealize.ShloMosaic.TcCoe Idealize.SL.Sem Idealize.ShloMosaic.StableHlo
open Idealize.ShloMosaic.Pipeline (Dat)

namespace Cert.DownIdeal

/-- From memories agreeing on the arguments both runs end with the same array. -/
theorem algebraic : @Cert.algebraic_DownIdeal_DownRefIdeal Cert.DownIdeal.Gen.facts Cert.DownRefIdeal.Gen.facts := by
  intro m g m' g' _ ha
  refine ⟨fun c => (Gen.dats m 0 c).arrAt 6 cfg0.N, Value.run_blocks m g, ?_⟩
  refine (θ_run _ _ _).mono (fun r h c => ⟨(h c).1.trans ?_, (h c).2⟩) (Cert.DownRefIdeal.Value.run m' g')
  obtain ⟨h0, h1, h2, h3, h4, h5⟩ := ha c
  refine (Cert.DownRefIdeal.Elem.final m' c).trans ?_
  exact (congrFun (congr (congr (congr (congr (congr (congrArg (Residual.arr 6656 832 52 rfl rfl .f32) h0) h1) h2) h3) h4) h5) .bf16).trans
    (Arr.final m c).symm

end Cert.DownIdeal
-- ==== Proof.WoLoop.lean ====
/- The loop over the contracted axis in the output projection of the attention: after each trip the accumulator holds the partial product. -/
module

public import proofs.«01_k».proof.Proof.Gen.WoIdeal.Loops
public import proofs.«01_k».proof.Proof.LinMath
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem Idealize.ShloMosaic.StableHlo
open Idealize.ShloMosaic.Pipeline (Dat)

namespace Cert.WoIdeal.Loop

open Cert.WoIdeal Cert.WoIdeal.Gen

/-- One trip's share of one element: 512 rows of the weight. -/
def trip (x : FVec Ideal S1024x2048 .fp8e4m3) (w : IVec S256x512 32) (g : FVec Ideal S4x4x512 .fp8e4m3) (t : Fin 1024) (n : Fin 512) (k : Fin 4) : EReal :=
  ∑ r : Fin 512, x (ix2 t ⟨512 * k.val + r.val, by omega⟩)
    * (Lin.nib (w (ix2 ⟨64 * k.val + r.val / 8, by omega⟩ n)) (r.val % 8) * g (ix3 k ⟨r.val / 128, by omega⟩ n))

theorem trips_eq : k0_t1_loop.trips = 4 := by decide

/-- What a trip stores. -/
theorem pay_apply (x : FVec Ideal S1024x2048 .fp8e4m3) (w : IVec S256x512 32) (g : FVec Ideal S4x4x512 .fp8e4m3)
    (a : FVec Ideal S1024x512 .f32) (k : Fin k0_t1_loop.trips) (t : Fin 1024) (n : Fin 512) :
    k0_pay2 (View.ld x (Rect.unit (s := S1024x2048) (k0_off1 k) S1024x512.size (k0_off1_inb k))) (View.ld w (Rect.unit (s := S256x512) (k0_off2 k) S64x512.size (k0_off2_inb k)))
          (View.ld g (Rect.unit (s := S4x4x512) (k0_off3 k) S1x4x512.size (k0_off3_inb k)))
          (View.ld a (Rect.unit (s := S1024x512) ![0, 0] S1024x512.size inb_S1024x512_S1024x512_0_0)) (ix2 t n)
      = a (ix2 t n) + trip x w g t n ⟨k.val, k.isLt.trans_eq trips_eq⟩ := by
  pointwise [k0_pay2]
  unfold trip
  congr 1
  refine Finset.sum_congr rfl fun r _ => ?_
  simp only [k0_off1_eq, k0_off2_eq, k0_off3_eq]
  simp [Lin.nib]

section
variable (𝒱 : Variants) (c : Dev nD) (bd : Option 𝒱.V) (i : grid0.Coords)
  (arg2 : Memref sig .tc .vmem S1024x2048 .fp8e4m3) (harg2 : arg2.IsWhole)
  (arg3 : Memref sig .tc .vmem S1024x1 .f32) (harg3 : arg3.IsWhole)
  (arg4 : Memref sig .tc .vmem S256x512 .i32) (harg4 : arg4.IsWhole)
  (arg5 : Memref sig .tc .vmem S4x4x512 .fp8e4m3) (harg5 : arg5.IsWhole)
  (arg6 : Memref sig .tc .vmem S1x512 .f32) (harg6 : arg6.IsWhole)
  (arg7 : Memref sig .tc .vmem S1024x512 .bf16) (harg7 : arg7.IsWhole)
  (arg8 : Memref sig .tc .vmem S1024x512 .f32) (harg8 : arg8.IsWhole)
  (arg9 : Memref sig .tc .vmem S1024x512 .f32) (harg9 : arg9.IsWhole)
  (x2 : FVec Ideal S1024x2048 .fp8e4m3) (x4 : IVec S256x512 32) (x5 : FVec Ideal S4x4x512 .fp8e4m3)
  (G : BufTy.Contents (Elt Ideal) arg9.view.ty)

/-- The store of a trip. -/
theorem pieces (k : Fin k0_t1_loop.trips) (f : BufTy.Contents (Elt Ideal) arg9.view.ty) :
    tripL_k0_t1 (F := Ideal) 𝒱 c bd i arg2 harg2 arg3 harg3 arg4 harg4 arg5 harg5 arg6 harg6 arg7 harg7 arg8 harg8 arg9 harg9 (harg2.unread x2) (harg4.unread x4) (harg5.unread x5) k f
      = [⟨(Rect.unit (s := S1024x512) ![0, 0] S1024x512.size inb_S1024x512_S1024x512_0_0),
          k0_pay2 (View.ld x2 (Rect.unit (s := S1024x2048) (k0_off1 k) S1024x512.size (k0_off1_inb k))) (View.ld x4 (Rect.unit (s := S256x512) (k0_off2 k) S64x512.size (k0_off2_inb k)))
          (View.ld x5 (Rect.unit (s := S4x4x512) (k0_off3 k) S1x4x512.size (k0_off3_inb k)))
            (View.ld (View.read (Elt Ideal) arg9.view f) (Rect.unit (s := S1024x512) ![0, 0] S1024x512.size inb_S1024x512_S1024x512_0_0))⟩] := by
  unfold tripL_k0_t1 trip_k0_t1
  frame_out

/-- The accumulator after the first `k` trips. -/
theorem acc (t : Fin 1024) (n : Fin 512) : ∀ (k : ℕ) (hk : k ≤ 4),
    View.read (Elt Ideal) arg9.view (arg9.view.writes (Elt Ideal) G (pb_k0_t1 (F := Ideal) 𝒱 c bd i arg2 harg2 arg3 harg3 arg4 harg4 arg5 harg5 arg6 harg6 arg7 harg7 arg8 harg8 arg9 harg9 (harg2.unread x2) (harg4.unread x4) (harg5.unread x5) G k)) (ix2 t n)
      = View.read (Elt Ideal) arg9.view G (ix2 t n) + ∑ q : Fin k, trip x2 x4 x5 t n ⟨q.val, by omega⟩ := by
  intro k
  induction k with
  | zero => intro _; rw [pb_k0_t1.eq_1]; simp [View.writes]
  | succ k ih =>
    intro hk
    have h := pb_k0_t1_succ (F := Ideal) 𝒱 c bd i arg2 harg2 arg3 harg3 arg4 harg4 arg5 harg5 arg6 harg6 arg7 harg7 arg8 harg8 arg9 harg9 (harg2.unread x2) (harg4.unread x4) (harg5.unread x5) G ⟨k, by rw [trips_eq]; omega⟩
    dsimp only at h
    rw [h, pieces, List.cons_append, List.nil_append]
    refine (View.read_writes_cons_unit_of_mem arg9.view G _ _ _ (ix2 t n) (ix2 t n) (off' := ![0, 0]) rfl
      (fun a => by fin_cases a <;> simp [ix2])).trans ?_
    rw [pay_apply, ih (by omega), Fin.sum_univ_castSucc, ← add_assoc]
    rfl

/-- The accumulator as the loop leaves it, started from zeros. -/
theorem acc_read (t : Fin 1024) (n : Fin 512) :
    arg9.view.readCov (Val := Elt Ideal) (pb_k0_t1 (F := Ideal) 𝒱 c bd i arg2 harg2 arg3 harg3 arg4 harg4 arg5 harg5 arg6 harg6 arg7 harg7 arg8 harg8 arg9 harg9 (harg2.unread x2) (harg4.unread x4) (harg5.unread x5)
        (arg9.view.writes (Elt Ideal) arg9.view.junk [⟨(Rect.unit (s := S1024x512) ![0, 0] S1024x512.size inb_S1024x512_S1024x512_0_0), k0_pay1 (F := Ideal)⟩])
        k0_t1_loop.trips ++ [⟨(Rect.unit (s := S1024x512) ![0, 0] S1024x512.size inb_S1024x512_S1024x512_0_0), k0_pay1 (F := Ideal)⟩]) (Rect.unit (s := S1024x512) ![0, 0] S1024x512.size inb_S1024x512_S1024x512_0_0).toLoadRect (ix2 t n)
      = ∑ q : Fin 4, trip x2 x4 x5 t n q := by
  have h := acc 𝒱 c bd i arg2 harg2 arg3 harg3 arg4 harg4 arg5 harg5 arg6 harg6 arg7 harg7 arg8 harg8 arg9 harg9 x2 x4 x5
    (arg9.view.writes (Elt Ideal) arg9.view.junk [⟨(Rect.unit (s := S1024x512) ![0, 0] S1024x512.size inb_S1024x512_S1024x512_0_0), k0_pay1 (F := Ideal)⟩]) t n 4 le_rfl
  have e : (Rect.unit (s := S1024x512) ![0, 0] S1024x512.size inb_S1024x512_S1024x512_0_0).toLoadRect.idx (ix2 t n) = ix2 t n := by
    funext a; fin_cases a <;> apply Fin.ext <;> simp [Rect.unit, LoadRect.idx, Rect.toLoadRect, ix2]
  have z : View.read (Elt Ideal) arg9.view (arg9.view.writes (Elt Ideal) arg9.view.junk [⟨(Rect.unit (s := S1024x512) ![0, 0] S1024x512.size inb_S1024x512_S1024x512_0_0), k0_pay1 (F := Ideal)⟩]) (ix2 t n) = 0 := by
    refine (View.read_writes_cons_unit_of_mem arg9.view arg9.view.junk _ _ _ (ix2 t n) (ix2 t n) (off' := ![0, 0]) rfl
      (fun a => by fin_cases a <;> simp [ix2])).trans ?_
    pointwise [k0_pay1]
  show View.read (Elt Ideal) arg9.view _ _ = _
  rw [View.writes_append, e]
  refine h.trans ?_
  rw [z, zero_add]

end

end Cert.WoIdeal.Loop
-- ==== Proof.WoBlock.lean ====
/- What one grid point of the output projection of the attention stores, from the blocks it reads. -/
module

public import proofs.«01_k».proof.Proof.Gen.WoIdeal.Frame
public import proofs.«01_k».proof.Proof.WoLoop

@[expose] public section

set_option maxRecDepth 16384

noncomputable section

open Idealize.ShloMosaic Idealize.ShloMosaic.TcCoe Idealize.SL.Sem Idealize.ShloMosaic.StableHlo
open Idealize.ShloMosaic.Pipeline (Dat)

namespace Cert.WoIdeal.Block

open Cert.WoIdeal Cert.WoIdeal.Gen

/-- The residual plus the scaled product at one element of the block. -/
def val (h : FVec Ideal S1024x512 .bf16) (x : FVec Ideal S1024x2048 .fp8e4m3) (w : IVec S256x512 32) (g : FVec Ideal S4x4x512 .fp8e4m3) (s : FVec Ideal S1024x1 .f32) (cs : FVec Ideal S1x512 .f32) (a : Fin 1024) (b : Fin 512) : EReal :=
  h (ix2 a b) + (∑ q : Fin 4, Loop.trip x w g a b q) * s (ix2 a 0) * cs (ix2 0 b)

/-- One element of the block a grid point stores, from the accumulator. -/
theorem pay_apply (h : FVec Ideal S1024x512 .bf16) (v : FVec Ideal S1024x512 .f32) (s : FVec Ideal S1024x1 .f32)
    (cs : FVec Ideal S1x512 .f32) (a : Fin 1024) (b : Fin 512) :
    k0_pay3 (F := Ideal) h v s cs (ix2 a b) = h (ix2 a b) + v (ix2 a b) * s (ix2 a 0) * cs (ix2 0 b) := by
  pointwise [k0_pay3]

/-- One element of the block a grid point stores. -/
theorem out_apply (c : Dev nD) (i : grid0.Coords) (arg2 : Memref sig .tc .vmem S1024x2048 .fp8e4m3) (harg2 : arg2.IsWhole) (arg3 : Memref sig .tc .vmem S1024x1 .f32) (harg3 : arg3.IsWhole) (arg4 : Memref sig .tc .vmem S256x512 .i32) (harg4 : arg4.IsWhole) (arg5 : Memref sig .tc .vmem S4x4x512 .fp8e4m3) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole)
    (x0 : Vec Ideal S1024x2048 .fp8e4m3) (x1 : Vec Ideal S1024x1 .f32) (x2 : Vec Ideal S256x512 .i32) (x3 : Vec Ideal S4x4x512 .fp8e4m3) (x4 : Vec Ideal S1x512 .f32) (x5 : Vec Ideal S1024x512 .bf16) (a : Fin 1024) (b : Fin 512) :
    out0_A_6 (F := Ideal) c i arg2 harg2 arg3 harg3 arg4 harg4 arg5 harg5 arg6 harg6 arg7 harg7 arg8 harg8 arg9 harg9 x0 x1 x2 x3 x4 x5 (ix2 a b)
      = val x5 x0 x2 x3 x1 x4 a b := by
  unfold out0_A_6
  frame_out
  rw [pay_apply]
  unfold val
  rw [← Loop.acc_read Variants.none c none i arg2 harg2 arg3 harg3 arg4 harg4 arg5 harg5 arg6 harg6 arg7 harg7 arg8 harg8 arg9 harg9 x0 x2 x3 a b]

end Cert.WoIdeal.Block
-- ==== Proof.WoArray.lean ====
/- The array the output projection of the attention leaves, element by element: every grid point's block is a block of it. -/
module

public import proofs.«01_k».proof.Proof.Gen.WoIdeal.Value
public import proofs.«01_k».proof.Proof.WoBlock
public import proofs.«01_k».proof.Proof.ResidualSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.WoIdeal.Arr

open Cert.WoIdeal Cert.WoIdeal.Gen

variable (m : (ℓ : Loc nD τ sig) → Buf (Elt Ideal) ℓ)

/-- Where each window's block lies at a grid point. -/
theorem idx : ∀ t : Fin cfg0.N,
    win0_0.index t = ![(grid0.coords t 0).val, 0] ∧ win0_1.index t = ![(grid0.coords t 0).val, 0]
    ∧ win0_2.index t = ![0, (grid0.coords t 1).val] ∧ win0_3.index t = ![0, 0, (grid0.coords t 1).val] ∧ win0_4.index t = ![0, (grid0.coords t 1).val]
    ∧ win0_5.index t = ![(grid0.coords t 0).val, (grid0.coords t 1).val] ∧ win0_6.index t = ![(grid0.coords t 0).val, (grid0.coords t 1).val] :=
  (by decide +kernel : ∀ t : Fin grid0.N,
    win0_0.index t = ![(grid0.coords t 0).val, 0] ∧ win0_1.index t = ![(grid0.coords t 0).val, 0]
    ∧ win0_2.index t = ![0, (grid0.coords t 1).val] ∧ win0_3.index t = ![0, 0, (grid0.coords t 1).val] ∧ win0_4.index t = ![0, (grid0.coords t 1).val]
    ∧ win0_5.index t = ![(grid0.coords t 0).val, (grid0.coords t 1).val] ∧ win0_6.index t = ![(grid0.coords t 0).val, (grid0.coords t 1).val])

/-- A block's element is the array's: a whole row times a whole column, added to the residual. -/
theorem sum_val (c : Dev nD) (t : Fin cfg0.N) (a : Fin 1024) (b : Fin 512) (h0 h1) :
    Block.val (iblk m c 5 t) (iblk m c 0 t) (iblk m c 2 t) (iblk m c 3 t) (iblk m c 1 t) (iblk m c 4 t) a b
      = Residual.out 2048 256 16 rfl rfl .bf16 (m (c.tc.loc main_arg0)) (m (c.tc.loc main_arg1)) (m (c.tc.loc main_arg2)) (m (c.tc.loc main_arg3)) (m (c.tc.loc main_arg4)) (m (c.tc.loc main_arg5))
          ⟨(grid0.coords t 0).val * 1024 + a.val, h0⟩ ⟨(grid0.coords t 1).val * 512 + b.val, h1⟩ := by
  unfold Residual.out Lin.elem Block.val
  rw [Lin.dot_trips 4 2048 256 16 rfl rfl rfl]
  unfold Loop.trip
  blk_point [iblk, V, idx t]

/-- The result array as a whole. -/
theorem final (c : Dev nD) : (dats m 0 c).arrAt 6 (cfgs 0).N
    = Residual.arr 2048 256 16 rfl rfl .bf16 (m (c.tc.loc main_arg0)) (m (c.tc.loc main_arg1)) (m (c.tc.loc main_arg2)) (m (c.tc.loc main_arg3)) (m (c.tc.loc main_arg4)) (m (c.tc.loc main_arg5)) .f32 := by
  refine (dats m 0 c).arrAt_eq_of_covers 6 _ (by decide +kernel) fun t _ y => ?_
  idx_vars y
  blk_simp
  unfold Residual.arr
  rw [after0_6]
  unfold outsAt0
  have hi : (grid0.coords t 0).val < 3 := (grid0.coords t 0).isLt
  have hj : (grid0.coords t 1).val < 32 := (grid0.coords t 1).isLt
  have e0 : ((View.whole main_v2).slice (win0_6.rect t)).emb (ix2 y0 y1) 0 = (⟨(grid0.coords t 0).val * 1024 + y0.val, by omega⟩ : Fin 3072) := by
    refine Fin.ext ?_
    blk_simp [idx t]
  have e1 : ((View.whole main_v2).slice (win0_6.rect t)).emb (ix2 y0 y1) 1 = (⟨(grid0.coords t 1).val * 512 + y1.val, by omega⟩ : Fin 16384) := by
    refine Fin.ext ?_
    blk_simp [idx t]
  rw [e0, e1]
  refine (Block.out_apply _ _ _ _ _ _ _ _ _ _ _ _ _ _ _ _ _ _ _ _ _ _ _ _  y0 y1).trans ?_
  exact sum_val m c t y0 y1 (by omega) (by omega)

end Cert.WoIdeal.Arr
-- ==== Proof.WoRef.lean ====
/- What the reference of the output projection of the attention computes, element by element. -/
module

public import proofs.«01_k».proof.Proof.Gen.WoRefIdeal.Read
public import proofs.«01_k».proof.Proof.Nibble
public import proofs.«01_k».proof.Proof.ResidualSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.WoRefIdeal.Elem

open Cert.WoRefIdeal Cert.WoRefIdeal.Gen Cert.WoRefIdeal.Value

variable (m : (ℓ : Loc nD τ sig) → Buf (Elt Ideal) ℓ)

/-- The reference's one launch takes every array whole. -/
theorem idx : win0_0.index t0_0 = ![0, 0] ∧ win0_1.index t0_0 = ![0, 0] ∧ win0_2.index t0_0 = ![0, 0, 0] := by decide +kernel

theorem blk0 (c : Dev nD) : iblk m c 0 t0_0 = V m c main_arg0 := by
  funext j
  blk_ext [iblk, idx]
theorem blk1 (c : Dev nD) : iblk m c 1 t0_0 = V m c main_arg3 := by
  funext j
  blk_ext [iblk, idx]
theorem blk2 (c : Dev nD) : iblk m c 2 t0_0 = V m c main_v16 := by
  funext j
  blk_ext [iblk, idx]

/-- The launch's first result: the activations' codes, cast. -/
theorem reg0 (c : Dev nD) : reg_main_v17_0 m c = k0_pay1 (m ((c : Thread nD τ).loc main_arg0)) := by
  unfold reg_main_v17_0
  refine (dats m 0 c).arrAt_eq_of_after_last 3 t0_0 (by decide +kernel) _ fun j => ?_
  blk_simp; rw [after0_3]; frame_out; rw [blk0, V_main_arg0]
/-- The launch's second result: the group scales, cast. -/
theorem reg1 (c : Dev nD) : reg_main_v17_1 m c = k0_pay2 (m ((c : Thread nD τ).loc main_arg3)) := by
  unfold reg_main_v17_1
  refine (dats m 0 c).arrAt_eq_of_after_last 4 t0_0 (by decide +kernel) _ fun j => ?_
  blk_simp; rw [after0_4]; frame_out; rw [blk1, V_main_arg3]
/-- The launch's third result: the fields of the packed weight, cast. -/
theorem reg2 (c : Dev nD) : reg_main_v17_2 m c = k0_pay3 (V m c main_v16) := by
  unfold reg_main_v17_2
  refine (dats m 0 c).arrAt_eq_of_after_last 5 t0_0 (by decide +kernel) _ fun j => ?_
  blk_simp; rw [after0_5]; frame_out
  rw [blk2]

/-- Field `a` of word `b` of column `d` of the packed weight. -/
theorem fields (c : Dev nD) (a : Fin 8) (b : Fin 256) (d : Fin 16384) :
    reg_main_v17_2 m c (ix3 a b d) = Lin.nib (m ((c : Thread nD τ).loc main_arg2) (ix2 b d)) a.val := by
  rw [reg2]
  entry_read
  simp only [Gen.hostOps0, Gen.hostOps0_1, Gen.hostOps0_2, TRef.binary, TRef.nullary, TRef.unary, TRef.ternary, TRef.toBuf,
    TRef.ofBuf, cast_eq, List.flatten_cons, List.flatten_nil, List.append_nil, List.cons_append, List.nil_append]
  after_results
  pointwise [k0_pay3]
  exact Lin.sitofp_field _ a

/-- The activations' codes, element by element. -/
theorem act (c : Dev nD) (t : Fin 3072) (q : Fin 2048) :
    reg_main_v17_0 m c (ix2 t q) = m ((c : Thread nD τ).loc main_arg0) (ix2 t q) := by
  rw [reg0]; rfl
/-- The group scales, element by element. -/
theorem gscale (c : Dev nD) (t : Fin 16) (q : Fin 16384) :
    reg_main_v17_1 m c (ix2 t q) = m ((c : Thread nD τ).loc main_arg3) (ix2 t q) := by
  rw [reg1]; rfl

/-- One element of the reference's result. -/
theorem val (c : Dev nD) (t : Fin 3072) (n : Fin 16384) :
    Read.val_main_v32 (F := Ideal) (m (c.tc.loc main_arg1)) (m (c.tc.loc main_arg4)) (reg_main_v17_0 m c) (reg_main_v17_1 m c) (reg_main_v17_2 m c) (extf (F := Ideal) (s := S3072x16384) .f32 (m (c.tc.loc main_arg5)) bitsLt_bf16_f32) (ix2 t n)
      = Residual.out 2048 256 16 rfl rfl .bf16 (m (c.tc.loc main_arg0)) (m (c.tc.loc main_arg1)) (m (c.tc.loc main_arg2)) (m (c.tc.loc main_arg3)) (m (c.tc.loc main_arg4)) (m (c.tc.loc main_arg5)) t n := by
  have h0 := act m c t
  have h1 := gscale m c
  have h2 := fields m c
  revert h0 h1 h2
  generalize reg_main_v17_0 m c = r0
  generalize reg_main_v17_1 m c = r1
  generalize reg_main_v17_2 m c = r2
  intro h0 h1 h2
  unfold Read.val_main_v32 Read.val_main_v31 Read.val_main_v30 Read.val_main_v29 Read.val_main_v28 Read.val_main_v27 Read.val_main_v26 Read.val_main_v25 Read.val_main_v24 Read.val_main_v23 Read.val_main_v22 Read.val_main_v21 Read.val_main_v20 Read.val_main_v19 Read.val_main_v18
  pointwise
  simp only [h0, h1, h2, Residual.out, Lin.elem, Lin.dot_words, Nat.mul_comm 8]

/-- The reference's result as a whole. -/
theorem final (c : Dev nD) :
    Read.val_main_v32 (F := Ideal) (m (c.tc.loc main_arg1)) (m (c.tc.loc main_arg4)) (reg_main_v17_0 m c) (reg_main_v17_1 m c) (reg_main_v17_2 m c) (extf (F := Ideal) (s := S3072x16384) .f32 (m (c.tc.loc main_arg5)) bitsLt_bf16_f32)
      = Residual.arr 2048 256 16 rfl rfl .bf16 (m (c.tc.loc main_arg0)) (m (c.tc.loc main_arg1)) (m (c.tc.loc main_arg2)) (m (c.tc.loc main_arg3)) (m (c.tc.loc main_arg4)) (m (c.tc.loc main_arg5)) .f32 := by
  funext i
  idx_vars i
  exact val m c i0 i1

end Cert.WoRefIdeal.Elem
-- ==== Proof.WoClaim.lean ====
/- The output projection of the attention and its reference leave the same array. -/
module

public import proofs.«01_k».proof.Defs
public import proofs.«01_k».proof.Proof.WoArray
public import proofs.«01_k».proof.Proof.WoRef

@[expose] public section

set_option maxRecDepth 16384

noncomputable section

open Idealize.ShloMosaic Idealize.ShloMosaic.TcCoe Idealize.SL.Sem Idealize.ShloMosaic.StableHlo
open Idealize.ShloMosaic.Pipeline (Dat)

namespace Cert.WoIdeal

/-- From memories agreeing on the arguments both runs end with the same array. -/
theorem algebraic : @Cert.algebraic_WoIdeal_WoRefIdeal Cert.WoIdeal.Gen.facts Cert.WoRefIdeal.Gen.facts := by
  intro m g m' g' _ ha
  refine ⟨fun c => (Gen.dats m 0 c).arrAt 6 cfg0.N, Value.run_blocks m g, ?_⟩
  refine (θ_run _ _ _).mono (fun r h c => ⟨(h c).1.trans ?_, (h c).2⟩) (Cert.WoRefIdeal.Value.run m' g')
  obtain ⟨h0, h1, h2, h3, h4, h5⟩ := ha c
  refine (Cert.WoRefIdeal.Elem.final m' c).trans ?_
  exact (congrFun (congr (congr (congr (congr (congr (congrArg (Residual.arr 2048 256 16 rfl rfl .bf16) h0) h1) h2) h3) h4) h5) .f32).trans
    (Arr.final m c).symm

end Cert.WoIdeal
-- ==== Proof.TokSpec.lean ====
/- The quantiser of one token: the scale is the row's largest magnitude over 448, or one for a row of zeros, and a code
   is the element over the scale, clipped at 448 on both sides; before it, for the normalised inputs, the division by the
   root mean square. Each is read once as a kernel writes it and once as the host does. Nothing here is about a particular
   program. -/
module

public import Idealize.ShloMosaic.Lib.Pointwise

@[expose] public section

noncomputable section

open Idealize.ShloMosaic

namespace Tok

variable {T D : ℕ}

/-- The largest magnitude of a row. -/
def amax (v : Fin D → EReal) : EReal :=
  (Finset.univ : Finset (Fin D)).fold max (Ideal.ofBits .f32 4286578688#32) (fun k => FloatOps.absf (F := Ideal) (φ := .f32) (v k))

/-- The scale that belongs to a largest magnitude. -/
def scaleOf (M : EReal) : EReal := if M = 0 then 1 else Ideal.div M (Ideal.ofBits .f32 1138753536#32)

/-- The row's scale. -/
def scale (v : Fin D → EReal) : EReal := scaleOf (amax v)

/-- The code of an element, given the scale. -/
def clip (x s : EReal) : EReal :=
  min (Ideal.ofBits .f32 1138753536#32) (max (Ideal.ofBits .f32 3286237184#32) (Ideal.div x s))

/-- The row's code at a column. -/
def code (v : Fin D → EReal) (b : Fin D) : EReal := clip (v b) (scale v)

/-- A row divided by its root mean square (the mean taken over 16384, with 1e-5 added) and multiplied by gains. -/
def norm (v g : Fin D → EReal) (b : Fin D) : EReal :=
  Ideal.div (v b) (Ideal.sqrt (Ideal.div (∑ k, v k * v k) (Ideal.ofBits .f32 1182793728#32) + Ideal.ofBits .f32 925353388#32)) * g b

/-- The rows of an array. -/
def rows (φ : FTy) (x : FVec Ideal ⟨2, ![T, D]⟩ φ) (a : Fin T) (k : Fin D) : EReal := x (ix2 a k)

/-- The rows of an array, normalised. -/
def normed (φ : FTy) (x : FVec Ideal ⟨2, ![T, D]⟩ φ) (g : FVec Ideal ⟨1, ![D]⟩ .f32) (a : Fin T) : Fin D → EReal :=
  norm (rows φ x a) (fun k => g (ix1 k))

/-- The array of the scales of some rows. -/
def scales (V : Fin T → Fin D → EReal) : FVec Ideal ⟨2, ![T, 1]⟩ .f32 := fun j => scale (V (j 0))

/-- The array of the codes of some rows. -/
def codes (V : Fin T → Fin D → EReal) : FVec Ideal ⟨2, ![T, D]⟩ .fp8e4m3 := fun j => code (V (j 0)) (j 1)

/-- A coordinate along an axis that a broadcast keeps: at size one the only coordinate is zero. -/
theorem pin {n : ℕ} (a : Fin n) : a.val = if n = 1 then 0 else a.val := by
  have := a.isLt
  split <;> omega

/-! ## As a kernel writes it -/

section Kernel

variable (hc : (⟨1, ![T]⟩ : Shape).ShapeCasts ⟨2, ![T, 1]⟩) (hb : (⟨2, ![T, 1]⟩ : Shape).Broadcasts ⟨2, ![T, D]⟩)
  (hr : (⟨2, ![T, D]⟩ : Shape).Reduces [1] ⟨1, ![T]⟩)

/-- One row's value, read through the cast to a column. -/
theorem column (S : FVec Ideal ⟨1, ![T]⟩ .f32) (a : Fin T) : shapeCast ⟨2, ![T, 1]⟩ S hc (ix2 a 0) = S (ix1 a) :=
  shapeCast_apply _ _ (ix2 a 0) (ix1 a) (by
    rw [Shape.rowMajor_val_two, Shape.rowMajor_val_one]
    show a.val = a.val * 1 + 0
    omega)

/-- One row's value, read through the broadcast along the row. -/
theorem along (S : FVec Ideal ⟨2, ![T, 1]⟩ .f32) (a : Fin T) (b : Fin D) : broadcastTo ⟨2, ![T, D]⟩ S hb (ix2 a b) = S (ix2 a 0) := by
  refine broadcastTo_apply S hb _ _ fun i => ?_
  fin_cases i
  · exact pin a
  · rfl

/-- The scales, at a row. -/
theorem scale_apply (x : FVec Ideal ⟨2, ![T, D]⟩ .f32) (hφ : FKind.Formats .f32) (hacc) (a : Fin T) :
    select (cmpf .oeq (shapeCast ⟨2, ![T, 1]⟩ (multiReduction .maximumf [1] ⟨1, ![T]⟩ (absf x) 0xFF800000#32 hr hφ hacc) hc)
        (broadcast ⟨2, ![T, 1]⟩ (FloatOps.ofBits .f32 0#32))) (broadcast ⟨2, ![T, 1]⟩ (FloatOps.ofBits .f32 1065353216#32))
      (divf (shapeCast ⟨2, ![T, 1]⟩ (multiReduction .maximumf [1] ⟨1, ![T]⟩ (absf x) 0xFF800000#32 hr hφ hacc) hc)
        (broadcast ⟨2, ![T, 1]⟩ (FloatOps.ofBits .f32 1138753536#32))) (ix2 a 0) = scale (fun k => x (ix2 a k)) := by
  have hM : multiReduction .maximumf [1] ⟨1, ![T]⟩ (absf x) 0xFF800000#32 hr hφ hacc (ix1 a) = amax (fun k => x (ix2 a k)) := by
    pointwise
    rfl
  unfold scale
  generalize multiReduction .maximumf [1] ⟨1, ![T]⟩ (absf x) 0xFF800000#32 hr hφ hacc = R at hM ⊢
  rw [← hM, ← column hc R a]
  generalize shapeCast ⟨2, ![T, 1]⟩ R hc = S
  pointwise
  rfl

/-- The codes, at an index. -/
theorem code_apply (x S : FVec Ideal ⟨2, ![T, D]⟩ .f32) (h) (a : Fin T) (b : Fin D) (hS : S (ix2 a b) = scale (fun k => x (ix2 a k))) :
    truncf .fp8e4m3 (minimumf (broadcast ⟨2, ![T, D]⟩ (FloatOps.ofBits .f32 1138753536#32))
      (maximumf (broadcast ⟨2, ![T, D]⟩ (FloatOps.ofBits .f32 3286237184#32)) (divf x S))) h (ix2 a b)
      = code (fun k => x (ix2 a k)) b := by
  unfold code
  rw [← hS]
  rfl

/-- The normalised rows, at an index. -/
theorem norm_apply (x : FVec Ideal ⟨2, ![T, D]⟩ .f32) (g : FVec Ideal ⟨2, ![1, D]⟩ .f32) (hφ : FKind.Formats .f32) (hacc) (hg) (hgb)
    (a : Fin T) (b : Fin D) :
    mulf (divf x (broadcastTo ⟨2, ![T, D]⟩
        (sqrt (addf (divf (shapeCast ⟨2, ![T, 1]⟩ (multiReduction .add [1] ⟨1, ![T]⟩ (mulf x x) 0x00000000#32 hr hφ hacc) hc)
          (broadcast ⟨2, ![T, 1]⟩ (FloatOps.ofBits .f32 1182793728#32))) (broadcast ⟨2, ![T, 1]⟩ (FloatOps.ofBits .f32 925353388#32)))) hb))
        (broadcastTo ⟨2, ![T, D]⟩ (shapeCast ⟨2, ![1, D]⟩ g hg) hgb) (ix2 a b)
      = norm (fun k => x (ix2 a k)) (fun k => g (ix2 0 k)) b := by
  have hM : multiReduction .add [1] ⟨1, ![T]⟩ (mulf x x) 0x00000000#32 hr hφ hacc (ix1 a) = ∑ k, x (ix2 a k) * x (ix2 a k) := by
    pointwise
  have hG : broadcastTo ⟨2, ![T, D]⟩ (shapeCast ⟨2, ![1, D]⟩ g hg) hgb (ix2 a b) = g (ix2 0 b) := by
    rw [shapeCast_self]
    refine broadcastTo_apply g hgb _ _ fun i => ?_
    fin_cases i
    · rfl
    · exact pin b
  unfold norm
  beta_reduce
  generalize multiReduction .add [1] ⟨1, ![T]⟩ (mulf x x) 0x00000000#32 hr hφ hacc = R at hM ⊢
  rw [← hM, ← column hc R a, ← hG]
  generalize shapeCast ⟨2, ![T, 1]⟩ R hc = S
  generalize broadcastTo ⟨2, ![T, D]⟩ (shapeCast ⟨2, ![1, D]⟩ g hg) hgb = G
  exact congrArg (fun y => Ideal.div (x (ix2 a b)) y * G (ix2 a b)) (along hb _ a b)

end Kernel

/-! ## As the host does -/

section Host

/-- One row's value, read through the broadcast along the row. -/
theorem host_along (hb : (⟨2, ![T, 1]⟩ : Shape).BroadcastsInDim ⟨2, ![T, D]⟩ ![0, 1]) (S : FVec Ideal ⟨2, ![T, 1]⟩ .f32)
    (a : Fin T) (b : Fin D) : broadcastInDim ⟨2, ![T, D]⟩ ![0, 1] hb S (ix2 a b) = S (ix2 a 0) := by
  refine broadcastInDim_apply _ hb S _ _ fun i => ?_
  fin_cases i
  · exact pin a
  · rfl

/-- One row's value, read through the broadcast to a column. -/
theorem host_column (hc : (⟨1, ![T]⟩ : Shape).BroadcastsInDim ⟨2, ![T, 1]⟩ ![0]) (S : FVec Ideal ⟨1, ![T]⟩ .f32) (a : Fin T) :
    broadcastInDim ⟨2, ![T, 1]⟩ ![0] hc S (ix2 a 0) = S (ix1 a) := by
  refine broadcastInDim_apply _ hc S _ _ fun i => ?_
  fin_cases i
  exact pin a

variable (hc : (⟨1, ![T]⟩ : Shape).BroadcastsInDim ⟨2, ![T, 1]⟩ ![0])

/-- The scales, at a row. -/
theorem host_scale_apply (x : FVec Ideal ⟨2, ![T, D]⟩ .f32) (hr : (⟨2, ![T, D]⟩ : Shape).ReducesTo [1] ⟨1, ![T]⟩)
    (hu : 0 < (⟨0, ![]⟩ : Shape).numel) (hs) (a : Fin T) :
    broadcastInDim ⟨2, ![T, 1]⟩ ![0] hc (select
        (cmpf .oeq (Host.reduce (FloatOps.maximumf (F := Ideal) (φ := .f32)) (Host.absf x) (constant (F := Ideal) ⟨0, ![]⟩ .f32 4286578688#32) hr hu)
          (broadcastInDim ⟨1, ![T]⟩ ![] hs (constant (F := Ideal) ⟨0, ![]⟩ .f32 0#32)))
        (broadcastInDim ⟨1, ![T]⟩ ![] hs (id (constant (F := Ideal) ⟨0, ![]⟩ .f32 1065353216#32)))
        (Host.divf (Host.reduce (FloatOps.maximumf (F := Ideal) (φ := .f32)) (Host.absf x) (constant (F := Ideal) ⟨0, ![]⟩ .f32 4286578688#32) hr hu)
          (broadcastInDim ⟨1, ![T]⟩ ![] hs (constant (F := Ideal) ⟨0, ![]⟩ .f32 1138753536#32)))) (ix2 a 0)
      = scale (fun k => x (ix2 a k)) := by
  have hM : Host.reduce (FloatOps.maximumf (F := Ideal) (φ := .f32)) (Host.absf x) (constant (F := Ideal) ⟨0, ![]⟩ .f32 4286578688#32) hr hu (ix1 a) = amax (fun k => x (ix2 a k)) := by
    pointwise
    rfl
  unfold scale id
  rw [← hM]
  generalize Host.reduce (FloatOps.maximumf (F := Ideal) (φ := .f32)) _ _ hr hu = S
  refine (host_column hc _ a).trans ?_
  pointwise
  rfl

/-- The codes before their cast, at an index. -/
theorem host_code_apply (x : FVec Ideal ⟨2, ![T, D]⟩ .f32) (S : FVec Ideal ⟨2, ![T, 1]⟩ .f32) (hs) (hb) (a : Fin T) (b : Fin D)
    (hS : S (ix2 a 0) = scale (fun k => x (ix2 a k))) :
    minimumf (F := Ideal) (φ := .f32) (broadcastInDim ⟨2, ![T, D]⟩ ![] hs (id (constant (F := Ideal) ⟨0, ![]⟩ .f32 1138753536#32)))
      (maximumf (broadcastInDim ⟨2, ![T, D]⟩ ![] hs (id (constant (F := Ideal) ⟨0, ![]⟩ .f32 3286237184#32)))
        (Host.divf x (broadcastInDim ⟨2, ![T, D]⟩ ![0, 1] hb S))) (ix2 a b) = code (fun k => x (ix2 a k)) b := by
  unfold code id
  rw [← hS]
  exact congrArg (clip (x (ix2 a b))) (host_along hb S a b)

/-- The normalised rows, at an index. -/
theorem host_norm_apply (x : FVec Ideal ⟨2, ![T, D]⟩ .f32) (g : FVec Ideal ⟨1, ![D]⟩ .f32) (hr : (⟨2, ![T, D]⟩ : Shape).ReducesTo [1] ⟨1, ![T]⟩)
    (hu : 0 < (⟨0, ![]⟩ : Shape).numel) (hs) (hb) (hg : (⟨1, ![D]⟩ : Shape).BroadcastsInDim ⟨2, ![1, D]⟩ ![1])
    (hgb : (⟨2, ![1, D]⟩ : Shape).BroadcastsInDim ⟨2, ![T, D]⟩ ![0, 1]) (a : Fin T) (b : Fin D) :
    mulf (Host.divf x (broadcastInDim ⟨2, ![T, D]⟩ ![0, 1] hb
        (Host.sqrt (addf (Host.divf (broadcastInDim ⟨2, ![T, 1]⟩ ![0] hc
            (Host.reduceAdd (mulf x x) (constant (F := Ideal) ⟨0, ![]⟩ .f32 0#32) hr hu))
          (broadcastInDim ⟨2, ![T, 1]⟩ ![] hs (constant (F := Ideal) ⟨0, ![]⟩ .f32 1182793728#32)))
          (broadcastInDim ⟨2, ![T, 1]⟩ ![] hs (constant (F := Ideal) ⟨0, ![]⟩ .f32 925353388#32))))))
      (broadcastInDim ⟨2, ![T, D]⟩ ![0, 1] hgb (broadcastInDim ⟨2, ![1, D]⟩ ![1] hg g)) (ix2 a b)
      = norm (fun k => x (ix2 a k)) (fun k => g (ix1 k)) b := by
  have hM : Host.reduceAdd (mulf x x) (constant (F := Ideal) ⟨0, ![]⟩ .f32 0#32) hr hu (ix1 a) = ∑ k, x (ix2 a k) * x (ix2 a k) := by
    pointwise
  have hG : broadcastInDim ⟨2, ![T, D]⟩ ![0, 1] hgb (broadcastInDim ⟨2, ![1, D]⟩ ![1] hg g) (ix2 a b) = g (ix1 b) := by
    refine (broadcastInDim_apply _ hgb _ _ (ix2 0 b) fun i => ?_).trans (broadcastInDim_apply _ hg g _ _ fun i => ?_)
    · fin_cases i
      · rfl
      · exact pin b
    · fin_cases i
      exact pin b
  unfold norm
  beta_reduce
  generalize Host.reduceAdd (mulf x x) (constant (F := Ideal) ⟨0, ![]⟩ .f32 0#32) hr hu = R at hM ⊢
  generalize broadcastInDim ⟨2, ![T, D]⟩ ![0, 1] hgb (broadcastInDim ⟨2, ![1, D]⟩ ![1] hg g) = G at hG ⊢
  rw [← hM, ← host_column hc R a, ← hG]
  generalize broadcastInDim ⟨2, ![T, 1]⟩ ![0] hc R = S
  exact congrArg (fun y => Ideal.div (x (ix2 a b)) y * G (ix2 a b)) (host_along hb _ a b)

end Host

end Tok

end

end
-- ==== Proof.NormQArray.lean ====
/- The arrays the input norm and its quantiser leave: the codes and the scales of the normalised rows. -/
module

public import proofs.«01_k».proof.Proof.Gen.NormQIdeal.Value
public import proofs.«01_k».proof.Proof.TokSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.NormQIdeal.Arr

open Cert.NormQIdeal Cert.NormQIdeal.Gen

variable (m : (ℓ : Loc nD τ sig) → Buf (Elt Ideal) ℓ)

/-- A row of a block, normalised. -/
def blockRow (x : FVec Ideal S128x16384 .bf16) (g : FVec Ideal S1x16384 .f32) (a : Fin 128) : Fin 16384 → EReal :=
  Tok.norm (Tok.rows .bf16 x a) (fun k => g (ix2 0 k))

/-- A block's normalised rows. -/
theorem norm (x : FVec Ideal S128x16384 .bf16) (g : FVec Ideal S1x16384 .f32) (a : Fin 128) :
    Tok.rows .f32 (k0_pay1 (F := Ideal) x g) a = blockRow x g a :=
  funext fun b => Tok.norm_apply _ _ _ (extf .f32 x bitsLt_bf16_f32) g _ _ _ _ a b

/-- A block's scales. -/
theorem scale (x : FVec Ideal S128x16384 .bf16) (g : FVec Ideal S1x16384 .f32) (a : Fin 128) :
    k0_pay2 (F := Ideal) x g (ix2 a 0) = Tok.scale (blockRow x g a) :=
  (Tok.scale_apply _ _ (k0_pay1 (F := Ideal) x g) _ _ a).trans (congrArg Tok.scale (norm x g a))

/-- A block's codes. -/
theorem code (x : FVec Ideal S128x16384 .bf16) (g : FVec Ideal S1x16384 .f32) (a : Fin 128) (b : Fin 16384) :
    k0_pay3 (F := Ideal) x g (ix2 a b) = Tok.code (blockRow x g a) b :=
  (Tok.code_apply (k0_pay1 (F := Ideal) x g) _ _ a b ((Tok.along _ (k0_pay2 (F := Ideal) x g) a b).trans (Tok.scale_apply _ _ _ _ _ a))).trans
    (congrArg (Tok.code · b) (norm x g a))

/-- Where each window's block lies at a grid point. -/
theorem idx : ∀ t : Fin cfg0.N,
    win0_0.index t = ![(grid0.coords t 0).val, 0] ∧ win0_1.index t = ![0, 0] ∧ win0_2.index t = ![(grid0.coords t 0).val, 0] ∧ win0_3.index t = ![(grid0.coords t 0).val, 0] :=
  (by decide +kernel : ∀ t : Fin grid0.N,
    win0_0.index t = ![(grid0.coords t 0).val, 0] ∧ win0_1.index t = ![0, 0] ∧ win0_2.index t = ![(grid0.coords t 0).val, 0] ∧ win0_3.index t = ![(grid0.coords t 0).val, 0])

/-- The gains as the region reads them: the host only adds an axis. -/
theorem gains (c : Dev nD) (k : Fin 16384) : V m c main_v0 (ix2 0 k) = m ((c : Thread nD τ).loc main_arg1) (ix1 k) := by
  entry_read
  pointwise

/-- A block's gains are all the gains. -/
theorem blockGains (c : Dev nD) (t : Fin cfg0.N) (k : Fin 16384) : iblk m c 1 t (ix2 0 k) = m ((c : Thread nD τ).loc main_arg1) (ix1 k) := by
  refine Eq.trans ?_ (gains m c k)
  blk_point [iblk, idx t]

/-- A row of a block is a row of the array. -/
theorem row (c : Dev nD) (t : Fin cfg0.N) (a : Fin 128) (h) :
    blockRow (iblk m c 0 t) (iblk m c 1 t) a = Tok.normed .bf16 (m ((c : Thread nD τ).loc main_arg0)) (m ((c : Thread nD τ).loc main_arg1)) ⟨(grid0.coords t 0).val * 128 + a.val, h⟩ := by
  unfold blockRow Tok.normed
  refine congr (congrArg Tok.norm (funext fun k => ?_)) (funext fun k => blockGains m c t k)
  unfold Tok.rows
  blk_point [iblk, V, idx t]

/-- The codes as a whole. -/
theorem codes (c : Dev nD) : (dats m 0 c).arrAt 2 (cfgs 0).N = Tok.codes (Tok.normed .bf16 (m ((c : Thread nD τ).loc main_arg0)) (m ((c : Thread nD τ).loc main_arg1))) := by
  refine (dats m 0 c).arrAt_eq_of_covers 2 _ (by decide +kernel) fun t _ y => ?_
  idx_vars y
  blk_simp
  rw [after0_2]
  frame_out
  have hi : (grid0.coords t 0).val < 24 := (grid0.coords t 0).isLt
  have e0 : ((View.whole main_v1_0).slice (win0_2.rect t)).emb (ix2 y0 y1) 0 = (⟨(grid0.coords t 0).val * 128 + y0.val, by omega⟩ : Fin 3072) := by
    refine Fin.ext ?_
    blk_simp [idx t]
  have e1 : ((View.whole main_v1_0).slice (win0_2.rect t)).emb (ix2 y0 y1) 1 = y1 := by
    refine Fin.ext ?_
    blk_simp [idx t]
  unfold Tok.codes
  rw [e0, e1]
  exact (code _ _ y0 y1).trans (congrArg (Tok.code · y1) (row m c t y0 (by omega)))

/-- The scales as a whole. -/
theorem scales (c : Dev nD) : (dats m 0 c).arrAt 3 (cfgs 0).N = Tok.scales (Tok.normed .bf16 (m ((c : Thread nD τ).loc main_arg0)) (m ((c : Thread nD τ).loc main_arg1))) := by
  refine (dats m 0 c).arrAt_eq_of_covers 3 _ (by decide +kernel) fun t _ y => ?_
  idx_vars y
  blk_simp
  rw [after0_3]
  frame_out
  have hi : (grid0.coords t 0).val < 24 := (grid0.coords t 0).isLt
  have e0 : ((View.whole main_v1_1).slice (win0_3.rect t)).emb (ix2 y0 y1) 0 = (⟨(grid0.coords t 0).val * 128 + y0.val, by omega⟩ : Fin 3072) := by
    refine Fin.ext ?_
    blk_simp [idx t]
  obtain rfl : y1 = 0 := Subsingleton.elim _ _
  unfold Tok.scales
  rw [e0]
  exact (scale _ _ y0).trans (congrArg Tok.scale (row m c t y0 (by omega)))

end Cert.NormQIdeal.Arr
-- ==== Proof.NormQRef.lean ====
/- What the reference of the input norm and its quantiser leaves: the codes and the scales of the rows. -/
module

public import proofs.«01_k».proof.Proof.Gen.NormQRefIdeal.Value
public import proofs.«01_k».proof.Proof.TokSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.NormQRefIdeal.Elem

open Cert.NormQRefIdeal Cert.NormQRefIdeal.Gen

variable (m : (ℓ : Loc nD τ sig) → Buf (Elt Ideal) ℓ)

/-- The narrowing region has one grid point and whole arrays as blocks. -/
theorem idx : win0_0.index t0_0 = ![0, 0] ∧ win0_1.index t0_0 = ![0, 0] := by decide +kernel

/-- Over the extended reals the region's cast changes nothing. -/
theorem cast (x) (j) : k0_pay1 (F := Ideal) x j = x j :=
  congrFun (shapeCast_self x _) j

/-- The region copies the scales. -/
theorem copy (x) : k0_pay2 (F := Ideal) x = x := shapeCast_self _ _

/-- The block of the elements is their array. -/
theorem read0 (A : Buf (Elt Ideal) (((0 : Dev nD) : Thread nD τ).loc main_v24)) : ((cfg0.win 0).blk t0_0).view.read (Elt Ideal) A = A := by
  funext j
  blk_ext [idx]

/-- The block of the scales is their array. -/
theorem read1 (A : Buf (Elt Ideal) (((0 : Dev nD) : Thread nD τ).loc main_v25)) : ((cfg0.win 1).blk t0_0).view.read (Elt Ideal) A = A := by
  funext j
  blk_ext [idx]

/-- The same of the region's own blocks. -/
theorem blk0 (c : Dev nD) : iblk m c 0 t0_0 = V m c main_v24 := read0 (V m c main_v24)

/-- The same of the region's own blocks. -/
theorem blk1 (c : Dev nD) : iblk m c 1 t0_0 = V m c main_v25 := read1 (V m c main_v25)

/-- A row's scale. -/
theorem scale (c : Dev nD) (a : Fin 3072) :
    V m c main_v25 (ix2 a 0) = Tok.scale (D := 16384) (Tok.normed .bf16 (m ((c : Thread nD τ).loc main_arg0)) (m ((c : Thread nD τ).loc main_arg1)) a) := by
  entry_read
  simp only [Gen.hostOps0, Gen.hostOps0_1, Gen.hostOps0_2, Gen.hostOps0_3, Gen.hostOps0_4, TRef.binary, TRef.nullary, TRef.unary, TRef.ternary, TRef.toBuf,
    TRef.ofBuf, cast_eq, List.flatten_cons, List.flatten_nil, List.append_nil, List.cons_append, List.nil_append]
  after_results
  refine (Tok.host_scale_apply _ _ _ _ _ a).trans (congrArg Tok.scale (funext fun k => ?_))
  exact Tok.host_norm_apply _ _ _ _ _ _ _ _ _ a k

/-- A row's code at a column. -/
theorem code (c : Dev nD) (a : Fin 3072) (b : Fin 16384) :
    V m c main_v24 (ix2 a b) = Tok.code (D := 16384) (Tok.normed .bf16 (m ((c : Thread nD τ).loc main_arg0)) (m ((c : Thread nD τ).loc main_arg1)) a) b := by
  entry_read
  simp only [Gen.hostOps0, Gen.hostOps0_1, Gen.hostOps0_2, Gen.hostOps0_3, Gen.hostOps0_4, TRef.binary, TRef.nullary, TRef.unary, TRef.ternary, TRef.toBuf,
    TRef.ofBuf, cast_eq, List.flatten_cons, List.flatten_nil, List.append_nil, List.cons_append, List.nil_append]
  after_results
  refine (Tok.host_code_apply _ _ _ _ a b (Tok.host_scale_apply _ _ _ _ _ a)).trans (congrArg (Tok.code · b) (funext fun k => ?_))
  exact Tok.host_norm_apply _ _ _ _ _ _ _ _ _ a k

/-- The codes the reference leaves. -/
theorem codes (c : Dev nD) : (dats m 0 c).arrAt 2 (cfgs 0).N = Tok.codes (Tok.normed .bf16 (m ((c : Thread nD τ).loc main_arg0)) (m ((c : Thread nD τ).loc main_arg1))) := by
  refine (dats m 0 c).arrAt_eq_of_after_last 2 t0_0 (by decide +kernel) _ fun j => ?_
  idx_vars j
  blk_simp
  rw [after0_2]
  frame_out
  rw [blk0]
  refine (cast _ _).trans ?_
  unfold Tok.codes
  exact code m c j0 j1

/-- The scales the reference leaves. -/
theorem scales (c : Dev nD) : (dats m 0 c).arrAt 3 (cfgs 0).N = Tok.scales (Tok.normed .bf16 (m ((c : Thread nD τ).loc main_arg0)) (m ((c : Thread nD τ).loc main_arg1))) := by
  refine (dats m 0 c).arrAt_eq_of_after_last 3 t0_0 (by decide +kernel) _ fun j => ?_
  idx_vars j
  blk_simp
  rw [after0_3]
  frame_out
  rw [blk1]
  obtain rfl : j1 = 0 := Subsingleton.elim _ _
  rw [copy]
  unfold Tok.scales
  exact scale m c j0

end Cert.NormQRefIdeal.Elem
-- ==== Proof.NormQClaim.lean ====
/- The input norm with its quantiser and its reference leave the same two arrays. -/
module

public import proofs.«01_k».proof.Defs
public import proofs.«01_k».proof.Proof.NormQArray
public import proofs.«01_k».proof.Proof.NormQRef

@[expose] public section

set_option maxRecDepth 16384

noncomputable section

open Idealize.ShloMosaic Idealize.ShloMosaic.TcCoe Idealize.SL.Sem Idealize.ShloMosaic.StableHlo
open Idealize.ShloMosaic.Pipeline (Dat)

namespace Cert.NormQIdeal

/-- From memories agreeing on the arguments both runs end with the same codes and the same scales. -/
theorem algebraic : @Cert.algebraic_NormQIdeal_NormQRefIdeal Cert.NormQIdeal.Gen.facts Cert.NormQRefIdeal.Gen.facts := by
  intro m g m' g' _ ha
  refine ⟨fun c => (Gen.dats m 0 c).arrAt 2 cfg0.N, fun c => (Gen.dats m 0 c).arrAt 3 cfg0.N, Value.run_blocks m g, ?_⟩
  refine (θ_run _ _ _).mono (fun r h c => ⟨(h c).1.trans ?_, (h c).2.1.trans ?_, (h c).2.2⟩) (Cert.NormQRefIdeal.Value.run_blocks m' g')
  · obtain ⟨h0, h1⟩ := ha c
    refine (Cert.NormQRefIdeal.Elem.codes m' c).trans (Eq.trans ?_ (Arr.codes m c).symm)
    exact congrArg Tok.codes (congr (congrArg (Tok.normed (T := 3072) (D := 16384) .bf16) h0) h1)
  · obtain ⟨h0, h1⟩ := ha c
    refine (Cert.NormQRefIdeal.Elem.scales m' c).trans (Eq.trans ?_ (Arr.scales m c).symm)
    exact congrArg Tok.scales (congr (congrArg (Tok.normed (T := 3072) (D := 16384) .bf16) h0) h1)

end Cert.NormQIdeal
-- ==== Proof.NormRArray.lean ====
/- The arrays the residual norm and its quantiser leave: the codes and the scales of the normalised rows. -/
module

public import proofs.«01_k».proof.Proof.Gen.NormRIdeal.Value
public import proofs.«01_k».proof.Proof.TokSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.NormRIdeal.Arr

open Cert.NormRIdeal Cert.NormRIdeal.Gen

variable (m : (ℓ : Loc nD τ sig) → Buf (Elt Ideal) ℓ)

/-- A row of a block, normalised. -/
def blockRow (x : FVec Ideal S128x16384 .f32) (g : FVec Ideal S1x16384 .f32) (a : Fin 128) : Fin 16384 → EReal :=
  Tok.norm (Tok.rows .f32 x a) (fun k => g (ix2 0 k))

/-- A block's normalised rows. -/
theorem norm (x : FVec Ideal S128x16384 .f32) (g : FVec Ideal S1x16384 .f32) (a : Fin 128) :
    Tok.rows .f32 (k0_pay1 (F := Ideal) x g) a = blockRow x g a :=
  funext fun b => Tok.norm_apply _ _ _ x g _ _ _ _ a b

/-- A block's scales. -/
theorem scale (x : FVec Ideal S128x16384 .f32) (g : FVec Ideal S1x16384 .f32) (a : Fin 128) :
    k0_pay2 (F := Ideal) x g (ix2 a 0) = Tok.scale (blockRow x g a) :=
  (Tok.scale_apply _ _ (k0_pay1 (F := Ideal) x g) _ _ a).trans (congrArg Tok.scale (norm x g a))

/-- A block's codes. -/
theorem code (x : FVec Ideal S128x16384 .f32) (g : FVec Ideal S1x16384 .f32) (a : Fin 128) (b : Fin 16384) :
    k0_pay3 (F := Ideal) x g (ix2 a b) = Tok.code (blockRow x g a) b :=
  (Tok.code_apply (k0_pay1 (F := Ideal) x g) _ _ a b ((Tok.along _ (k0_pay2 (F := Ideal) x g) a b).trans (Tok.scale_apply _ _ _ _ _ a))).trans
    (congrArg (Tok.code · b) (norm x g a))

/-- Where each window's block lies at a grid point. -/
theorem idx : ∀ t : Fin cfg0.N,
    win0_0.index t = ![(grid0.coords t 0).val, 0] ∧ win0_1.index t = ![0, 0] ∧ win0_2.index t = ![(grid0.coords t 0).val, 0] ∧ win0_3.index t = ![(grid0.coords t 0).val, 0] :=
  (by decide +kernel : ∀ t : Fin grid0.N,
    win0_0.index t = ![(grid0.coords t 0).val, 0] ∧ win0_1.index t = ![0, 0] ∧ win0_2.index t = ![(grid0.coords t 0).val, 0] ∧ win0_3.index t = ![(grid0.coords t 0).val, 0])

/-- The gains as the region reads them: the host only adds an axis. -/
theorem gains (c : Dev nD) (k : Fin 16384) : V m c main_v0 (ix2 0 k) = m ((c : Thread nD τ).loc main_arg1) (ix1 k) := by
  entry_read
  pointwise

/-- A block's gains are all the gains. -/
theorem blockGains (c : Dev nD) (t : Fin cfg0.N) (k : Fin 16384) : iblk m c 1 t (ix2 0 k) = m ((c : Thread nD τ).loc main_arg1) (ix1 k) := by
  refine Eq.trans ?_ (gains m c k)
  blk_point [iblk, idx t]

/-- A row of a block is a row of the array. -/
theorem row (c : Dev nD) (t : Fin cfg0.N) (a : Fin 128) (h) :
    blockRow (iblk m c 0 t) (iblk m c 1 t) a = Tok.normed .f32 (m ((c : Thread nD τ).loc main_arg0)) (m ((c : Thread nD τ).loc main_arg1)) ⟨(grid0.coords t 0).val * 128 + a.val, h⟩ := by
  unfold blockRow Tok.normed
  refine congr (congrArg Tok.norm (funext fun k => ?_)) (funext fun k => blockGains m c t k)
  unfold Tok.rows
  blk_point [iblk, V, idx t]

/-- The codes as a whole. -/
theorem codes (c : Dev nD) : (dats m 0 c).arrAt 2 (cfgs 0).N = Tok.codes (Tok.normed .f32 (m ((c : Thread nD τ).loc main_arg0)) (m ((c : Thread nD τ).loc main_arg1))) := by
  refine (dats m 0 c).arrAt_eq_of_covers 2 _ (by decide +kernel) fun t _ y => ?_
  idx_vars y
  blk_simp
  rw [after0_2]
  frame_out
  have hi : (grid0.coords t 0).val < 24 := (grid0.coords t 0).isLt
  have e0 : ((View.whole main_v1_0).slice (win0_2.rect t)).emb (ix2 y0 y1) 0 = (⟨(grid0.coords t 0).val * 128 + y0.val, by omega⟩ : Fin 3072) := by
    refine Fin.ext ?_
    blk_simp [idx t]
  have e1 : ((View.whole main_v1_0).slice (win0_2.rect t)).emb (ix2 y0 y1) 1 = y1 := by
    refine Fin.ext ?_
    blk_simp [idx t]
  unfold Tok.codes
  rw [e0, e1]
  exact (code _ _ y0 y1).trans (congrArg (Tok.code · y1) (row m c t y0 (by omega)))

/-- The scales as a whole. -/
theorem scales (c : Dev nD) : (dats m 0 c).arrAt 3 (cfgs 0).N = Tok.scales (Tok.normed .f32 (m ((c : Thread nD τ).loc main_arg0)) (m ((c : Thread nD τ).loc main_arg1))) := by
  refine (dats m 0 c).arrAt_eq_of_covers 3 _ (by decide +kernel) fun t _ y => ?_
  idx_vars y
  blk_simp
  rw [after0_3]
  frame_out
  have hi : (grid0.coords t 0).val < 24 := (grid0.coords t 0).isLt
  have e0 : ((View.whole main_v1_1).slice (win0_3.rect t)).emb (ix2 y0 y1) 0 = (⟨(grid0.coords t 0).val * 128 + y0.val, by omega⟩ : Fin 3072) := by
    refine Fin.ext ?_
    blk_simp [idx t]
  obtain rfl : y1 = 0 := Subsingleton.elim _ _
  unfold Tok.scales
  rw [e0]
  exact (scale _ _ y0).trans (congrArg Tok.scale (row m c t y0 (by omega)))

end Cert.NormRIdeal.Arr
-- ==== Proof.NormRRef.lean ====
/- What the reference of the residual norm and its quantiser leaves: the codes and the scales of the rows. -/
module

public import proofs.«01_k».proof.Proof.Gen.NormRRefIdeal.Value
public import proofs.«01_k».proof.Proof.TokSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.NormRRefIdeal.Elem

open Cert.NormRRefIdeal Cert.NormRRefIdeal.Gen

variable (m : (ℓ : Loc nD τ sig) → Buf (Elt Ideal) ℓ)

/-- The narrowing region has one grid point and whole arrays as blocks. -/
theorem idx : win0_0.index t0_0 = ![0, 0] ∧ win0_1.index t0_0 = ![0, 0] := by decide +kernel

/-- Over the extended reals the region's cast changes nothing. -/
theorem cast (x) (j) : k0_pay1 (F := Ideal) x j = x j :=
  congrFun (shapeCast_self x _) j

/-- The region copies the scales. -/
theorem copy (x) : k0_pay2 (F := Ideal) x = x := shapeCast_self _ _

/-- The block of the elements is their array. -/
theorem read0 (A : Buf (Elt Ideal) (((0 : Dev nD) : Thread nD τ).loc main_v23)) : ((cfg0.win 0).blk t0_0).view.read (Elt Ideal) A = A := by
  funext j
  blk_ext [idx]

/-- The block of the scales is their array. -/
theorem read1 (A : Buf (Elt Ideal) (((0 : Dev nD) : Thread nD τ).loc main_v24)) : ((cfg0.win 1).blk t0_0).view.read (Elt Ideal) A = A := by
  funext j
  blk_ext [idx]

/-- The same of the region's own blocks. -/
theorem blk0 (c : Dev nD) : iblk m c 0 t0_0 = V m c main_v23 := read0 (V m c main_v23)

/-- The same of the region's own blocks. -/
theorem blk1 (c : Dev nD) : iblk m c 1 t0_0 = V m c main_v24 := read1 (V m c main_v24)

/-- A row's scale. -/
theorem scale (c : Dev nD) (a : Fin 3072) :
    V m c main_v24 (ix2 a 0) = Tok.scale (D := 16384) (Tok.normed .f32 (m ((c : Thread nD τ).loc main_arg0)) (m ((c : Thread nD τ).loc main_arg1)) a) := by
  entry_read
  simp only [Gen.hostOps0, Gen.hostOps0_1, Gen.hostOps0_2, Gen.hostOps0_3, Gen.hostOps0_4, TRef.binary, TRef.nullary, TRef.unary, TRef.ternary, TRef.toBuf,
    TRef.ofBuf, cast_eq, List.flatten_cons, List.flatten_nil, List.append_nil, List.cons_append, List.nil_append]
  after_results
  refine (Tok.host_scale_apply _ _ _ _ _ a).trans (congrArg Tok.scale (funext fun k => ?_))
  exact Tok.host_norm_apply _ _ _ _ _ _ _ _ _ a k

/-- A row's code at a column. -/
theorem code (c : Dev nD) (a : Fin 3072) (b : Fin 16384) :
    V m c main_v23 (ix2 a b) = Tok.code (D := 16384) (Tok.normed .f32 (m ((c : Thread nD τ).loc main_arg0)) (m ((c : Thread nD τ).loc main_arg1)) a) b := by
  entry_read
  simp only [Gen.hostOps0, Gen.hostOps0_1, Gen.hostOps0_2, Gen.hostOps0_3, Gen.hostOps0_4, TRef.binary, TRef.nullary, TRef.unary, TRef.ternary, TRef.toBuf,
    TRef.ofBuf, cast_eq, List.flatten_cons, List.flatten_nil, List.append_nil, List.cons_append, List.nil_append]
  after_results
  refine (Tok.host_code_apply _ _ _ _ a b (Tok.host_scale_apply _ _ _ _ _ a)).trans (congrArg (Tok.code · b) (funext fun k => ?_))
  exact Tok.host_norm_apply _ _ _ _ _ _ _ _ _ a k

/-- The codes the reference leaves. -/
theorem codes (c : Dev nD) : (dats m 0 c).arrAt 2 (cfgs 0).N = Tok.codes (Tok.normed .f32 (m ((c : Thread nD τ).loc main_arg0)) (m ((c : Thread nD τ).loc main_arg1))) := by
  refine (dats m 0 c).arrAt_eq_of_after_last 2 t0_0 (by decide +kernel) _ fun j => ?_
  idx_vars j
  blk_simp
  rw [after0_2]
  frame_out
  rw [blk0]
  refine (cast _ _).trans ?_
  unfold Tok.codes
  exact code m c j0 j1

/-- The scales the reference leaves. -/
theorem scales (c : Dev nD) : (dats m 0 c).arrAt 3 (cfgs 0).N = Tok.scales (Tok.normed .f32 (m ((c : Thread nD τ).loc main_arg0)) (m ((c : Thread nD τ).loc main_arg1))) := by
  refine (dats m 0 c).arrAt_eq_of_after_last 3 t0_0 (by decide +kernel) _ fun j => ?_
  idx_vars j
  blk_simp
  rw [after0_3]
  frame_out
  rw [blk1]
  obtain rfl : j1 = 0 := Subsingleton.elim _ _
  rw [copy]
  unfold Tok.scales
  exact scale m c j0

end Cert.NormRRefIdeal.Elem
-- ==== Proof.NormRClaim.lean ====
/- The residual norm with its quantiser and its reference leave the same two arrays. -/
module

public import proofs.«01_k».proof.Defs
public import proofs.«01_k».proof.Proof.NormRArray
public import proofs.«01_k».proof.Proof.NormRRef

@[expose] public section

set_option maxRecDepth 16384

noncomputable section

open Idealize.ShloMosaic Idealize.ShloMosaic.TcCoe Idealize.SL.Sem Idealize.ShloMosaic.StableHlo
open Idealize.ShloMosaic.Pipeline (Dat)

namespace Cert.NormRIdeal

/-- From memories agreeing on the arguments both runs end with the same codes and the same scales. -/
theorem algebraic : @Cert.algebraic_NormRIdeal_NormRRefIdeal Cert.NormRIdeal.Gen.facts Cert.NormRRefIdeal.Gen.facts := by
  intro m g m' g' _ ha
  refine ⟨fun c => (Gen.dats m 0 c).arrAt 2 cfg0.N, fun c => (Gen.dats m 0 c).arrAt 3 cfg0.N, Value.run_blocks m g, ?_⟩
  refine (θ_run _ _ _).mono (fun r h c => ⟨(h c).1.trans ?_, (h c).2.1.trans ?_, (h c).2.2⟩) (Cert.NormRRefIdeal.Value.run_blocks m' g')
  · obtain ⟨h0, h1⟩ := ha c
    refine (Cert.NormRRefIdeal.Elem.codes m' c).trans (Eq.trans ?_ (Arr.codes m c).symm)
    exact congrArg Tok.codes (congr (congrArg (Tok.normed (T := 3072) (D := 16384) .f32) h0) h1)
  · obtain ⟨h0, h1⟩ := ha c
    refine (Cert.NormRRefIdeal.Elem.scales m' c).trans (Eq.trans ?_ (Arr.scales m c).symm)
    exact congrArg Tok.scales (congr (congrArg (Tok.normed (T := 3072) (D := 16384) .f32) h0) h1)

end Cert.NormRIdeal
-- ==== Proof.QuantArray.lean ====
/- The arrays the quantiser's call leaves: the codes and the scales of the rows. -/
module

public import proofs.«01_k».proof.Proof.Gen.QuantIdeal.Value
public import proofs.«01_k».proof.Proof.TokSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.QuantIdeal.Arr

open Cert.QuantIdeal Cert.QuantIdeal.Gen

variable (m : (ℓ : Loc nD τ sig) → Buf (Elt Ideal) ℓ)

/-- A block's scales. -/
theorem scale (x : FVec Ideal S256x6656 .f32) (a : Fin 256) : k0_pay1 (F := Ideal) x (ix2 a 0) = Tok.scale (Tok.rows .f32 x a) :=
  Tok.scale_apply _ _ x _ _ a

/-- A block's codes. -/
theorem code (x : FVec Ideal S256x6656 .f32) (a : Fin 256) (b : Fin 6656) : k0_pay2 (F := Ideal) x (ix2 a b) = Tok.code (Tok.rows .f32 x a) b :=
  Tok.code_apply x _ _ a b ((Tok.along _ (k0_pay1 (F := Ideal) x) a b).trans (scale x a))

/-- Where each window's block lies at a grid point. -/
theorem idx : ∀ t : Fin cfg0.N,
    win0_0.index t = ![(grid0.coords t 0).val, 0] ∧ win0_1.index t = ![(grid0.coords t 0).val, 0] ∧ win0_2.index t = ![(grid0.coords t 0).val, 0] :=
  (by decide +kernel : ∀ t : Fin grid0.N,
    win0_0.index t = ![(grid0.coords t 0).val, 0] ∧ win0_1.index t = ![(grid0.coords t 0).val, 0] ∧ win0_2.index t = ![(grid0.coords t 0).val, 0])

/-- A row of a block is a row of the array. -/
theorem row (c : Dev nD) (t : Fin cfg0.N) (a : Fin 256) (h) :
    Tok.rows (T := 256) (D := 6656) .f32 (iblk m c 0 t) a = Tok.rows .f32 (m ((c : Thread nD τ).loc main_arg0)) ⟨(grid0.coords t 0).val * 256 + a.val, h⟩ := by
  funext k
  unfold Tok.rows
  blk_point [iblk, V, idx t]

/-- The codes as a whole. -/
theorem codes (c : Dev nD) : (dats m 0 c).arrAt 1 (cfgs 0).N = Tok.codes (Tok.rows .f32 (m ((c : Thread nD τ).loc main_arg0))) := by
  refine (dats m 0 c).arrAt_eq_of_covers 1 _ (by decide +kernel) fun t _ y => ?_
  idx_vars y
  blk_simp
  rw [after0_1]
  frame_out
  have hi : (grid0.coords t 0).val < 12 := (grid0.coords t 0).isLt
  have e0 : ((View.whole main_v0_0).slice (win0_1.rect t)).emb (ix2 y0 y1) 0 = (⟨(grid0.coords t 0).val * 256 + y0.val, by omega⟩ : Fin 3072) := by
    refine Fin.ext ?_
    blk_simp [idx t]
  have e1 : ((View.whole main_v0_0).slice (win0_1.rect t)).emb (ix2 y0 y1) 1 = y1 := by
    refine Fin.ext ?_
    blk_simp [idx t]
  unfold Tok.codes
  rw [e0, e1]
  exact (code _ y0 y1).trans (congrArg (Tok.code · y1) (row m c t y0 (by omega)))

/-- The scales as a whole. -/
theorem scales (c : Dev nD) : (dats m 0 c).arrAt 2 (cfgs 0).N = Tok.scales (Tok.rows .f32 (m ((c : Thread nD τ).loc main_arg0))) := by
  refine (dats m 0 c).arrAt_eq_of_covers 2 _ (by decide +kernel) fun t _ y => ?_
  idx_vars y
  blk_simp
  rw [after0_2]
  frame_out
  have hi : (grid0.coords t 0).val < 12 := (grid0.coords t 0).isLt
  have e0 : ((View.whole main_v0_1).slice (win0_2.rect t)).emb (ix2 y0 y1) 0 = (⟨(grid0.coords t 0).val * 256 + y0.val, by omega⟩ : Fin 3072) := by
    refine Fin.ext ?_
    blk_simp [idx t]
  obtain rfl : y1 = 0 := Subsingleton.elim _ _
  unfold Tok.scales
  rw [e0]
  exact (scale _ y0).trans (congrArg Tok.scale (row m c t y0 (by omega)))

end Cert.QuantIdeal.Arr
-- ==== Proof.QuantRef.lean ====
/- What the reference of the quantiser leaves: the codes and the scales of the rows. -/
module

public import proofs.«01_k».proof.Proof.Gen.QuantRefIdeal.Value
public import proofs.«01_k».proof.Proof.TokSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.QuantRefIdeal.Elem

open Cert.QuantRefIdeal Cert.QuantRefIdeal.Gen

variable (m : (ℓ : Loc nD τ sig) → Buf (Elt Ideal) ℓ)

/-- The narrowing region has one grid point and whole arrays as blocks. -/
theorem idx : win0_0.index t0_0 = ![0, 0] ∧ win0_1.index t0_0 = ![0, 0] := by decide +kernel

/-- Over the extended reals the region's cast changes nothing. -/
theorem cast (x) (j) : k0_pay1 (F := Ideal) x j = x j :=
  congrFun (shapeCast_self x _) j

/-- The region copies the scales. -/
theorem copy (x) : k0_pay2 (F := Ideal) x = x := shapeCast_self _ _

/-- The block of the elements is their array. -/
theorem read0 (A : Buf (Elt Ideal) (((0 : Dev nD) : Thread nD τ).loc main_v10)) : ((cfg0.win 0).blk t0_0).view.read (Elt Ideal) A = A := by
  funext j
  blk_ext [idx]

/-- The block of the scales is their array. -/
theorem read1 (A : Buf (Elt Ideal) (((0 : Dev nD) : Thread nD τ).loc main_v11)) : ((cfg0.win 1).blk t0_0).view.read (Elt Ideal) A = A := by
  funext j
  blk_ext [idx]

/-- The same of the region's own blocks. -/
theorem blk0 (c : Dev nD) : iblk m c 0 t0_0 = V m c main_v10 := read0 (V m c main_v10)

/-- The same of the region's own blocks. -/
theorem blk1 (c : Dev nD) : iblk m c 1 t0_0 = V m c main_v11 := read1 (V m c main_v11)

/-- A row's scale. -/
theorem scale (c : Dev nD) (a : Fin 3072) :
    V m c main_v11 (ix2 a 0) = Tok.scale (D := 6656) (Tok.rows .f32 (m ((c : Thread nD τ).loc main_arg0)) a) := by
  entry_read
  simp only [Gen.hostOps0, Gen.hostOps0_1, Gen.hostOps0_2, Gen.hostOps0_3, Gen.hostOps0_4, TRef.binary, TRef.nullary, TRef.unary, TRef.ternary, TRef.toBuf,
    TRef.ofBuf, cast_eq, List.flatten_cons, List.flatten_nil, List.append_nil, List.cons_append, List.nil_append]
  after_results
  exact Tok.host_scale_apply _ _ _ _ _ a

/-- A row's code at a column. -/
theorem code (c : Dev nD) (a : Fin 3072) (b : Fin 6656) :
    V m c main_v10 (ix2 a b) = Tok.code (D := 6656) (Tok.rows .f32 (m ((c : Thread nD τ).loc main_arg0)) a) b := by
  entry_read
  simp only [Gen.hostOps0, Gen.hostOps0_1, Gen.hostOps0_2, Gen.hostOps0_3, Gen.hostOps0_4, TRef.binary, TRef.nullary, TRef.unary, TRef.ternary, TRef.toBuf,
    TRef.ofBuf, cast_eq, List.flatten_cons, List.flatten_nil, List.append_nil, List.cons_append, List.nil_append]
  after_results
  exact Tok.host_code_apply _ _ _ _ a b (Tok.host_scale_apply _ _ _ _ _ a)

/-- The codes the reference leaves. -/
theorem codes (c : Dev nD) : (dats m 0 c).arrAt 2 (cfgs 0).N = Tok.codes (Tok.rows .f32 (m ((c : Thread nD τ).loc main_arg0))) := by
  refine (dats m 0 c).arrAt_eq_of_after_last 2 t0_0 (by decide +kernel) _ fun j => ?_
  idx_vars j
  blk_simp
  rw [after0_2]
  frame_out
  rw [blk0]
  refine (cast _ _).trans ?_
  unfold Tok.codes
  exact code m c j0 j1

/-- The scales the reference leaves. -/
theorem scales (c : Dev nD) : (dats m 0 c).arrAt 3 (cfgs 0).N = Tok.scales (Tok.rows .f32 (m ((c : Thread nD τ).loc main_arg0))) := by
  refine (dats m 0 c).arrAt_eq_of_after_last 3 t0_0 (by decide +kernel) _ fun j => ?_
  idx_vars j
  blk_simp
  rw [after0_3]
  frame_out
  rw [blk1]
  obtain rfl : j1 = 0 := Subsingleton.elim _ _
  rw [copy]
  unfold Tok.scales
  exact scale m c j0

end Cert.QuantRefIdeal.Elem
-- ==== Proof.QuantClaim.lean ====
/- The quantiser's call and its reference leave the same two arrays. -/
module

public import proofs.«01_k».proof.Defs
public import proofs.«01_k».proof.Proof.QuantArray
public import proofs.«01_k».proof.Proof.QuantRef

@[expose] public section

set_option maxRecDepth 16384

noncomputable section

open Idealize.ShloMosaic Idealize.ShloMosaic.TcCoe Idealize.SL.Sem Idealize.ShloMosaic.StableHlo
open Idealize.ShloMosaic.Pipeline (Dat)

namespace Cert.QuantIdeal

/-- From memories agreeing on the arguments both runs end with the same codes and the same scales. -/
theorem algebraic : @Cert.algebraic_QuantIdeal_QuantRefIdeal Cert.QuantIdeal.Gen.facts Cert.QuantRefIdeal.Gen.facts := by
  intro m g m' g' _ ha
  refine ⟨fun c => (Gen.dats m 0 c).arrAt 1 cfg0.N, fun c => (Gen.dats m 0 c).arrAt 2 cfg0.N, Value.run_blocks m g, ?_⟩
  refine (θ_run _ _ _).mono (fun r h c => ⟨(h c).1.trans ?_, (h c).2.1.trans ?_, (h c).2.2⟩) (Cert.QuantRefIdeal.Value.run_blocks m' g')
  · have h0 := ha c
    refine (Cert.QuantRefIdeal.Elem.codes m' c).trans (Eq.trans ?_ (Arr.codes m c).symm)
    exact congrArg (fun x => Tok.codes (Tok.rows (T := 3072) (D := 6656) .f32 x)) h0
  · have h0 := ha c
    refine (Cert.QuantRefIdeal.Elem.scales m' c).trans (Eq.trans ?_ (Arr.scales m c).symm)
    exact congrArg (fun x => Tok.scales (Tok.rows (T := 3072) (D := 6656) .f32 x)) h0

end Cert.QuantIdeal
-- ==== Proof.QkvLoop.lean ====
/- The loop over the contracted axis in the query, key and value projection: after each trip the accumulator holds the partial product. -/
module

public import proofs.«01_k».proof.Proof.Gen.QkvIdeal.Loops
public import proofs.«01_k».proof.Proof.LinMath
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem Idealize.ShloMosaic.StableHlo
open Idealize.ShloMosaic.Pipeline (Dat)

namespace Cert.QkvIdeal.Loop

open Cert.QkvIdeal Cert.QkvIdeal.Gen

/-- One trip's share of one element: 512 rows of the weight. -/
def trip (x : FVec Ideal S512x16384 .fp8e4m3) (w : IVec S2048x2304 32) (g : FVec Ideal S32x4x2304 .fp8e4m3) (t : Fin 512) (n : Fin 2304) (k : Fin 32) : EReal :=
  ∑ r : Fin 512, x (ix2 t ⟨512 * k.val + r.val, by omega⟩)
    * (Lin.nib (w (ix2 ⟨64 * k.val + r.val / 8, by omega⟩ n)) (r.val % 8) * g (ix3 k ⟨r.val / 128, by omega⟩ n))

theorem trips_eq : k0_t1_loop.trips = 32 := by decide

/-- What a trip stores. -/
theorem pay_apply (x : FVec Ideal S512x16384 .fp8e4m3) (w : IVec S2048x2304 32) (g : FVec Ideal S32x4x2304 .fp8e4m3)
    (a : FVec Ideal S512x2304 .f32) (k : Fin k0_t1_loop.trips) (t : Fin 512) (n : Fin 2304) :
    k0_pay3 (View.ld x (Rect.unit (s := S512x16384) (k0_off1 k) S512x512.size (k0_off1_inb k))) (View.ld w (Rect.unit (s := S2048x2304) (k0_off2 k) S64x2304.size (k0_off2_inb k)))
          (View.ld g (Rect.unit (s := S32x4x2304) (k0_off3 k) S1x4x2304.size (k0_off3_inb k)))
          (View.ld a (Rect.unit (s := S512x2304) ![0, 0] S512x2304.size inb_S512x2304_S512x2304_0_0)) (ix2 t n)
      = a (ix2 t n) + trip x w g t n ⟨k.val, k.isLt.trans_eq trips_eq⟩ := by
  pointwise [k0_pay3]
  unfold trip
  congr 1
  refine Finset.sum_congr rfl fun r _ => ?_
  simp only [k0_off1_eq, k0_off2_eq, k0_off3_eq]
  simp [Lin.nib]

section
variable (𝒱 : Variants) (c : Dev nD) (bd : Option 𝒱.V) (i : grid0.Coords)
  (arg1 : Memref sig .tc .vmem S512x16384 .fp8e4m3) (harg1 : arg1.IsWhole)
  (arg2 : Memref sig .tc .vmem S512x1 .f32) (harg2 : arg2.IsWhole)
  (arg3 : Memref sig .tc .vmem S2048x2304 .i32) (harg3 : arg3.IsWhole)
  (arg4 : Memref sig .tc .vmem S32x4x2304 .fp8e4m3) (harg4 : arg4.IsWhole)
  (arg5 : Memref sig .tc .vmem S1x2304 .f32) (harg5 : arg5.IsWhole)
  (arg6 : Memref sig .tc .vmem S512x64 .f32) (harg6 : arg6.IsWhole)
  (arg7 : Memref sig .tc .vmem S512x64 .f32) (harg7 : arg7.IsWhole)
  (arg8 : Memref sig .tc .vmem S1x1 .f32) (harg8 : arg8.IsWhole)
  (arg9 : Memref sig .tc .vmem S1x1 .f32) (harg9 : arg9.IsWhole)
  (arg10 : Memref sig .tc .vmem S512x2048 .bf16) (harg10 : arg10.IsWhole)
  (arg11 : Memref sig .tc .vmem S512x128 .fp8e4m3) (harg11 : arg11.IsWhole)
  (arg12 : Memref sig .tc .vmem S512x128 .fp8e4m3) (harg12 : arg12.IsWhole)
  (arg13 : Memref sig .tc .vmem S512x2304 .f32) (harg13 : arg13.IsWhole)
  (x1 : FVec Ideal S512x16384 .fp8e4m3) (x3 : IVec S2048x2304 32) (x4 : FVec Ideal S32x4x2304 .fp8e4m3)
  (G : BufTy.Contents (Elt Ideal) arg13.view.ty)

/-- The store of a trip. -/
theorem pieces (k : Fin k0_t1_loop.trips) (f : BufTy.Contents (Elt Ideal) arg13.view.ty) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x1) (harg3.unread x3) (harg4.unread x4) k f
      = [⟨(Rect.unit (s := S512x2304) ![0, 0] S512x2304.size inb_S512x2304_S512x2304_0_0),
          k0_pay3 (View.ld x1 (Rect.unit (s := S512x16384) (k0_off1 k) S512x512.size (k0_off1_inb k))) (View.ld x3 (Rect.unit (s := S2048x2304) (k0_off2 k) S64x2304.size (k0_off2_inb k)))
          (View.ld x4 (Rect.unit (s := S32x4x2304) (k0_off3 k) S1x4x2304.size (k0_off3_inb k)))
            (View.ld (View.read (Elt Ideal) arg13.view f) (Rect.unit (s := S512x2304) ![0, 0] S512x2304.size inb_S512x2304_S512x2304_0_0))⟩] := by
  unfold tripL_k0_t1 trip_k0_t1
  frame_out

/-- The accumulator after the first `k` trips. -/
theorem acc (t : Fin 512) (n : Fin 2304) : ∀ (k : ℕ) (hk : k ≤ 32),
    View.read (Elt Ideal) arg13.view (arg13.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x1) (harg3.unread x3) (harg4.unread x4) G k)) (ix2 t n)
      = View.read (Elt Ideal) arg13.view G (ix2 t n) + ∑ q : Fin k, trip x1 x3 x4 t n ⟨q.val, by omega⟩ := by
  intro k
  induction k with
  | zero => intro _; rw [pb_k0_t1.eq_1]; simp [View.writes]
  | succ k ih =>
    intro hk
    have h := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x1) (harg3.unread x3) (harg4.unread x4) G ⟨k, by rw [trips_eq]; omega⟩
    dsimp only at h
    rw [h, pieces, List.cons_append, List.nil_append]
    refine (View.read_writes_cons_unit_of_mem arg13.view G _ _ _ (ix2 t n) (ix2 t n) (off' := ![0, 0]) rfl
      (fun a => by fin_cases a <;> simp [ix2])).trans ?_
    rw [pay_apply, ih (by omega), Fin.sum_univ_castSucc, ← add_assoc]
    rfl

/-- The accumulator as the loop leaves it, started from zeros, read through any rectangle. -/
theorem acc_read (R : LoadRect S512x2304) (j : R.shape.Idx) (t : Fin 512) (n : Fin 2304) (e : R.idx j = ix2 t n) :
    arg13.view.readCov (Val := Elt Ideal) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x1) (harg3.unread x3) (harg4.unread x4)
        (arg13.view.writes (Elt Ideal) arg13.view.junk [⟨(Rect.unit (s := S512x2304) ![0, 0] S512x2304.size inb_S512x2304_S512x2304_0_0), k0_pay2 (F := Ideal)⟩])
        k0_t1_loop.trips ++ [⟨(Rect.unit (s := S512x2304) ![0, 0] S512x2304.size inb_S512x2304_S512x2304_0_0), k0_pay2 (F := Ideal)⟩]) R j
      = ∑ q : Fin 32, trip x1 x3 x4 t n q := by
  have h := acc 𝒱 c bd i arg1 harg1 arg2 harg2 arg3 harg3 arg4 harg4 arg5 harg5 arg6 harg6 arg7 harg7 arg8 harg8 arg9 harg9 arg10 harg10 arg11 harg11 arg12 harg12 arg13 harg13 x1 x3 x4
    (arg13.view.writes (Elt Ideal) arg13.view.junk [⟨(Rect.unit (s := S512x2304) ![0, 0] S512x2304.size inb_S512x2304_S512x2304_0_0), k0_pay2 (F := Ideal)⟩]) t n 32 le_rfl
  have z : View.read (Elt Ideal) arg13.view (arg13.view.writes (Elt Ideal) arg13.view.junk [⟨(Rect.unit (s := S512x2304) ![0, 0] S512x2304.size inb_S512x2304_S512x2304_0_0), k0_pay2 (F := Ideal)⟩]) (ix2 t n) = 0 := by
    refine (View.read_writes_cons_unit_of_mem arg13.view arg13.view.junk _ _ _ (ix2 t n) (ix2 t n) (off' := ![0, 0]) rfl
      (fun a => by fin_cases a <;> simp [ix2])).trans ?_
    pointwise [k0_pay2]
  show View.read (Elt Ideal) arg13.view _ _ = _
  rw [View.writes_append, e]
  refine h.trans ?_
  rw [z, zero_add]

end

end Cert.QkvIdeal.Loop
-- ==== Proof.QkvSpec.lean ====
/- The queries, keys and values: the scaled product of the inputs with the packed weight, in heads of 128 columns; the
   queries and the key are rotated by the row's angles, and the key and the value are coded at a given scale. Nothing here
   is about a particular program. -/
module

public import proofs.«01_k».proof.Proof.LinMath
public import proofs.«01_k».proof.Proof.TokSpec

@[expose] public section

noncomputable section

open Idealize.ShloMosaic

namespace Qkv

/-- One head rotated: its first half and its second half are the two coordinates of 64 plane vectors, turned by the
    angles of which `c` and `s` are the cosines and the sines. -/
def rot (v : Fin 128 → EReal) (c s : Fin 64 → EReal) (d : Fin 128) : EReal :=
  if h : d.val < 64 then v d * c ⟨d.val, h⟩ - v ⟨d.val + 64, by omega⟩ * s ⟨d.val, h⟩
  else v d * c ⟨d.val - 64, by omega⟩ + v ⟨d.val - 64, by omega⟩ * s ⟨d.val - 64, by omega⟩

/-- The columns of head `h`. -/
def head (v : Fin 2304 → EReal) (h : Fin 18) (d : Fin 128) : EReal := v ⟨128 * h.val + d.val, by omega⟩

section

variable (A : FVec Ideal ⟨2, ![3072, 16384]⟩ .fp8e4m3) (s : FVec Ideal ⟨2, ![3072, 1]⟩ .f32) (w : IVec ⟨2, ![2048, 2304]⟩ 32)
  (g : FVec Ideal ⟨2, ![128, 2304]⟩ .fp8e4m3) (cs : FVec Ideal ⟨1, ![2304]⟩ .f32)
  (co si : FVec Ideal ⟨2, ![3072, 64]⟩ .f32) (z : FVec Ideal ⟨1, ![1]⟩ .f32)

/-- A row of the scaled product. -/
def lin (t : Fin 3072) (n : Fin 2304) : EReal := Lin.elem 3072 16384 2048 128 2304 rfl rfl A s w g cs t n

/-- A query's element. -/
def q (t : Fin 3072) (n : Fin 2048) : EReal :=
  rot (head (lin A s w g cs t) ⟨n.val / 128, by omega⟩) (fun k => co (ix2 t k)) (fun k => si (ix2 t k)) ⟨n.val % 128, by omega⟩

/-- A key's code. -/
def k (t : Fin 3072) (d : Fin 128) : EReal :=
  Tok.clip (rot (head (lin A s w g cs t) 16) (fun k => co (ix2 t k)) (fun k => si (ix2 t k)) d) (z (ix1 0))

/-- A value's code. -/
def v (t : Fin 3072) (d : Fin 128) : EReal := Tok.clip (head (lin A s w g cs t) 17 d) (z (ix1 0))

/-- The array of the queries. -/
def qs : FVec Ideal ⟨2, ![3072, 2048]⟩ .bf16 := fun j => q A s w g cs co si (j 0) (j 1)

/-- The array of the keys' codes. -/
def ks : FVec Ideal ⟨2, ![3072, 128]⟩ .fp8e4m3 := fun j => k A s w g cs co si z (j 0) (j 1)

/-- The array of the values' codes. -/
def vs : FVec Ideal ⟨2, ![3072, 128]⟩ .fp8e4m3 := fun j => v A s w g cs z (j 0) (j 1)

end

end Qkv
-- ==== Proof.QkvBlock.lean ====
/- What one grid point of the query, key and value projection stores, from the blocks it reads. -/
module

public import proofs.«01_k».proof.Proof.Gen.QkvIdeal.Frame
public import proofs.«01_k».proof.Proof.QkvLoop
public import proofs.«01_k».proof.Proof.QkvSpec

@[expose] public section

set_option maxRecDepth 16384

noncomputable section

open Idealize.ShloMosaic Idealize.ShloMosaic.TcCoe Idealize.SL.Sem Idealize.ShloMosaic.StableHlo
open Idealize.ShloMosaic.Pipeline (Dat)

namespace Cert.QkvIdeal.Block

open Cert.QkvIdeal Cert.QkvIdeal.Gen

section Head

variable (s : FVec Ideal S512x1 .f32) (co si : FVec Ideal S512x64 .f32) (x : FVec Ideal S512x128 .f32) (cs : FVec Ideal S1x128 .f32)

/-- A head's columns, scaled. -/
theorem scaled_apply (a : Fin 512) (d : Fin 128) :
    k0_pay29 (F := Ideal) s x cs (ix2 a d) = x (ix2 a d) * s (ix2 a 0) * cs (ix2 0 d) := by
  pointwise [k0_pay29]

/-- A head as the kernel turns it: the columns times the doubled cosines, plus the columns moved by half a head times the
    doubled sines, the first half negated. -/
theorem turned_apply (y : FVec Ideal S512x128 .f32) (h) (a : Fin 512) (d : Fin 128) :
    addf (mulf y (k0_pay4 (F := Ideal) co co)) (mulf (dynamicRotate 1 64#32 none y h) (k0_pay5 (F := Ideal) si si)) (ix2 a d)
      = Qkv.rot (fun k => y (ix2 a k)) (fun k => co (ix2 a k)) (fun k => si (ix2 a k)) d := by
  pointwise [k0_pay4, k0_pay5]
  unfold Qkv.rot
  by_cases hd : d.val < 64
  · have e : (d.val + 64) % 128 = d.val + 64 := by omega
    simp [hd, e, sub_eq_add_neg]
  · have e : (d.val + 64) % 128 = d.val - 64 := by omega
    simp [hd, e]

/-- A code, given the scale. -/
theorem code_apply (z : FVec Ideal S1x1 .f32) (y : FVec Ideal S512x128 .f32) (h) (a : Fin 512) (d : Fin 128) :
    truncf .fp8e4m3 (minimumf (broadcast S512x128 (Scalar.ofBits .f32 0x43E00000#32)) (maximumf (broadcast S512x128 (Scalar.ofBits .f32 0xC3E00000#32))
        (divf y (broadcastTo S512x128 (shapeCast S1x1 z shapeCasts_S1x1_S1x1) broadcasts_S1x1_S512x128)))) h (ix2 a d)
      = Tok.clip (y (ix2 a d)) (z (ix2 0 0)) := by
  pointwise
  rfl

end Head

section Point

variable (c : Dev nD) (i : grid0.Coords)
  (arg1 : Memref sig .tc .vmem S512x16384 .fp8e4m3) (harg1 : arg1.IsWhole)
  (arg2 : Memref sig .tc .vmem S512x1 .f32) (harg2 : arg2.IsWhole)
  (arg3 : Memref sig .tc .vmem S2048x2304 .i32) (harg3 : arg3.IsWhole)
  (arg4 : Memref sig .tc .vmem S32x4x2304 .fp8e4m3) (harg4 : arg4.IsWhole)
  (arg5 : Memref sig .tc .vmem S1x2304 .f32) (harg5 : arg5.IsWhole)
  (arg6 : Memref sig .tc .vmem S512x64 .f32) (harg6 : arg6.IsWhole)
  (arg7 : Memref sig .tc .vmem S512x64 .f32) (harg7 : arg7.IsWhole)
  (arg8 : Memref sig .tc .vmem S1x1 .f32) (harg8 : arg8.IsWhole)
  (arg9 : Memref sig .tc .vmem S1x1 .f32) (harg9 : arg9.IsWhole)
  (arg10 : Memref sig .tc .vmem S512x2048 .bf16) (harg10 : arg10.IsWhole)
  (arg11 : Memref sig .tc .vmem S512x128 .fp8e4m3) (harg11 : arg11.IsWhole)
  (arg12 : Memref sig .tc .vmem S512x128 .fp8e4m3) (harg12 : arg12.IsWhole)
  (arg13 : Memref sig .tc .vmem S512x2304 .f32) (harg13 : arg13.IsWhole)
  (x0 : Vec Ideal S512x16384 .fp8e4m3) (x1 : Vec Ideal S512x1 .f32) (x2 : Vec Ideal S2048x2304 .i32)
  (x3 : Vec Ideal S32x4x2304 .fp8e4m3) (x4 : Vec Ideal S1x2304 .f32) (x5 x6 : Vec Ideal S512x64 .f32) (x7 x8 : Vec Ideal S1x1 .f32)

/-- A row of the scaled product, from the blocks. -/
def lin (a : Fin 512) (n : Fin 2304) : EReal := (∑ q : Fin 32, Loop.trip x0 x2 x3 a n q) * x1 (ix2 a 0) * x4 (ix2 0 n)

/-- The accumulator's columns of one head, as the kernel loads them. -/
abbrev accCols (h : Fin 18) (inb : ∀ a, (![0, 128 * h.val] : Fin 2 → ℕ) a + S512x128.size a ≤ S512x2304.size a) : FVec Ideal S512x128 .f32 :=
  arg13.view.readCov (Val := Elt Ideal) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg3.unread x2) (harg4.unread x3)
        (arg13.view.writes (Elt Ideal) arg13.view.junk [⟨(Rect.unit (s := S512x2304) ![0, 0] S512x2304.size inb_S512x2304_S512x2304_0_0), k0_pay2 (F := Ideal)⟩])
        k0_t1_loop.trips ++ [⟨(Rect.unit (s := S512x2304) ![0, 0] S512x2304.size inb_S512x2304_S512x2304_0_0), k0_pay2 (F := Ideal)⟩])
    (Rect.unit (s := S512x2304) ![0, 128 * h.val] S512x128.size inb).toLoadRect

/-- The columns' scales of one head, as the kernel loads them. -/
abbrev scaleCols (h : Fin 18) (inb : ∀ a, (![0, 128 * h.val] : Fin 2 → ℕ) a + S1x128.size a ≤ S1x2304.size a) : FVec Ideal S1x128 .f32 :=
  View.ld x4 (Rect.unit (s := S1x2304) ![0, 128 * h.val] S1x128.size inb)

/-- A head's columns are its columns of the scaled product. -/
theorem cols_apply (h : Fin 18) (inb inb') (a : Fin 512) (d : Fin 128) :
    k0_pay29 (F := Ideal) x1 (accCols c i arg1 harg1 arg2 harg2 arg3 harg3 arg4 harg4 arg5 harg5 arg6 harg6 arg7 harg7 arg8 harg8 arg9 harg9 arg10 harg10 arg11 harg11 arg12 harg12 arg13 harg13 x0 x2 x3 h inb) (scaleCols x4 h inb') (ix2 a d)
      = Qkv.head (lin x0 x1 x2 x3 x4 a) h d := by
  rw [scaled_apply]
  unfold Qkv.head lin
  congr 1
  · congr 1
    refine Loop.acc_read Variants.none c none i arg1 harg1 arg2 harg2 arg3 harg3 arg4 harg4 arg5 harg5 arg6 harg6 arg7 harg7 arg8 harg8 arg9 harg9 arg10 harg10 arg11 harg11 arg12 harg12 arg13 harg13 x0 x2 x3 (Rect.unit (s := S512x2304) ![0, 128 * h.val] S512x128.size inb).toLoadRect (ix2 a d) a ⟨128 * h.val + d.val, by omega⟩ ?_
    funext b; fin_cases b <;> apply Fin.ext <;> simp [Rect.unit, LoadRect.idx, Rect.toLoadRect, ix2]
  · refine congrArg x4 ?_
    funext b; fin_cases b <;> apply Fin.ext <;> simp [Rect.unit, LoadRect.idx, Rect.toLoadRect, ix2]

/-- What the kernel stores for one head of the queries. -/
def headQ (h : Fin 16) : FVec Ideal S512x128 .bf16 :=
  k0_pay9 (F := Ideal) x1 (k0_pay4 x5 x5) (k0_pay5 x6 x6) (accCols c i arg1 harg1 arg2 harg2 arg3 harg3 arg4 harg4 arg5 harg5 arg6 harg6 arg7 harg7 arg8 harg8 arg9 harg9 arg10 harg10 arg11 harg11 arg12 harg12 arg13 harg13 x0 x2 x3 ⟨h.val, by omega⟩ (by
    intro a; fin_cases a <;> simp [S512x2304]; omega)) (scaleCols x4 ⟨h.val, by omega⟩ (by intro a; fin_cases a <;> simp [S1x2304]; omega))

/-- One element of what the kernel stores for one head of the queries. -/
theorem headQ_apply (h : Fin 16) (a : Fin 512) (d : Fin 128) :
    headQ c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 h (ix2 a d)
      = Qkv.rot (Qkv.head (lin x0 x1 x2 x3 x4 a) ⟨h.val, by omega⟩) (fun k => x5 (ix2 a k)) (fun k => x6 (ix2 a k)) d := by
  refine (turned_apply x5 x6 (k0_pay29 (F := Ideal) x1 (accCols c i arg1 harg1 arg2 harg2 arg3 harg3 arg4 harg4 arg5 harg5 arg6 harg6 arg7 harg7 arg8 harg8 arg9 harg9 arg10 harg10 arg11 harg11 arg12 harg12 arg13 harg13 x0 x2 x3 ⟨h.val, _⟩ _) (scaleCols x4 ⟨h.val, _⟩ _)) rotates_S512x128_d1 a d).trans ?_
  exact congrArg (fun f => Qkv.rot f (fun k => x5 (ix2 a k)) (fun k => x6 (ix2 a k)) d)
    (funext fun k => cols_apply c i arg1 harg1 arg2 harg2 arg3 harg3 arg4 harg4 arg5 harg5 arg6 harg6 arg7 harg7 arg8 harg8 arg9 harg9 arg10 harg10 arg11 harg11 arg12 harg12 arg13 harg13 x0 x1 x2 x3 x4 _ _ _ a k)

/-- A query's element, from the blocks. -/
def query (a : Fin 512) (b : Fin 2048) : EReal :=
  Qkv.rot (Qkv.head (lin x0 x1 x2 x3 x4 a) ⟨b.val / 128, by omega⟩) (fun k => x5 (ix2 a k)) (fun k => x6 (ix2 a k)) ⟨b.val % 128, by omega⟩

/-- What the kernel stores for one head are the queries at that head's columns. -/
theorem piece (h : Fin 16) (inb) (y : S512x128.Idx) :
    headQ c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 h y
      = query x0 x1 x2 x3 x4 x5 x6 ((Rect.unit (s := S512x2048) ![0, 128 * h.val] S512x128.size inb).emb y 0)
          ((Rect.unit (s := S512x2048) ![0, 128 * h.val] S512x128.size inb).emb y 1) := by
  idx_vars y
  have hy : 128 * h.val + y1.val < 2048 := by omega
  have e0 : (Rect.unit (s := S512x2048) ![0, 128 * h.val] S512x128.size inb).emb (ix2 y0 y1) 0 = y0 := Fin.ext (by simp [Rect.unit, Rect.emb, ix2])
  have e1 : (Rect.unit (s := S512x2048) ![0, 128 * h.val] S512x128.size inb).emb (ix2 y0 y1) 1 = (⟨128 * h.val + y1.val, hy⟩ : Fin 2048) :=
    Fin.ext (by simp [Rect.unit, Rect.emb, ix2])
  rw [e0, e1]
  unfold query
  have f1 : (⟨(128 * h.val + y1.val) / 128, by omega⟩ : Fin 18) = ⟨h.val, by omega⟩ := Fin.ext (by dsimp only; omega)
  have f2 : (⟨(128 * h.val + y1.val) % 128, by omega⟩ : Fin 128) = y1 := Fin.ext (by dsimp only; omega)
  rw [f1, f2]
  exact headQ_apply c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 h y0 y1

/-- One element of the block of queries a grid point stores. -/
theorem out9_apply (a : Fin 512) (b : Fin 2048) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 a b)
      = query x0 x1 x2 x3 x4 x5 x6 a b := by
  unfold out0_A_9
  refine (View.read_writes_junk_apply_eq_canon VO0_9 (ix2 a b) _).trans ?_
  refine View.canon_apply_of_pieces (Val := Elt Ideal) (S := S512x2048) (e := .bf16) (fun y : S512x2048.Idx => query x0 x1 x2 x3 x4 x5 x6 (y 0) (y 1)) _ ?_ (ix2 a b) (cover0_A_9 _ _ _ _ _ _ _ _ _ _ _ _ _ _ _ _ _ _ _ _ _ _ _ _ _ _ _ _ _ _ _ _ _ _ _ _ _ _)
  frame_out
  simp only [List.forall_mem_cons]
  have P := piece c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
  exact ⟨P 15 _, P 14 _, P 13 _, P 12 _, P 11 _, P 10 _, P 9 _, P 8 _, P 7 _, P 6 _, P 5 _, P 4 _, P 3 _, P 2 _, P 1 _, P 0 _,
    fun _ h => absurd h List.not_mem_nil⟩

/-- One element of the block of keys' codes a grid point stores. -/
theorem out10_apply (a : Fin 512) (d : Fin 128) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 a d)
      = Tok.clip (Qkv.rot (Qkv.head (lin x0 x1 x2 x3 x4 a) 16) (fun k => x5 (ix2 a k)) (fun k => x6 (ix2 a k)) d) (x7 (ix2 0 0)) := by
  unfold out0_A_10
  frame_out
  refine (code_apply x7 _ bitsLt_fp8e4m3_f32 a d).trans ?_
  congr 1
  refine (turned_apply x5 x6 (k0_pay29 (F := Ideal) x1 (accCols c i arg1 harg1 arg2 harg2 arg3 harg3 arg4 harg4 arg5 harg5 arg6 harg6 arg7 harg7 arg8 harg8 arg9 harg9 arg10 harg10 arg11 harg11 arg12 harg12 arg13 harg13 x0 x2 x3 16 inb_S512x2304_S512x128_0_2048) (scaleCols x4 16 inb_S1x2304_S1x128_0_2048)) rotates_S512x128_d1 a d).trans ?_
  exact congrArg (fun f => Qkv.rot f (fun k => x5 (ix2 a k)) (fun k => x6 (ix2 a k)) d)
    (funext fun k => cols_apply c i arg1 harg1 arg2 harg2 arg3 harg3 arg4 harg4 arg5 harg5 arg6 harg6 arg7 harg7 arg8 harg8 arg9 harg9 arg10 harg10 arg11 harg11 arg12 harg12 arg13 harg13 x0 x1 x2 x3 x4 _ _ _ a k)

/-- One element of the block of values' codes a grid point stores. -/
theorem out11_apply (a : Fin 512) (d : Fin 128) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 a d)
      = Tok.clip (Qkv.head (lin x0 x1 x2 x3 x4 a) 17 d) (x8 (ix2 0 0)) := by
  unfold out0_A_11
  frame_out
  refine (code_apply x8 _ bitsLt_fp8e4m3_f32 a d).trans ?_
  congr 1
  exact cols_apply c i arg1 harg1 arg2 harg2 arg3 harg3 arg4 harg4 arg5 harg5 arg6 harg6 arg7 harg7 arg8 harg8 arg9 harg9 arg10 harg10 arg11 harg11 arg12 harg12 arg13 harg13 x0 x1 x2 x3 x4 17 inb_S512x2304_S512x128_0_2176 inb_S1x2304_S1x128_0_2176 a d

end Point

end Cert.QkvIdeal.Block
-- ==== Proof.QkvArray.lean ====
/- The three arrays the projection of queries, keys and values leaves, element by element. -/
module

public import proofs.«01_k».proof.Proof.Gen.QkvIdeal.Value
public import proofs.«01_k».proof.Proof.QkvBlock
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.QkvIdeal.Arr

open Cert.QkvIdeal Cert.QkvIdeal.Gen

variable (m : (ℓ : Loc nD τ sig) → Buf (Elt Ideal) ℓ)

/-- Where the block of each operand that is not read whole lies at a grid point. -/
theorem idx : ∀ t : Fin cfg0.N,
    win0_0.index t = ![(grid0.coords t 0).val, 0] ∧ win0_1.index t = ![(grid0.coords t 0).val, 0] ∧ win0_2.index t = ![0, 0] ∧ win0_3.index t = ![0, 0, 0] ∧ win0_4.index t = ![0, 0]
    ∧ win0_5.index t = ![(grid0.coords t 0).val, 0] ∧ win0_6.index t = ![(grid0.coords t 0).val, 0] ∧ win0_7.index t = ![0, 0] ∧ win0_8.index t = ![0, 0]
    ∧ win0_9.index t = ![(grid0.coords t 0).val, 0] ∧ win0_10.index t = ![(grid0.coords t 0).val, 0] ∧ win0_11.index t = ![(grid0.coords t 0).val, 0] :=
  (by decide +kernel : ∀ t : Fin grid0.N,
    win0_0.index t = ![(grid0.coords t 0).val, 0] ∧ win0_1.index t = ![(grid0.coords t 0).val, 0] ∧ win0_2.index t = ![0, 0] ∧ win0_3.index t = ![0, 0, 0] ∧ win0_4.index t = ![0, 0]
    ∧ win0_5.index t = ![(grid0.coords t 0).val, 0] ∧ win0_6.index t = ![(grid0.coords t 0).val, 0] ∧ win0_7.index t = ![0, 0] ∧ win0_8.index t = ![0, 0]
    ∧ win0_9.index t = ![(grid0.coords t 0).val, 0] ∧ win0_10.index t = ![(grid0.coords t 0).val, 0] ∧ win0_11.index t = ![(grid0.coords t 0).val, 0])

/-- A row of a block's scaled product is a row of the whole one. -/
theorem lin (c : Dev nD) (t : Fin cfg0.N) (a : Fin 512) (h0) :
    Block.lin (iblk m c 0 t) (iblk m c 1 t) (iblk m c 2 t) (iblk m c 3 t) (iblk m c 4 t) a
      = Qkv.lin (m (c.tc.loc main_arg0)) (m (c.tc.loc main_arg1)) (m (c.tc.loc main_arg2)) (m (c.tc.loc main_arg3)) (m (c.tc.loc main_arg4)) ⟨(grid0.coords t 0).val * 512 + a.val, h0⟩ := by
  funext b
  unfold Qkv.lin Lin.elem Block.lin
  rw [Lin.dot_trips 32 16384 2048 128 rfl rfl rfl]
  unfold Loop.trip
  blk_point [iblk, V, idx t]

/-- A row of a block of cosines. -/
theorem cos (c : Dev nD) (t : Fin cfg0.N) (a : Fin 512) (h0) :
    (fun k : Fin 64 => iblk m c 5 t (ix2 a k)) = fun k : Fin 64 => m (c.tc.loc main_arg5) (ix2 ⟨(grid0.coords t 0).val * 512 + a.val, h0⟩ k) := by
  funext k
  blk_point [iblk, V, idx t]

/-- A row of a block of sines. -/
theorem sin (c : Dev nD) (t : Fin cfg0.N) (a : Fin 512) (h0) :
    (fun k : Fin 64 => iblk m c 6 t (ix2 a k)) = fun k : Fin 64 => m (c.tc.loc main_arg6) (ix2 ⟨(grid0.coords t 0).val * 512 + a.val, h0⟩ k) := by
  funext k
  blk_point [iblk, V, idx t]

/-- The keys' scale. -/
theorem kscale (c : Dev nD) (t : Fin cfg0.N) : iblk m c 7 t (ix2 0 0) = m (c.tc.loc main_arg7) (ix1 0) := by
  blk_point [iblk, V, idx t]

/-- The values' scale. -/
theorem vscale (c : Dev nD) (t : Fin cfg0.N) : iblk m c 8 t (ix2 0 0) = m (c.tc.loc main_arg8) (ix1 0) := by
  blk_point [iblk, V, idx t]

/-- The queries as a whole. -/
theorem queries (c : Dev nD) : (dats m 0 c).arrAt 9 (cfgs 0).N
    = Qkv.qs (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 9 _ (by decide +kernel) fun t _ y => ?_
  idx_vars y
  blk_simp
  unfold Qkv.qs
  rw [after0_9]
  unfold outsAt0
  have hi : (grid0.coords t 0).val < 6 := (grid0.coords t 0).isLt
  have e0 : ((View.whole main_v4_0).slice (win0_9.rect t)).emb (ix2 y0 y1) 0 = (⟨(grid0.coords t 0).val * 512 + y0.val, by omega⟩ : Fin 3072) := by
    refine Fin.ext ?_
    blk_simp [idx t]
  have e1 : ((View.whole main_v4_0).slice (win0_9.rect t)).emb (ix2 y0 y1) 1 = y1 := by
    refine Fin.ext ?_
    blk_simp [idx t]
  rw [e0, e1]
  refine (Block.out9_apply _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) y0 y1).trans ?_
  unfold Block.query Qkv.q
  rw [lin m c t y0 (by omega), cos m c t y0 (by omega), sin m c t y0 (by omega)]

/-- The keys' codes as a whole. -/
theorem keys (c : Dev nD) : (dats m 0 c).arrAt 10 (cfgs 0).N
    = Qkv.ks (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 10 _ (by decide +kernel) fun t _ y => ?_
  idx_vars y
  blk_simp
  unfold Qkv.ks
  rw [after0_10]
  unfold outsAt0
  have hi : (grid0.coords t 0).val < 6 := (grid0.coords t 0).isLt
  have e0 : ((View.whole main_v4_1).slice (win0_10.rect t)).emb (ix2 y0 y1) 0 = (⟨(grid0.coords t 0).val * 512 + y0.val, by omega⟩ : Fin 3072) := by
    refine Fin.ext ?_
    blk_simp [idx t]
  have e1 : ((View.whole main_v4_1).slice (win0_10.rect t)).emb (ix2 y0 y1) 1 = y1 := by
    refine Fin.ext ?_
    blk_simp [idx t]
  rw [e0, e1]
  refine (Block.out10_apply _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) y0 y1).trans ?_
  unfold Qkv.k
  rw [lin m c t y0 (by omega), cos m c t y0 (by omega), sin m c t y0 (by omega), kscale m c t]

/-- The values' codes as a whole. -/
theorem values (c : Dev nD) : (dats m 0 c).arrAt 11 (cfgs 0).N
    = Qkv.vs (m (c.tc.loc main_arg0)) (m (c.tc.loc main_arg1)) (m (c.tc.loc main_arg2)) (m (c.tc.loc main_arg3)) (m (c.tc.loc main_arg4)) (m (c.tc.loc main_arg8)) := by
  refine (dats m 0 c).arrAt_eq_of_covers 11 _ (by decide +kernel) fun t _ y => ?_
  idx_vars y
  blk_simp
  unfold Qkv.vs
  rw [after0_11]
  unfold outsAt0
  have hi : (grid0.coords t 0).val < 6 := (grid0.coords t 0).isLt
  have e0 : ((View.whole main_v4_2).slice (win0_11.rect t)).emb (ix2 y0 y1) 0 = (⟨(grid0.coords t 0).val * 512 + y0.val, by omega⟩ : Fin 3072) := by
    refine Fin.ext ?_
    blk_simp [idx t]
  have e1 : ((View.whole main_v4_2).slice (win0_11.rect t)).emb (ix2 y0 y1) 1 = y1 := by
    refine Fin.ext ?_
    blk_simp [idx t]
  rw [e0, e1]
  refine (Block.out11_apply _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) y0 y1).trans ?_
  unfold Qkv.v
  rw [lin m c t y0 (by omega), vscale m c t]

end Cert.QkvIdeal.Arr
-- ==== Proof.QkvRef.lean ====
/- What the reference of the projection of queries, keys and values computes, element by element. -/
module

public import proofs.«01_k».proof.Proof.Gen.QkvRefIdeal.Value
public import proofs.«01_k».proof.Proof.Nibble
public import proofs.«01_k».proof.Proof.QkvSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.QkvRefIdeal.Elem

open Cert.QkvRefIdeal Cert.QkvRefIdeal.Gen

section Body

variable (f : Vec Ideal S16384x2304 .i8) (g : FVec Ideal S16384x2304 .fp8e4m3) (A : FVec Ideal S3072x16384 .fp8e4m3) (s : FVec Ideal S3072x1 .f32)
  (cs : FVec Ideal S1x2304 .f32) (co si : FVec Ideal S3072x64 .f32) (z : FVec Ideal S1x1 .f32)

/-- A row of the scaled product, from the fields and the repeated group scales. -/
def lin (t : Fin 3072) (n : Fin 2304) : EReal :=
  (∑ q : Fin 16384, A (ix2 t q) * (FloatOps.sitofp (F := Ideal) .bf16 (f (ix2 q n)) * g (ix2 q n))) * s (ix2 t 0) * cs (ix2 0 n)

/-- An element of the scaled product, given what the fields, the repeated group scales and the columns' scales are. -/
theorem lin_eq (w : IVec ⟨2, ![2048, 2304]⟩ 32) (r : FVec Ideal ⟨2, ![128, 2304]⟩ .fp8e4m3) (b : FVec Ideal ⟨1, ![2304]⟩ .f32) (t : Fin 3072) (n : Fin 2304)
    (hf : ∀ q : Fin 16384, FloatOps.sitofp (F := Ideal) .bf16 (f (ix2 q n)) = Lin.nib (w (ix2 ⟨q.val / 8, by omega⟩ n)) (q.val % 8))
    (hg : ∀ q : Fin 16384, g (ix2 q n) = r (ix2 ⟨q.val / 128, by omega⟩ n)) (hc : cs (ix2 0 n) = b (ix1 n)) :
    lin f g A s cs t n = Lin.elem 3072 16384 2048 128 2304 rfl rfl A s w r b t n := by
  unfold lin Lin.elem Lin.dot
  simp only [hf, hg, hc]

/-- The product laid out by heads. -/
theorem heads (t : Fin 3072) (h : Fin 18) (d : Fin 128) :
    k0_pay3 (F := Ideal) f g A s cs (ix3 t h d) = Qkv.head (lin f g A s cs t) h d := by
  unfold Qkv.head lin
  pointwise [k0_pay3]
  simp only [Nat.mul_comm 128]

/-- The key's head. -/
theorem keyHead (t : Fin 3072) (d : Fin 128) :
    k0_pay4 (F := Ideal) f g A s cs (ix3 t 0 d) = Qkv.head (lin f g A s cs t) 16 d := by
  rw [← heads]
  unfold k0_pay4
  generalize k0_pay3 (F := Ideal) f g A s cs = y
  pointwise

/-- The value's head. -/
theorem valueHead (t : Fin 3072) (d : Fin 128) :
    k0_pay5 (F := Ideal) f g A s cs (ix3 t 0 d) = Qkv.head (lin f g A s cs t) 17 d := by
  rw [← heads]
  unfold k0_pay5
  generalize k0_pay3 (F := Ideal) f g A s cs = y
  pointwise

/-- A value's code. -/
theorem value (t : Fin 3072) (d : Fin 128) :
    k0_pay2 (F := Ideal) (k0_pay5 (F := Ideal) f g A s cs) z (ix2 t d) = Tok.clip (Qkv.head (lin f g A s cs t) 17 d) (z (ix2 0 0)) := by
  rw [← valueHead]
  generalize k0_pay5 (F := Ideal) f g A s cs = y
  pointwise [k0_pay2]
  rfl

/-- A key's code. -/
theorem key (t : Fin 3072) (d : Fin 128) :
    k0_pay1 (F := Ideal) (k0_pay4 (F := Ideal) f g A s cs) co si (k0_pay7 (F := Ideal) f g A s cs) z (ix2 t d)
      = Tok.clip (Qkv.rot (Qkv.head (lin f g A s cs t) 16) (fun k => co (ix2 t k)) (fun k => si (ix2 t k)) d) (z (ix2 0 0)) := by
  rw [← funext (keyHead f g A s cs t)]
  unfold k0_pay7
  generalize k0_pay4 (F := Ideal) f g A s cs = y
  pointwise [k0_pay1]
  unfold Qkv.rot
  by_cases hd : d.val < 64
  · simp [hd, Tok.clip, Nat.add_comm 64]
  · have e : 64 + (d.val - 64) = d.val := by omega
    simp [hd, Tok.clip, e]

/-- A query's element. -/
theorem query (t : Fin 3072) (n : Fin 2048) :
    k0_pay6 (F := Ideal) f g A s cs co si (ix2 t n)
      = Qkv.rot (Qkv.head (lin f g A s cs t) ⟨n.val / 128, by omega⟩) (fun k => co (ix2 t k)) (fun k => si (ix2 t k)) ⟨n.val % 128, by omega⟩ := by
  rw [← funext (heads f g A s cs t ⟨n.val / 128, by omega⟩)]
  unfold k0_pay6
  generalize k0_pay3 (F := Ideal) f g A s cs = y
  pointwise
  unfold Qkv.rot
  by_cases hd : n.val % 128 < 64
  · simp [hd, Nat.add_comm 64]
  · have e : 64 + (n.val % 128 - 64) = n.val % 128 := by omega
    simp [hd, e]

end Body

variable (m : (ℓ : Loc nD τ sig) → Buf (Elt Ideal) ℓ)

/-- The reference's one launch takes every array whole. -/
theorem idx : win0_0.index t0_0 = ![0, 0] ∧ win0_1.index t0_0 = ![0, 0] ∧ win0_2.index t0_0 = ![0, 0] ∧ win0_3.index t0_0 = ![0, 0] ∧ win0_4.index t0_0 = ![0, 0]
    ∧ win0_5.index t0_0 = ![0, 0] ∧ win0_6.index t0_0 = ![0, 0] ∧ win0_7.index t0_0 = ![0, 0] ∧ win0_8.index t0_0 = ![0, 0] := by decide +kernel

theorem blk0 (c : Dev nD) : iblk m c 0 t0_0 = V m c main_arg0 := by
  funext j
  blk_ext [iblk, idx]
theorem blk1 (c : Dev nD) : iblk m c 1 t0_0 = V m c main_arg1 := by
  funext j
  blk_ext [iblk, idx]
theorem blk2 (c : Dev nD) : iblk m c 2 t0_0 = V m c main_v17 := by
  funext j
  blk_ext [iblk, idx]
theorem blk3 (c : Dev nD) : iblk m c 3 t0_0 = V m c main_v19 := by
  funext j
  blk_ext [iblk, idx]
theorem blk4 (c : Dev nD) : iblk m c 4 t0_0 = V m c main_v20 := by
  funext j
  blk_ext [iblk, idx]
theorem blk5 (c : Dev nD) : iblk m c 5 t0_0 = V m c main_arg5 := by
  funext j
  blk_ext [iblk, idx]
theorem blk6 (c : Dev nD) : iblk m c 6 t0_0 = V m c main_arg6 := by
  funext j
  blk_ext [iblk, idx]
theorem blk7 (c : Dev nD) : iblk m c 7 t0_0 = V m c main_v21 := by
  funext j
  blk_ext [iblk, idx]
theorem blk8 (c : Dev nD) : iblk m c 8 t0_0 = V m c main_v22 := by
  funext j
  blk_ext [iblk, idx]

/-- Row `q` of the fields' matrix holds field `q % 8` of word `q / 8`. -/
theorem fields (c : Dev nD) (q : Fin 16384) (n : Fin 2304) :
    FloatOps.sitofp (F := Ideal) .bf16 (V m c main_v17 (ix2 q n)) = Lin.nib (m (c.tc.loc main_arg2) (ix2 ⟨q.val / 8, by omega⟩ n)) (q.val % 8) := by
  entry_read
  simp only [Gen.hostOps0, Gen.hostOps0_1, Gen.hostOps0_2, TRef.binary, TRef.nullary, TRef.unary, TRef.ternary, TRef.toBuf,
    TRef.ofBuf, cast_eq, List.flatten_cons, List.flatten_nil, List.append_nil, List.cons_append, List.nil_append]
  after_results
  pointwise
  exact Lin.sitofp_field _ ⟨q.val % 8, by omega⟩

/-- Row `q` of the repeated group scales holds group `q / 128`'s. -/
theorem gscale (c : Dev nD) (q : Fin 16384) (n : Fin 2304) :
    V m c main_v19 (ix2 q n) = m (c.tc.loc main_arg3) (ix2 ⟨q.val / 128, by omega⟩ n) := by
  entry_read
  simp only [Gen.hostOps0, Gen.hostOps0_1, Gen.hostOps0_2, TRef.binary, TRef.nullary, TRef.unary, TRef.ternary, TRef.toBuf,
    TRef.ofBuf, cast_eq, List.flatten_cons, List.flatten_nil, List.append_nil, List.cons_append, List.nil_append]
  after_results
  pointwise

/-- The columns' scales. -/
theorem cscale (c : Dev nD) (n : Fin 2304) : V m c main_v20 (ix2 0 n) = m (c.tc.loc main_arg4) (ix1 n) := by
  entry_read
  simp only [Gen.hostOps0, Gen.hostOps0_1, Gen.hostOps0_2, TRef.binary, TRef.nullary, TRef.unary, TRef.ternary, TRef.toBuf,
    TRef.ofBuf, cast_eq, List.flatten_cons, List.flatten_nil, List.append_nil, List.cons_append, List.nil_append]
  after_results
  pointwise

/-- The keys' scale. -/
theorem kscale (c : Dev nD) : V m c main_v21 (ix2 0 0) = m (c.tc.loc main_arg7) (ix1 0) := by
  entry_read
  simp only [Gen.hostOps0, Gen.hostOps0_1, Gen.hostOps0_2, TRef.binary, TRef.nullary, TRef.unary, TRef.ternary, TRef.toBuf,
    TRef.ofBuf, cast_eq, List.flatten_cons, List.flatten_nil, List.append_nil, List.cons_append, List.nil_append]
  after_results
  pointwise

/-- The values' scale. -/
theorem vscale (c : Dev nD) : V m c main_v22 (ix2 0 0) = m (c.tc.loc main_arg8) (ix1 0) := by
  entry_read
  simp only [Gen.hostOps0, Gen.hostOps0_1, Gen.hostOps0_2, TRef.binary, TRef.nullary, TRef.unary, TRef.ternary, TRef.toBuf,
    TRef.ofBuf, cast_eq, List.flatten_cons, List.flatten_nil, List.append_nil, List.cons_append, List.nil_append]
  after_results
  pointwise

/-- A row of the scaled product, from the arguments. -/
theorem row (c : Dev nD) (t : Fin 3072) :
    lin (V m c main_v17) (V m c main_v19) (V m c main_arg0) (V m c main_arg1) (V m c main_v20) t
      = Qkv.lin (m (c.tc.loc main_arg0)) (m (c.tc.loc main_arg1)) (m (c.tc.loc main_arg2)) (m (c.tc.loc main_arg3)) (m (c.tc.loc main_arg4)) t := by
  funext n
  unfold Qkv.lin
  rw [V_main_arg0, V_main_arg1]
  exact lin_eq _ _ _ _ _ _ _ _ t n (fields m c · n) (gscale m c · n) (cscale m c n)

/-- The queries the reference leaves. -/
theorem queries (c : Dev nD) : (dats m 0 c).arrAt 9 (cfgs 0).N
    = Qkv.qs (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_after_last 9 t0_0 (by decide +kernel) _ fun j => ?_
  idx_vars j
  blk_simp
  rw [after0_9]
  frame_out
  rw [blk0, blk1, blk2, blk3, blk4, blk5, blk6]
  refine (query _ _ _ _ _ _ _ j0 j1).trans ?_
  unfold Qkv.qs Qkv.q
  rw [row, V_main_arg5, V_main_arg6]
  rfl

/-- The keys' codes the reference leaves. -/
theorem keys (c : Dev nD) : (dats m 0 c).arrAt 10 (cfgs 0).N
    = Qkv.ks (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_after_last 10 t0_0 (by decide +kernel) _ fun j => ?_
  idx_vars j
  blk_simp
  rw [after0_10]
  frame_out
  rw [blk0, blk1, blk2, blk3, blk4, blk5, blk6, blk7]
  refine (key _ _ _ _ _ _ _ _ j0 j1).trans ?_
  unfold Qkv.ks Qkv.k
  rw [row, V_main_arg5, V_main_arg6, kscale]
  rfl

/-- The values' codes the reference leaves. -/
theorem values (c : Dev nD) : (dats m 0 c).arrAt 11 (cfgs 0).N
    = Qkv.vs (m (c.tc.loc main_arg0)) (m (c.tc.loc main_arg1)) (m (c.tc.loc main_arg2)) (m (c.tc.loc main_arg3)) (m (c.tc.loc main_arg4)) (m (c.tc.loc main_arg8)) := by
  refine (dats m 0 c).arrAt_eq_of_after_last 11 t0_0 (by decide +kernel) _ fun j => ?_
  idx_vars j
  blk_simp
  rw [after0_11]
  frame_out
  rw [blk0, blk1, blk2, blk3, blk4, blk8]
  refine (value _ _ _ _ _ _ j0 j1).trans ?_
  unfold Qkv.vs Qkv.v
  rw [row, vscale]
  rfl

end Cert.QkvRefIdeal.Elem
-- ==== Proof.QkvClaim.lean ====
/- The projection of queries, keys and values and its reference leave the same three arrays. -/
module

public import proofs.«01_k».proof.Defs
public import proofs.«01_k».proof.Proof.QkvArray
public import proofs.«01_k».proof.Proof.QkvRef

@[expose] public section

set_option maxRecDepth 16384

noncomputable section

open Idealize.ShloMosaic Idealize.ShloMosaic.TcCoe Idealize.SL.Sem Idealize.ShloMosaic.StableHlo
open Idealize.ShloMosaic.Pipeline (Dat)

namespace Cert.QkvIdeal

/-- From memories agreeing on the arguments both runs end with the same queries and the same codes of the keys and the
    values. -/
theorem algebraic : @Cert.algebraic_QkvIdeal_QkvRefIdeal Cert.QkvIdeal.Gen.facts Cert.QkvRefIdeal.Gen.facts := by
  intro m g m' g' _ ha
  refine ⟨fun c => (Gen.dats m 0 c).arrAt 9 cfg0.N, fun c => (Gen.dats m 0 c).arrAt 10 cfg0.N, fun c => (Gen.dats m 0 c).arrAt 11 cfg0.N, Value.run_blocks m g, ?_⟩
  refine (θ_run _ _ _).mono (fun r h c => ⟨(h c).1.trans ?_, (h c).2.1.trans ?_, (h c).2.2.1.trans ?_, (h c).2.2.2⟩) (Cert.QkvRefIdeal.Value.run_blocks m' g')
  · obtain ⟨h0, h1, h2, h3, h4, h5, h6, h7, h8⟩ := ha c
    refine (Cert.QkvRefIdeal.Elem.queries m' c).trans (Eq.trans ?_ (Arr.queries m c).symm)
    exact congr (congr (congr (congr (congr (congr (congrArg Qkv.qs h0) h1) h2) h3) h4) h5) h6
  · obtain ⟨h0, h1, h2, h3, h4, h5, h6, h7, h8⟩ := ha c
    refine (Cert.QkvRefIdeal.Elem.keys m' c).trans (Eq.trans ?_ (Arr.keys m c).symm)
    exact congr (congr (congr (congr (congr (congr (congr (congrArg Qkv.ks h0) h1) h2) h3) h4) h5) h6) h7
  · obtain ⟨h0, h1, h2, h3, h4, h5, h6, h7, h8⟩ := ha c
    refine (Cert.QkvRefIdeal.Elem.values m' c).trans (Eq.trans ?_ (Arr.values m c).symm)
    exact congr (congr (congr (congr (congr (congrArg Qkv.vs h0) h1) h2) h3) h4) h8

end Cert.QkvIdeal
-- ==== Proof.FrontLoop.lean ====
/- The loop over the contracted axis in the query, key and value projection, run after the norm: after each trip the accumulator holds the partial product. -/
module

public import proofs.«01_k».proof.Proof.Gen.FrontIdeal.Loops
public import proofs.«01_k».proof.Proof.QkvLoop
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem Idealize.ShloMosaic.StableHlo
open Idealize.ShloMosaic.Pipeline (Dat)

namespace Cert.FrontIdeal.Loop

open Cert.FrontIdeal Cert.FrontIdeal.Gen
open Cert.QkvIdeal.Loop (trip)

theorem trips_eq : k1_t1_loop.trips = 32 := by decide

/-- A trip computes what the projection's trip computes on its own. -/
theorem pay_eq (x : FVec Ideal S512x512 .fp8e4m3) (w : IVec S64x2304 32) (g : FVec Ideal S1x4x2304 .fp8e4m3) (a : FVec Ideal S512x2304 .f32) :
    k1_pay3 (F := Ideal) x w g a = Cert.QkvIdeal.Gen.k0_pay3 (F := Ideal) x w g a := by
  unfold k1_pay3
  rw [shapeCast_self x _]
  rfl

/-- What a trip stores. -/
theorem pay_apply (x : FVec Ideal S512x16384 .fp8e4m3) (w : IVec S2048x2304 32) (g : FVec Ideal S32x4x2304 .fp8e4m3)
    (a : FVec Ideal S512x2304 .f32) (k : Fin k1_t1_loop.trips) (t : Fin 512) (n : Fin 2304) :
    k1_pay3 (View.ld x (Rect.unit (s := S512x16384) (k1_off1 k) S512x512.size (k1_off1_inb k))) (View.ld w (Rect.unit (s := S2048x2304) (k1_off2 k) S64x2304.size (k1_off2_inb k)))
          (View.ld g (Rect.unit (s := S32x4x2304) (k1_off3 k) S1x4x2304.size (k1_off3_inb k)))
          (View.ld a (Rect.unit (s := S512x2304) ![0, 0] S512x2304.size inb_S512x2304_S512x2304_0_0)) (ix2 t n)
      = a (ix2 t n) + trip x w g t n ⟨k.val, k.isLt.trans_eq trips_eq⟩ := by
  exact (congrFun (pay_eq _ _ _ _) _).trans (Cert.QkvIdeal.Loop.pay_apply x w g a k t n)

section
variable (𝒱 : Variants) (c : Dev nD) (bd : Option 𝒱.V) (i : grid1.Coords)
  (arg1 : Memref sig .tc .vmem S512x16384 .fp8e4m3) (harg1 : arg1.IsWhole)
  (arg2 : Memref sig .tc .vmem S512x1 .f32) (harg2 : arg2.IsWhole)
  (arg3 : Memref sig .tc .vmem S2048x2304 .i32) (harg3 : arg3.IsWhole)
  (arg4 : Memref sig .tc .vmem S32x4x2304 .fp8e4m3) (harg4 : arg4.IsWhole)
  (arg5 : Memref sig .tc .vmem S1x2304 .f32) (harg5 : arg5.IsWhole)
  (arg6 : Memref sig .tc .vmem S512x64 .f32) (harg6 : arg6.IsWhole)
  (arg7 : Memref sig .tc .vmem S512x64 .f32) (harg7 : arg7.IsWhole)
  (arg8 : Memref sig .tc .vmem S1x1 .f32) (harg8 : arg8.IsWhole)
  (arg9 : Memref sig .tc .vmem S1x1 .f32) (harg9 : arg9.IsWhole)
  (arg10 : Memref sig .tc .vmem S512x2048 .bf16) (harg10 : arg10.IsWhole)
  (arg11 : Memref sig .tc .vmem S512x128 .fp8e4m3) (harg11 : arg11.IsWhole)
  (arg12 : Memref sig .tc .vmem S512x128 .fp8e4m3) (harg12 : arg12.IsWhole)
  (arg13 : Memref sig .tc .vmem S512x2304 .f32) (harg13 : arg13.IsWhole)
  (x1 : FVec Ideal S512x16384 .fp8e4m3) (x3 : IVec S2048x2304 32) (x4 : FVec Ideal S32x4x2304 .fp8e4m3)
  (G : BufTy.Contents (Elt Ideal) arg13.view.ty)

/-- The store of a trip. -/
theorem pieces (k : Fin k1_t1_loop.trips) (f : BufTy.Contents (Elt Ideal) arg13.view.ty) :
    tripL_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x1) (harg3.unread x3) (harg4.unread x4) k f
      = [⟨(Rect.unit (s := S512x2304) ![0, 0] S512x2304.size inb_S512x2304_S512x2304_0_0),
          k1_pay3 (View.ld x1 (Rect.unit (s := S512x16384) (k1_off1 k) S512x512.size (k1_off1_inb k))) (View.ld x3 (Rect.unit (s := S2048x2304) (k1_off2 k) S64x2304.size (k1_off2_inb k)))
          (View.ld x4 (Rect.unit (s := S32x4x2304) (k1_off3 k) S1x4x2304.size (k1_off3_inb k)))
            (View.ld (View.read (Elt Ideal) arg13.view f) (Rect.unit (s := S512x2304) ![0, 0] S512x2304.size inb_S512x2304_S512x2304_0_0))⟩] := by
  unfold tripL_k1_t1 trip_k1_t1
  frame_out

/-- The accumulator after the first `k` trips. -/
theorem acc (t : Fin 512) (n : Fin 2304) : ∀ (k : ℕ) (hk : k ≤ 32),
    View.read (Elt Ideal) arg13.view (arg13.view.writes (Elt Ideal) G (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x1) (harg3.unread x3) (harg4.unread x4) G k)) (ix2 t n)
      = View.read (Elt Ideal) arg13.view G (ix2 t n) + ∑ q : Fin k, trip x1 x3 x4 t n ⟨q.val, by omega⟩ := by
  intro k
  induction k with
  | zero => intro _; rw [pb_k1_t1.eq_1]; simp [View.writes]
  | succ k ih =>
    intro hk
    have h := pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x1) (harg3.unread x3) (harg4.unread x4) G ⟨k, by rw [trips_eq]; omega⟩
    dsimp only at h
    rw [h, pieces, List.cons_append, List.nil_append]
    refine (View.read_writes_cons_unit_of_mem arg13.view G _ _ _ (ix2 t n) (ix2 t n) (off' := ![0, 0]) rfl
      (fun a => by fin_cases a <;> simp [ix2])).trans ?_
    rw [pay_apply, ih (by omega), Fin.sum_univ_castSucc, ← add_assoc]
    rfl

/-- The accumulator as the loop leaves it, started from zeros, read through any rectangle. -/
theorem acc_read (R : LoadRect S512x2304) (j : R.shape.Idx) (t : Fin 512) (n : Fin 2304) (e : R.idx j = ix2 t n) :
    arg13.view.readCov (Val := Elt Ideal) (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x1) (harg3.unread x3) (harg4.unread x4)
        (arg13.view.writes (Elt Ideal) arg13.view.junk [⟨(Rect.unit (s := S512x2304) ![0, 0] S512x2304.size inb_S512x2304_S512x2304_0_0), k1_pay2 (F := Ideal)⟩])
        k1_t1_loop.trips ++ [⟨(Rect.unit (s := S512x2304) ![0, 0] S512x2304.size inb_S512x2304_S512x2304_0_0), k1_pay2 (F := Ideal)⟩]) R j
      = ∑ q : Fin 32, trip x1 x3 x4 t n q := by
  have h := acc 𝒱 c bd i arg1 harg1 arg2 harg2 arg3 harg3 arg4 harg4 arg5 harg5 arg6 harg6 arg7 harg7 arg8 harg8 arg9 harg9 arg10 harg10 arg11 harg11 arg12 harg12 arg13 harg13 x1 x3 x4
    (arg13.view.writes (Elt Ideal) arg13.view.junk [⟨(Rect.unit (s := S512x2304) ![0, 0] S512x2304.size inb_S512x2304_S512x2304_0_0), k1_pay2 (F := Ideal)⟩]) t n 32 le_rfl
  have z : View.read (Elt Ideal) arg13.view (arg13.view.writes (Elt Ideal) arg13.view.junk [⟨(Rect.unit (s := S512x2304) ![0, 0] S512x2304.size inb_S512x2304_S512x2304_0_0), k1_pay2 (F := Ideal)⟩]) (ix2 t n) = 0 := by
    refine (View.read_writes_cons_unit_of_mem arg13.view arg13.view.junk _ _ _ (ix2 t n) (ix2 t n) (off' := ![0, 0]) rfl
      (fun a => by fin_cases a <;> simp [ix2])).trans ?_
    pointwise [k1_pay2]
  show View.read (Elt Ideal) arg13.view _ _ = _
  rw [View.writes_append, e]
  refine h.trans ?_
  rw [z, zero_add]

end

end Cert.FrontIdeal.Loop
-- ==== Proof.FrontBlock.lean ====
/- What one grid point of the query, key and value projection, run after the norm, stores, from the blocks it reads. -/
module

public import proofs.«01_k».proof.Proof.Gen.FrontIdeal.Frame
public import proofs.«01_k».proof.Proof.FrontLoop
public import proofs.«01_k».proof.Proof.QkvBlock

@[expose] public section

set_option maxRecDepth 16384

noncomputable section

open Idealize.ShloMosaic Idealize.ShloMosaic.TcCoe Idealize.SL.Sem Idealize.ShloMosaic.StableHlo
open Idealize.ShloMosaic.Pipeline (Dat)

namespace Cert.FrontIdeal.Block

open Cert.FrontIdeal Cert.FrontIdeal.Gen
open Cert.QkvIdeal.Block (scaled_apply turned_apply code_apply lin query)

section Point

variable (c : Dev nD) (i : grid1.Coords)
  (arg1 : Memref sig .tc .vmem S512x16384 .fp8e4m3) (harg1 : arg1.IsWhole)
  (arg2 : Memref sig .tc .vmem S512x1 .f32) (harg2 : arg2.IsWhole)
  (arg3 : Memref sig .tc .vmem S2048x2304 .i32) (harg3 : arg3.IsWhole)
  (arg4 : Memref sig .tc .vmem S32x4x2304 .fp8e4m3) (harg4 : arg4.IsWhole)
  (arg5 : Memref sig .tc .vmem S1x2304 .f32) (harg5 : arg5.IsWhole)
  (arg6 : Memref sig .tc .vmem S512x64 .f32) (harg6 : arg6.IsWhole)
  (arg7 : Memref sig .tc .vmem S512x64 .f32) (harg7 : arg7.IsWhole)
  (arg8 : Memref sig .tc .vmem S1x1 .f32) (harg8 : arg8.IsWhole)
  (arg9 : Memref sig .tc .vmem S1x1 .f32) (harg9 : arg9.IsWhole)
  (arg10 : Memref sig .tc .vmem S512x2048 .bf16) (harg10 : arg10.IsWhole)
  (arg11 : Memref sig .tc .vmem S512x128 .fp8e4m3) (harg11 : arg11.IsWhole)
  (arg12 : Memref sig .tc .vmem S512x128 .fp8e4m3) (harg12 : arg12.IsWhole)
  (arg13 : Memref sig .tc .vmem S512x2304 .f32) (harg13 : arg13.IsWhole)
  (x0 : Vec Ideal S512x16384 .fp8e4m3) (x1 : Vec Ideal S512x1 .f32) (x2 : Vec Ideal S2048x2304 .i32)
  (x3 : Vec Ideal S32x4x2304 .fp8e4m3) (x4 : Vec Ideal S1x2304 .f32) (x5 x6 : Vec Ideal S512x64 .f32) (x7 x8 : Vec Ideal S1x1 .f32)

/-- The accumulator's columns of one head, as the kernel loads them. -/
abbrev accCols (h : Fin 18) (inb : ∀ a, (![0, 128 * h.val] : Fin 2 → ℕ) a + S512x128.size a ≤ S512x2304.size a) : FVec Ideal S512x128 .f32 :=
  arg13.view.readCov (Val := Elt Ideal) (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg3.unread x2) (harg4.unread x3)
        (arg13.view.writes (Elt Ideal) arg13.view.junk [⟨(Rect.unit (s := S512x2304) ![0, 0] S512x2304.size inb_S512x2304_S512x2304_0_0), k1_pay2 (F := Ideal)⟩])
        k1_t1_loop.trips ++ [⟨(Rect.unit (s := S512x2304) ![0, 0] S512x2304.size inb_S512x2304_S512x2304_0_0), k1_pay2 (F := Ideal)⟩])
    (Rect.unit (s := S512x2304) ![0, 128 * h.val] S512x128.size inb).toLoadRect

/-- The columns' scales of one head, as the kernel loads them. -/
abbrev scaleCols (h : Fin 18) (inb : ∀ a, (![0, 128 * h.val] : Fin 2 → ℕ) a + S1x128.size a ≤ S1x2304.size a) : FVec Ideal S1x128 .f32 :=
  View.ld x4 (Rect.unit (s := S1x2304) ![0, 128 * h.val] S1x128.size inb)

/-- A head's columns are its columns of the scaled product. -/
theorem cols_apply (h : Fin 18) (inb inb') (a : Fin 512) (d : Fin 128) :
    Cert.QkvIdeal.Gen.k0_pay29 (F := Ideal) (k1_pay4 (F := Ideal) x1) (accCols c i arg1 harg1 arg2 harg2 arg3 harg3 arg4 harg4 arg5 harg5 arg6 harg6 arg7 harg7 arg8 harg8 arg9 harg9 arg10 harg10 arg11 harg11 arg12 harg12 arg13 harg13 x0 x2 x3 h inb) (scaleCols x4 h inb') (ix2 a d)
      = Qkv.head (lin x0 x1 x2 x3 x4 a) h d := by
  rw [show k1_pay4 (F := Ideal) x1 = x1 from shapeCast_self _ _, scaled_apply]
  unfold Qkv.head lin
  congr 1
  · congr 1
    refine Loop.acc_read Variants.none c none i arg1 harg1 arg2 harg2 arg3 harg3 arg4 harg4 arg5 harg5 arg6 harg6 arg7 harg7 arg8 harg8 arg9 harg9 arg10 harg10 arg11 harg11 arg12 harg12 arg13 harg13 x0 x2 x3 (Rect.unit (s := S512x2304) ![0, 128 * h.val] S512x128.size inb).toLoadRect (ix2 a d) a ⟨128 * h.val + d.val, by omega⟩ ?_
    funext b; fin_cases b <;> apply Fin.ext <;> simp [Rect.unit, LoadRect.idx, Rect.toLoadRect, ix2]
  · refine congrArg x4 ?_
    funext b; fin_cases b <;> apply Fin.ext <;> simp [Rect.unit, LoadRect.idx, Rect.toLoadRect, ix2]

/-- What the kernel stores for one head of the queries. -/
def headQ (h : Fin 16) : FVec Ideal S512x128 .bf16 :=
  Cert.QkvIdeal.Gen.k0_pay9 (F := Ideal) (k1_pay4 (F := Ideal) x1) (Cert.QkvIdeal.Gen.k0_pay4 x5 x5) (Cert.QkvIdeal.Gen.k0_pay5 x6 x6) (accCols c i arg1 harg1 arg2 harg2 arg3 harg3 arg4 harg4 arg5 harg5 arg6 harg6 arg7 harg7 arg8 harg8 arg9 harg9 arg10 harg10 arg11 harg11 arg12 harg12 arg13 harg13 x0 x2 x3 ⟨h.val, by omega⟩ (by
    intro a; fin_cases a <;> simp [S512x2304]; omega)) (scaleCols x4 ⟨h.val, by omega⟩ (by intro a; fin_cases a <;> simp [S1x2304]; omega))

/-- One element of what the kernel stores for one head of the queries. -/
theorem headQ_apply (h : Fin 16) (a : Fin 512) (d : Fin 128) :
    headQ c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 h (ix2 a d)
      = Qkv.rot (Qkv.head (lin x0 x1 x2 x3 x4 a) ⟨h.val, by omega⟩) (fun k => x5 (ix2 a k)) (fun k => x6 (ix2 a k)) d := by
  refine (turned_apply x5 x6 (Cert.QkvIdeal.Gen.k0_pay29 (F := Ideal) (k1_pay4 (F := Ideal) x1) (accCols c i arg1 harg1 arg2 harg2 arg3 harg3 arg4 harg4 arg5 harg5 arg6 harg6 arg7 harg7 arg8 harg8 arg9 harg9 arg10 harg10 arg11 harg11 arg12 harg12 arg13 harg13 x0 x2 x3 ⟨h.val, _⟩ _) (scaleCols x4 ⟨h.val, _⟩ _)) rotates_S512x128_d1 a d).trans ?_
  exact congrArg (fun f => Qkv.rot f (fun k => x5 (ix2 a k)) (fun k => x6 (ix2 a k)) d)
    (funext fun k => cols_apply c i arg1 harg1 arg2 harg2 arg3 harg3 arg4 harg4 arg5 harg5 arg6 harg6 arg7 harg7 arg8 harg8 arg9 harg9 arg10 harg10 arg11 harg11 arg12 harg12 arg13 harg13 x0 x1 x2 x3 x4 _ _ _ a k)

/-- What the kernel stores for one head are the queries at that head's columns. -/
theorem piece (h : Fin 16) (inb) (y : S512x128.Idx) :
    headQ c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 h y
      = query x0 x1 x2 x3 x4 x5 x6 ((Rect.unit (s := S512x2048) ![0, 128 * h.val] S512x128.size inb).emb y 0)
          ((Rect.unit (s := S512x2048) ![0, 128 * h.val] S512x128.size inb).emb y 1) := by
  idx_vars y
  have hy : 128 * h.val + y1.val < 2048 := by omega
  have e0 : (Rect.unit (s := S512x2048) ![0, 128 * h.val] S512x128.size inb).emb (ix2 y0 y1) 0 = y0 := Fin.ext (by simp [Rect.unit, Rect.emb, ix2])
  have e1 : (Rect.unit (s := S512x2048) ![0, 128 * h.val] S512x128.size inb).emb (ix2 y0 y1) 1 = (⟨128 * h.val + y1.val, hy⟩ : Fin 2048) :=
    Fin.ext (by simp [Rect.unit, Rect.emb, ix2])
  rw [e0, e1]
  unfold query
  have f1 : (⟨(128 * h.val + y1.val) / 128, by omega⟩ : Fin 18) = ⟨h.val, by omega⟩ := Fin.ext (by dsimp only; omega)
  have f2 : (⟨(128 * h.val + y1.val) % 128, by omega⟩ : Fin 128) = y1 := Fin.ext (by dsimp only; omega)
  rw [f1, f2]
  exact headQ_apply c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 h y0 y1

/-- One element of the block of queries a grid point stores. -/
theorem out9_apply (a : Fin 512) (b : Fin 2048) :
    out1_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 a b)
      = query x0 x1 x2 x3 x4 x5 x6 a b := by
  unfold out1_A_9
  refine (View.read_writes_junk_apply_eq_canon VO1_9 (ix2 a b) _).trans ?_
  refine View.canon_apply_of_pieces (Val := Elt Ideal) (S := S512x2048) (e := .bf16) (fun y : S512x2048.Idx => query x0 x1 x2 x3 x4 x5 x6 (y 0) (y 1)) _ ?_ (ix2 a b) (cover1_A_9 _ _ _ _ _ _ _ _ _ _ _ _ _ _ _ _ _ _ _ _ _ _ _ _ _ _ _ _ _ _ _ _ _ _ _ _ _ _)
  frame_out
  simp only [List.forall_mem_cons]
  have P := piece c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
  exact ⟨P 15 _, P 14 _, P 13 _, P 12 _, P 11 _, P 10 _, P 9 _, P 8 _, P 7 _, P 6 _, P 5 _, P 4 _, P 3 _, P 2 _, P 1 _, P 0 _,
    fun _ h => absurd h List.not_mem_nil⟩

/-- One element of the block of keys' codes a grid point stores. -/
theorem out10_apply (a : Fin 512) (d : Fin 128) :
    out1_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 a d)
      = Tok.clip (Qkv.rot (Qkv.head (lin x0 x1 x2 x3 x4 a) 16) (fun k => x5 (ix2 a k)) (fun k => x6 (ix2 a k)) d) (x7 (ix2 0 0)) := by
  unfold out1_A_10
  frame_out
  refine (code_apply x7 _ bitsLt_fp8e4m3_f32 a d).trans ?_
  congr 1
  refine (turned_apply x5 x6 (Cert.QkvIdeal.Gen.k0_pay29 (F := Ideal) (k1_pay4 (F := Ideal) x1) (accCols c i arg1 harg1 arg2 harg2 arg3 harg3 arg4 harg4 arg5 harg5 arg6 harg6 arg7 harg7 arg8 harg8 arg9 harg9 arg10 harg10 arg11 harg11 arg12 harg12 arg13 harg13 x0 x2 x3 16 inb_S512x2304_S512x128_0_2048) (scaleCols x4 16 inb_S1x2304_S1x128_0_2048)) rotates_S512x128_d1 a d).trans ?_
  exact congrArg (fun f => Qkv.rot f (fun k => x5 (ix2 a k)) (fun k => x6 (ix2 a k)) d)
    (funext fun k => cols_apply c i arg1 harg1 arg2 harg2 arg3 harg3 arg4 harg4 arg5 harg5 arg6 harg6 arg7 harg7 arg8 harg8 arg9 harg9 arg10 harg10 arg11 harg11 arg12 harg12 arg13 harg13 x0 x1 x2 x3 x4 _ _ _ a k)

/-- One element of the block of values' codes a grid point stores. -/
theorem out11_apply (a : Fin 512) (d : Fin 128) :
    out1_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 a d)
      = Tok.clip (Qkv.head (lin x0 x1 x2 x3 x4 a) 17 d) (x8 (ix2 0 0)) := by
  unfold out1_A_11
  frame_out
  refine (code_apply x8 _ bitsLt_fp8e4m3_f32 a d).trans ?_
  congr 1
  exact cols_apply c i arg1 harg1 arg2 harg2 arg3 harg3 arg4 harg4 arg5 harg5 arg6 harg6 arg7 harg7 arg8 harg8 arg9 harg9 arg10 harg10 arg11 harg11 arg12 harg12 arg13 harg13 x0 x1 x2 x3 x4 17 inb_S512x2304_S512x128_0_2176 inb_S1x2304_S1x128_0_2176 a d

end Point

end Cert.FrontIdeal.Block
-- ==== Proof.FrontArray.lean ====
/- The arrays the norm with its quantiser, and after it the projection of queries, keys and values, leave, element by element. -/
module

public import proofs.«01_k».proof.Proof.FrontBlock
public import proofs.«01_k».proof.Proof.NormQArray
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.FrontIdeal.Arr

open Cert.FrontIdeal Cert.FrontIdeal.Gen
open Cert.NormQIdeal.Arr (blockRow scale code)

variable (V : (c : Dev nD) → (b : Ref sig .tc) → Buf (Elt Ideal) ((c : Thread nD τ).loc b)) (c : Dev nD)

/-! ## The norm and its quantiser, from any contents at its entry -/

section Norm

variable (x : FVec Ideal ⟨2, ![3072, 16384]⟩ .bf16) (g : FVec Ideal ⟨1, ![16384]⟩ .f32)
  (hx : V c main_arg0 = x) (hg : ∀ k : Fin 16384, V c main_v0 (ix2 0 k) = g (ix1 k))

/-- Where each window's block lies at a grid point. -/
theorem idx0 : ∀ t : Fin cfg0.N,
    win0_0.index t = ![(grid0.coords t 0).val, 0] ∧ win0_1.index t = ![0, 0] ∧ win0_2.index t = ![(grid0.coords t 0).val, 0] ∧ win0_3.index t = ![(grid0.coords t 0).val, 0] :=
  (by decide +kernel : ∀ t : Fin grid0.N,
    win0_0.index t = ![(grid0.coords t 0).val, 0] ∧ win0_1.index t = ![0, 0] ∧ win0_2.index t = ![(grid0.coords t 0).val, 0] ∧ win0_3.index t = ![(grid0.coords t 0).val, 0])

include hx hg in
/-- A row of a block is a row of the array. -/
theorem row (t : Fin cfg0.N) (a : Fin 128) (h) :
    blockRow (iblk0 V c 0 t) (iblk0 V c 1 t) a = Tok.normed .bf16 x g ⟨(grid0.coords t 0).val * 128 + a.val, h⟩ := by
  unfold blockRow Tok.normed
  refine congr (congrArg Tok.norm (funext fun k => ?_)) (funext fun k => ?_)
  · subst hx
    unfold Tok.rows
    blk_point [iblk0, idx0 t]
  · refine Eq.trans ?_ (hg k)
    blk_point [iblk0, idx0 t]

include hx hg in
/-- The codes as a whole. -/
theorem codes : (dat0 V c).arrAt 2 cfg0.N = Tok.codes (Tok.normed .bf16 x g) := by
  refine (dat0 V c).arrAt_eq_of_covers 2 _ (by decide +kernel) fun t _ y => ?_
  idx_vars y
  blk_simp
  rw [after0_2]
  frame_out
  have hi : (grid0.coords t 0).val < 24 := (grid0.coords t 0).isLt
  have e0 : ((View.whole main_v1_0).slice (win0_2.rect t)).emb (ix2 y0 y1) 0 = (⟨(grid0.coords t 0).val * 128 + y0.val, by omega⟩ : Fin 3072) := by
    refine Fin.ext ?_
    blk_simp [idx0 t]
  have e1 : ((View.whole main_v1_0).slice (win0_2.rect t)).emb (ix2 y0 y1) 1 = y1 := by
    refine Fin.ext ?_
    blk_simp [idx0 t]
  unfold Tok.codes
  rw [e0, e1]
  exact (code _ _ y0 y1).trans (congrArg (Tok.code · y1) (row V c x g hx hg t y0 (by omega)))

include hx hg in
/-- The scales as a whole. -/
theorem scales : (dat0 V c).arrAt 3 cfg0.N = Tok.scales (Tok.normed .bf16 x g) := by
  refine (dat0 V c).arrAt_eq_of_covers 3 _ (by decide +kernel) fun t _ y => ?_
  idx_vars y
  blk_simp
  rw [after0_3]
  frame_out
  have hi : (grid0.coords t 0).val < 24 := (grid0.coords t 0).isLt
  have e0 : ((View.whole main_v1_1).slice (win0_3.rect t)).emb (ix2 y0 y1) 0 = (⟨(grid0.coords t 0).val * 128 + y0.val, by omega⟩ : Fin 3072) := by
    refine Fin.ext ?_
    blk_simp [idx0 t]
  obtain rfl : y1 = 0 := Subsingleton.elim _ _
  unfold Tok.scales
  rw [e0]
  exact (scale _ _ y0).trans (congrArg Tok.scale (row V c x g hx hg t y0 (by omega)))

end Norm

/-! ## The projection, from any contents at its entry -/

section Projection

variable (A : FVec Ideal ⟨2, ![3072, 16384]⟩ .fp8e4m3) (s : FVec Ideal ⟨2, ![3072, 1]⟩ .f32) (w : IVec ⟨2, ![2048, 2304]⟩ 32)
  (r : FVec Ideal ⟨2, ![128, 2304]⟩ .fp8e4m3) (cs : FVec Ideal ⟨1, ![2304]⟩ .f32) (co si : FVec Ideal ⟨2, ![3072, 64]⟩ .f32)
  (kz vz : FVec Ideal ⟨1, ![1]⟩ .f32)
  (hA : V c main_v1_0 = A) (hs : V c main_v1_1 = s) (hw : V c main_arg2 = w)
  (hr : ∀ (k : Fin 32) (a : Fin 4) (n : Fin 2304) (h), V c main_v2 (ix3 k a n) = r (ix2 ⟨4 * k.val + a.val, h⟩ n))
  (hcs : ∀ n : Fin 2304, V c main_v3 (ix2 0 n) = cs (ix1 n)) (hco : V c main_arg5 = co) (hsi : V c main_arg6 = si)
  (hk : V c main_v4 (ix2 0 0) = kz (ix1 0)) (hv : V c main_v5 (ix2 0 0) = vz (ix1 0))

/-- Where the block of each operand that is not read whole lies at a grid point. -/
theorem idx1 : ∀ t : Fin cfg1.N,
    win1_0.index t = ![(grid1.coords t 0).val, 0] ∧ win1_1.index t = ![(grid1.coords t 0).val, 0] ∧ win1_2.index t = ![0, 0] ∧ win1_3.index t = ![0, 0, 0] ∧ win1_4.index t = ![0, 0]
    ∧ win1_5.index t = ![(grid1.coords t 0).val, 0] ∧ win1_6.index t = ![(grid1.coords t 0).val, 0] ∧ win1_7.index t = ![0, 0] ∧ win1_8.index t = ![0, 0]
    ∧ win1_9.index t = ![(grid1.coords t 0).val, 0] ∧ win1_10.index t = ![(grid1.coords t 0).val, 0] ∧ win1_11.index t = ![(grid1.coords t 0).val, 0] :=
  (by decide +kernel : ∀ t : Fin grid1.N,
    win1_0.index t = ![(grid1.coords t 0).val, 0] ∧ win1_1.index t = ![(grid1.coords t 0).val, 0] ∧ win1_2.index t = ![0, 0] ∧ win1_3.index t = ![0, 0, 0] ∧ win1_4.index t = ![0, 0]
    ∧ win1_5.index t = ![(grid1.coords t 0).val, 0] ∧ win1_6.index t = ![(grid1.coords t 0).val, 0] ∧ win1_7.index t = ![0, 0] ∧ win1_8.index t = ![0, 0]
    ∧ win1_9.index t = ![(grid1.coords t 0).val, 0] ∧ win1_10.index t = ![(grid1.coords t 0).val, 0] ∧ win1_11.index t = ![(grid1.coords t 0).val, 0])

include hA hs hw hr hcs in
/-- A row of a block's scaled product is a row of the whole one. -/
theorem lin (t : Fin cfg1.N) (a : Fin 512) (h0) :
    Cert.QkvIdeal.Block.lin (iblk1 V c 0 t) (iblk1 V c 1 t) (iblk1 V c 2 t) (iblk1 V c 3 t) (iblk1 V c 4 t) a
      = Qkv.lin A s w r cs ⟨(grid1.coords t 0).val * 512 + a.val, h0⟩ := by
  subst hA hs hw
  funext b
  have e3 : ∀ (k : Fin 32) (d : Fin 4), iblk1 V c 3 t (ix3 k d b) = r (ix2 ⟨4 * k.val + d.val, by omega⟩ b) := fun k d => by
    refine Eq.trans ?_ (hr k d b _)
    blk_point [iblk1, idx1 t]
  have e4 : iblk1 V c 4 t (ix2 0 b) = cs (ix1 b) := by
    refine Eq.trans ?_ (hcs b)
    blk_point [iblk1, idx1 t]
  unfold Qkv.lin Lin.elem Cert.QkvIdeal.Block.lin
  rw [Lin.dot_trips 32 16384 2048 128 rfl rfl rfl, e4]
  unfold Cert.QkvIdeal.Loop.trip
  simp only [e3]
  blk_point [iblk1, idx1 t]

include hco in
/-- A row of a block of cosines. -/
theorem cos (t : Fin cfg1.N) (a : Fin 512) (h0) :
    (fun k : Fin 64 => iblk1 V c 5 t (ix2 a k)) = fun k : Fin 64 => co (ix2 ⟨(grid1.coords t 0).val * 512 + a.val, h0⟩ k) := by
  subst hco
  funext k
  blk_point [iblk1, idx1 t]

include hsi in
/-- A row of a block of sines. -/
theorem sin (t : Fin cfg1.N) (a : Fin 512) (h0) :
    (fun k : Fin 64 => iblk1 V c 6 t (ix2 a k)) = fun k : Fin 64 => si (ix2 ⟨(grid1.coords t 0).val * 512 + a.val, h0⟩ k) := by
  subst hsi
  funext k
  blk_point [iblk1, idx1 t]

include hk in
/-- The keys' scale. -/
theorem kscale (t : Fin cfg1.N) : iblk1 V c 7 t (ix2 0 0) = kz (ix1 0) := by
  refine Eq.trans ?_ hk
  blk_point [iblk1, idx1 t]

include hv in
/-- The values' scale. -/
theorem vscale (t : Fin cfg1.N) : iblk1 V c 8 t (ix2 0 0) = vz (ix1 0) := by
  refine Eq.trans ?_ hv
  blk_point [iblk1, idx1 t]

include hA hs hw hr hcs hco hsi in
/-- The queries as a whole. -/
theorem queries : (dat1 V c).arrAt 9 cfg1.N
    = Qkv.qs A s w r cs co si := by
  refine (dat1 V c).arrAt_eq_of_covers 9 _ (by decide +kernel) fun t _ y => ?_
  idx_vars y
  blk_simp
  unfold Qkv.qs
  rw [after1_9]
  unfold outsAt1
  have hi : (grid1.coords t 0).val < 6 := (grid1.coords t 0).isLt
  have e0 : ((View.whole main_v6_0).slice (win1_9.rect t)).emb (ix2 y0 y1) 0 = (⟨(grid1.coords t 0).val * 512 + y0.val, by omega⟩ : Fin 3072) := by
    refine Fin.ext ?_
    blk_simp [idx1 t]
  have e1 : ((View.whole main_v6_0).slice (win1_9.rect t)).emb (ix2 y0 y1) 1 = y1 := by
    refine Fin.ext ?_
    blk_simp [idx1 t]
  rw [e0, e1]
  refine (Block.out9_apply _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) y0 y1).trans ?_
  unfold Cert.QkvIdeal.Block.query Qkv.q
  rw [lin V c A s w r cs hA hs hw hr hcs t y0 (by omega), cos V c co hco t y0 (by omega), sin V c si hsi t y0 (by omega)]

include hA hs hw hr hcs hco hsi hk in
/-- The keys' codes as a whole. -/
theorem keys : (dat1 V c).arrAt 10 cfg1.N
    = Qkv.ks A s w r cs co si kz := by
  refine (dat1 V c).arrAt_eq_of_covers 10 _ (by decide +kernel) fun t _ y => ?_
  idx_vars y
  blk_simp
  unfold Qkv.ks
  rw [after1_10]
  unfold outsAt1
  have hi : (grid1.coords t 0).val < 6 := (grid1.coords t 0).isLt
  have e0 : ((View.whole main_v6_1).slice (win1_10.rect t)).emb (ix2 y0 y1) 0 = (⟨(grid1.coords t 0).val * 512 + y0.val, by omega⟩ : Fin 3072) := by
    refine Fin.ext ?_
    blk_simp [idx1 t]
  have e1 : ((View.whole main_v6_1).slice (win1_10.rect t)).emb (ix2 y0 y1) 1 = y1 := by
    refine Fin.ext ?_
    blk_simp [idx1 t]
  rw [e0, e1]
  refine (Block.out10_apply _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) y0 y1).trans ?_
  unfold Qkv.k
  rw [lin V c A s w r cs hA hs hw hr hcs t y0 (by omega), cos V c co hco t y0 (by omega), sin V c si hsi t y0 (by omega), kscale V c kz hk t]

include hA hs hw hr hcs hv in
/-- The values' codes as a whole. -/
theorem values : (dat1 V c).arrAt 11 cfg1.N
    = Qkv.vs A s w r cs vz := by
  refine (dat1 V c).arrAt_eq_of_covers 11 _ (by decide +kernel) fun t _ y => ?_
  idx_vars y
  blk_simp
  unfold Qkv.vs
  rw [after1_11]
  unfold outsAt1
  have hi : (grid1.coords t 0).val < 6 := (grid1.coords t 0).isLt
  have e0 : ((View.whole main_v6_2).slice (win1_11.rect t)).emb (ix2 y0 y1) 0 = (⟨(grid1.coords t 0).val * 512 + y0.val, by omega⟩ : Fin 3072) := by
    refine Fin.ext ?_
    blk_simp [idx1 t]
  have e1 : ((View.whole main_v6_2).slice (win1_11.rect t)).emb (ix2 y0 y1) 1 = y1 := by
    refine Fin.ext ?_
    blk_simp [idx1 t]
  rw [e0, e1]
  refine (Block.out11_apply _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) y0 y1).trans ?_
  unfold Qkv.v
  rw [lin V c A s w r cs hA hs hw hr hcs t y0 (by omega), vscale V c vz hv t]

end Projection

end Cert.FrontIdeal.Arr
-- ==== Proof.FrontRun.lean ====
/- Every buffer of a final state of the norm, its quantiser and the projection of queries, keys and values, run in a row, holds what the chain of regions leaves in it. -/
module

public import proofs.«01_k».proof.Proof.Gen.FrontIdeal.Frame
public import Idealize.ShloMosaic.PureOps.Ideal

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.FrontIdeal.Run

open Cert.FrontIdeal Cert.FrontIdeal.Gen

variable (m : (ℓ : Loc nD τ sig) → Buf (Elt Ideal) ℓ) (ρ : Dev nD → PrngReg)

-- the launch's implicit arguments are found by unifying its conclusion with this one, which takes unfolding plain
-- definitions in a metavariable's type
set_option backward.isDefEq.respectTransparency.types false in
/-- Every final state has in every buffer that outlives the launches the contents after the last region. -/
theorem values : θ_run (defs (F := Ideal)) (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = W4 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c b hb => h c _ (mem_uc b hb))

end Cert.FrontIdeal.Run
-- ==== Proof.FrontRef.lean ====
/- What the reference of the norm, its quantiser and the projection of queries, keys and values, run in a row, leaves. -/
module

public import proofs.«01_k».proof.Proof.Gen.FrontRefIdeal.Value
public import proofs.«01_k».proof.Proof.QkvRef
public import proofs.«01_k».proof.Proof.TokSpec

@[expose] public section

set_option maxRecDepth 16384

noncomputable section

open Idealize.ShloMosaic Idealize.ShloMosaic.TcCoe Idealize.SL.Sem Idealize.ShloMosaic.StableHlo
open Idealize.ShloMosaic.Pipeline (Dat)

namespace Cert.FrontRefIdeal.Elem

open Cert.FrontRefIdeal Cert.FrontRefIdeal.Gen

section Body

variable (x : FVec Ideal S3072x16384 .f32) (f : Vec Ideal S16384x2304 .i8) (g : FVec Ideal S16384x2304 .fp8e4m3) (s : FVec Ideal S3072x1 .f32)
  (cs : FVec Ideal S1x2304 .f32) (co si : FVec Ideal S3072x64 .f32) (z : FVec Ideal S1x1 .f32)

/-- Over the extended reals the region's cast changes nothing. -/
theorem cast (j) : k0_pay1 (F := Ideal) x j = x j :=
  congrFun (shapeCast_self x _) j

/-- The region copies the scales. -/
theorem copy : k0_pay2 (F := Ideal) s = s := shapeCast_self _ _

/-- The product laid out by heads is the projection's of the cast rows. -/
theorem heads : k0_pay3 (F := Ideal) x f g s cs = Cert.QkvRefIdeal.Gen.k0_pay3 (F := Ideal) f g (k0_pay1 (F := Ideal) x) s cs := by
  unfold k0_pay3
  rw [shapeCast_self s _]
  rfl

/-- The queries are the projection's of the cast rows. -/
theorem query : k0_pay13 (F := Ideal) (k0_pay7 (F := Ideal) x f g s cs) (k0_pay8 (F := Ideal) x f g s cs) (k0_pay9 (F := Ideal) co) (k0_pay10 (F := Ideal) si)
      (k0_pay11 (F := Ideal) x f g s cs co) (k0_pay12 (F := Ideal) si)
    = Cert.QkvRefIdeal.Gen.k0_pay6 (F := Ideal) f g (k0_pay1 (F := Ideal) x) s cs co si := by
  unfold k0_pay11 k0_pay7 k0_pay8 k0_pay4
  rw [heads]
  rfl

/-- The keys' codes are the projection's of the cast rows. -/
theorem key : k0_pay14 (F := Ideal) (k0_pay5 (F := Ideal) x f g s cs) co si z
    = Cert.QkvRefIdeal.Gen.k0_pay1 (F := Ideal) (Cert.QkvRefIdeal.Gen.k0_pay4 (F := Ideal) f g (k0_pay1 (F := Ideal) x) s cs) co si
      (Cert.QkvRefIdeal.Gen.k0_pay7 (F := Ideal) f g (k0_pay1 (F := Ideal) x) s cs) z := by
  unfold k0_pay5
  rw [heads]
  rfl

/-- The values' codes are the projection's of the cast rows. -/
theorem value : k0_pay15 (F := Ideal) (k0_pay6 (F := Ideal) x f g s cs) z
    = Cert.QkvRefIdeal.Gen.k0_pay2 (F := Ideal) (Cert.QkvRefIdeal.Gen.k0_pay5 (F := Ideal) f g (k0_pay1 (F := Ideal) x) s cs) z := by
  unfold k0_pay6
  rw [heads]
  rfl

end Body

variable (m : (ℓ : Loc nD τ sig) → Buf (Elt Ideal) ℓ)

/-- The reference's one launch takes every array whole. -/
theorem idx : win0_0.index t0_0 = ![0, 0] ∧ win0_1.index t0_0 = ![0, 0] ∧ win0_2.index t0_0 = ![0, 0] ∧ win0_3.index t0_0 = ![0, 0] ∧ win0_4.index t0_0 = ![0, 0] ∧ win0_5.index t0_0 = ![0, 0] ∧ win0_6.index t0_0 = ![0, 0] ∧ win0_7.index t0_0 = ![0, 0] ∧ win0_8.index t0_0 = ![0, 0] := by decide +kernel

/-- The block of the elements is their array. -/
theorem read0 (A : Buf (Elt Ideal) (((0 : Dev nD) : Thread nD τ).loc main_v24)) : ((cfg0.win 0).blk t0_0).view.read (Elt Ideal) A = A := by
  funext j
  blk_ext [idx]

/-- The block of the scales is their array. -/
theorem read1 (A : Buf (Elt Ideal) (((0 : Dev nD) : Thread nD τ).loc main_v25)) : ((cfg0.win 1).blk t0_0).view.read (Elt Ideal) A = A := by
  funext j
  blk_ext [idx]

theorem blk0 (c : Dev nD) : iblk m c 0 t0_0 = V m c main_v24 :=
  read0 (V m c main_v24)
theorem blk1 (c : Dev nD) : iblk m c 1 t0_0 = V m c main_v25 :=
  read1 (V m c main_v25)
theorem blk2 (c : Dev nD) : iblk m c 2 t0_0 = V m c main_v43 := by
  funext j
  blk_ext [iblk, idx]
theorem blk3 (c : Dev nD) : iblk m c 3 t0_0 = V m c main_v45 := by
  funext j
  blk_ext [iblk, idx]
theorem blk4 (c : Dev nD) : iblk m c 4 t0_0 = V m c main_v46 := by
  funext j
  blk_ext [iblk, idx]
theorem blk5 (c : Dev nD) : iblk m c 5 t0_0 = V m c main_arg5 := by
  funext j
  blk_ext [iblk, idx]
theorem blk6 (c : Dev nD) : iblk m c 6 t0_0 = V m c main_arg6 := by
  funext j
  blk_ext [iblk, idx]
theorem blk7 (c : Dev nD) : iblk m c 7 t0_0 = V m c main_v47 := by
  funext j
  blk_ext [iblk, idx]
theorem blk8 (c : Dev nD) : iblk m c 8 t0_0 = V m c main_v48 := by
  funext j
  blk_ext [iblk, idx]

/-- A row's scale. -/
theorem scale (c : Dev nD) (a : Fin 3072) :
    V m c main_v25 (ix2 a 0) = Tok.scale (D := 16384) (Tok.normed .bf16 (m ((c : Thread nD τ).loc main_arg0)) (m ((c : Thread nD τ).loc main_arg1)) a) := by
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  refine (Tok.host_scale_apply _ _ _ _ _ a).trans (congrArg Tok.scale (funext fun k => ?_))
  exact Tok.host_norm_apply _ _ _ _ _ _ _ _ _ a k

/-- A row's code at a column. -/
theorem code (c : Dev nD) (a : Fin 3072) (b : Fin 16384) :
    V m c main_v24 (ix2 a b) = Tok.code (D := 16384) (Tok.normed .bf16 (m ((c : Thread nD τ).loc main_arg0)) (m ((c : Thread nD τ).loc main_arg1)) a) b := by
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  refine (Tok.host_code_apply _ _ _ _ a b (Tok.host_scale_apply _ _ _ _ _ a)).trans (congrArg (Tok.code · b) (funext fun k => ?_))
  exact Tok.host_norm_apply _ _ _ _ _ _ _ _ _ a k

/-- Row `q` of the fields' matrix holds field `q % 8` of word `q / 8`. -/
theorem fields (c : Dev nD) (q : Fin 16384) (n : Fin 2304) :
    FloatOps.sitofp (F := Ideal) .bf16 (V m c main_v43 (ix2 q n)) = Lin.nib (m (c.tc.loc main_arg2) (ix2 ⟨q.val / 8, by omega⟩ n)) (q.val % 8) := by
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise
  exact Lin.sitofp_field _ ⟨q.val % 8, by omega⟩

/-- Row `q` of the repeated group scales holds group `q / 128`'s. -/
theorem gscale (c : Dev nD) (q : Fin 16384) (n : Fin 2304) :
    V m c main_v45 (ix2 q n) = m (c.tc.loc main_arg3) (ix2 ⟨q.val / 128, by omega⟩ n) := by
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- The columns' scales. -/
theorem cscale (c : Dev nD) (n : Fin 2304) : V m c main_v46 (ix2 0 n) = m (c.tc.loc main_arg4) (ix1 n) := by
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- The keys' scale. -/
theorem kscale (c : Dev nD) : V m c main_v47 (ix2 0 0) = m (c.tc.loc main_arg7) (ix1 0) := by
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- The values' scale. -/
theorem vscale (c : Dev nD) : V m c main_v48 (ix2 0 0) = m (c.tc.loc main_arg8) (ix1 0) := by
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- The codes the reference leaves. -/
theorem codes (c : Dev nD) : (k0_pay1 (F := Ideal) (V m c main_v24) : FVec Ideal S3072x16384 .fp8e4m3)
    = Tok.codes (Tok.normed .bf16 (m ((c : Thread nD τ).loc main_arg0)) (m ((c : Thread nD τ).loc main_arg1))) := by
  funext j
  idx_vars j
  refine (cast _ _).trans ?_
  unfold Tok.codes
  exact code m c j0 j1

/-- The scales the reference leaves. -/
theorem scales (c : Dev nD) : (V m c main_v25 : FVec Ideal S3072x1 .f32)
    = Tok.scales (Tok.normed .bf16 (m ((c : Thread nD τ).loc main_arg0)) (m ((c : Thread nD τ).loc main_arg1))) := by
  funext j
  idx_vars j
  obtain rfl : j1 = 0 := Subsingleton.elim _ _
  unfold Tok.scales
  exact scale m c j0

/-- A row of the scaled product, from the arguments. -/
theorem row (c : Dev nD) (A : FVec Ideal S3072x16384 .fp8e4m3) (s : FVec Ideal S3072x1 .f32) (t : Fin 3072) :
    Cert.QkvRefIdeal.Elem.lin (V m c main_v43) (V m c main_v45) A s (V m c main_v46) t
      = Qkv.lin A s (m (c.tc.loc main_arg2)) (m (c.tc.loc main_arg3)) (m (c.tc.loc main_arg4)) t := by
  funext n
  unfold Qkv.lin
  exact Cert.QkvRefIdeal.Elem.lin_eq _ _ _ _ _ _ _ _ t n (fields m c · n) (gscale m c · n) (cscale m c n)

/-- The codes' array. -/
theorem arr10 (c : Dev nD) : (dats m 0 c).arrAt 10 (cfgs 0).N = Tok.codes (Tok.normed .bf16 (m ((c : Thread nD τ).loc main_arg0)) (m ((c : Thread nD τ).loc main_arg1))) := by
  refine (dats m 0 c).arrAt_eq_of_after_last 10 t0_0 (by decide +kernel) _ fun j => ?_
  idx_vars j
  blk_simp
  rw [after0_10]
  frame_out
  rw [blk0]
  exact congrFun (codes m c) _

/-- The scales' array. -/
theorem arr11 (c : Dev nD) : (dats m 0 c).arrAt 11 (cfgs 0).N = Tok.scales (Tok.normed .bf16 (m ((c : Thread nD τ).loc main_arg0)) (m ((c : Thread nD τ).loc main_arg1))) := by
  refine (dats m 0 c).arrAt_eq_of_after_last 11 t0_0 (by decide +kernel) _ fun j => ?_
  idx_vars j
  blk_simp
  rw [after0_11]
  frame_out
  rw [blk1, copy]
  exact congrFun (scales m c) _

/-- The queries' array the reference leaves. -/
theorem queries (c : Dev nD) : (dats m 0 c).arrAt 9 (cfgs 0).N
    = Qkv.qs (Tok.codes (Tok.normed .bf16 (m (c.tc.loc main_arg0)) (m (c.tc.loc main_arg1)))) (Tok.scales (Tok.normed .bf16 (m (c.tc.loc main_arg0)) (m (c.tc.loc main_arg1)))) (m (c.tc.loc main_arg2)) (m (c.tc.loc main_arg3)) (m (c.tc.loc main_arg4)) (m (c.tc.loc main_arg5)) (m (c.tc.loc main_arg6)) := by
  refine (dats m 0 c).arrAt_eq_of_after_last 9 t0_0 (by decide +kernel) _ fun j => ?_
  idx_vars j
  blk_simp
  rw [after0_9]
  frame_out
  rw [blk0, blk1, blk2, blk3, blk4, blk5, blk6, query, codes, scales]
  refine (Cert.QkvRefIdeal.Elem.query _ _ _ _ _ _ _ j0 j1).trans ?_
  unfold Qkv.qs Qkv.q
  rw [row, V_main_arg5, V_main_arg6]
  rfl

/-- The keys' codes the reference leaves. -/
theorem keys (c : Dev nD) : (dats m 0 c).arrAt 12 (cfgs 0).N
    = Qkv.ks (Tok.codes (Tok.normed .bf16 (m (c.tc.loc main_arg0)) (m (c.tc.loc main_arg1)))) (Tok.scales (Tok.normed .bf16 (m (c.tc.loc main_arg0)) (m (c.tc.loc main_arg1)))) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_after_last 12 t0_0 (by decide +kernel) _ fun j => ?_
  idx_vars j
  blk_simp
  rw [after0_12]
  frame_out
  rw [blk0, blk1, blk2, blk3, blk4, blk5, blk6, blk7, key, codes, scales]
  refine (Cert.QkvRefIdeal.Elem.key _ _ _ _ _ _ _ _ j0 j1).trans ?_
  unfold Qkv.ks Qkv.k
  rw [row, V_main_arg5, V_main_arg6, kscale]
  rfl

/-- The values' codes the reference leaves. -/
theorem values (c : Dev nD) : (dats m 0 c).arrAt 13 (cfgs 0).N
    = Qkv.vs (Tok.codes (Tok.normed .bf16 (m (c.tc.loc main_arg0)) (m (c.tc.loc main_arg1)))) (Tok.scales (Tok.normed .bf16 (m (c.tc.loc main_arg0)) (m (c.tc.loc main_arg1)))) (m (c.tc.loc main_arg2)) (m (c.tc.loc main_arg3)) (m (c.tc.loc main_arg4)) (m (c.tc.loc main_arg8)) := by
  refine (dats m 0 c).arrAt_eq_of_after_last 13 t0_0 (by decide +kernel) _ fun j => ?_
  idx_vars j
  blk_simp
  rw [after0_13]
  frame_out
  rw [blk0, blk1, blk2, blk3, blk4, blk8, value, codes, scales]
  refine (Cert.QkvRefIdeal.Elem.value _ _ _ _ _ _ j0 j1).trans ?_
  unfold Qkv.vs Qkv.v
  rw [row, vscale]
  rfl

end Cert.FrontRefIdeal.Elem
-- ==== Proof.FrontClaim.lean ====
/- The norm, its quantiser and the projection of queries, keys and values, run in a row, and their reference leave the same
   five arrays. -/
module

public import proofs.«01_k».proof.Defs
public import proofs.«01_k».proof.Proof.FrontArray
public import proofs.«01_k».proof.Proof.FrontRun
public import proofs.«01_k».proof.Proof.FrontRef

@[expose] public section

set_option maxRecDepth 16384

noncomputable section

open Idealize.ShloMosaic Idealize.ShloMosaic.TcCoe Idealize.SL.Sem Idealize.ShloMosaic.StableHlo
open Idealize.ShloMosaic.Pipeline (Dat)

namespace Cert.FrontIdeal

open Cert.FrontIdeal.Gen

section Values

variable (m : (ℓ : Loc nD τ sig) → Buf (Elt Ideal) ℓ) (ρ : Dev nD → PrngReg) (c : Dev nD)

/-- The gains as the norm reads them. -/
theorem gains (k : Fin 16384) : V1 m ρ c main_v0 (ix2 0 k) = m (c.tc.loc main_arg1) (ix1 k) := by
  show StableHlo.after hostOps0 (W0 m ρ c) (Proc.devRef .tc main_v0) (ix2 0 k) = _
  have e := W0_args m ρ c main_arg1 (by decide)
  generalize W0 m ρ c = X at e
  after_results
  rw [e]
  pointwise

/-- The group scales as the projection reads them. -/
theorem groups (k : Fin 32) (a : Fin 4) (n : Fin 2304) (h) :
    V3 m ρ c main_v2 (ix3 k a n) = m (c.tc.loc main_arg3) (ix2 ⟨4 * k.val + a.val, h⟩ n) := by
  show StableHlo.after hostOps1 (W2 m ρ c) (Proc.devRef .tc main_v2) (ix3 k a n) = _
  have e := W2_args m ρ c main_arg3 (by decide)
  generalize W2 m ρ c = X at e
  after_results
  rw [e]
  pointwise
  simp only [Nat.mul_comm 4 k.val]

/-- The columns' scales as the projection reads them. -/
theorem columns (n : Fin 2304) : V3 m ρ c main_v3 (ix2 0 n) = m (c.tc.loc main_arg4) (ix1 n) := by
  show StableHlo.after hostOps1 (W2 m ρ c) (Proc.devRef .tc main_v3) (ix2 0 n) = _
  have e := W2_args m ρ c main_arg4 (by decide)
  generalize W2 m ρ c = X at e
  after_results
  rw [e]
  pointwise

/-- The keys' scale as the projection reads it. -/
theorem keyScale : V3 m ρ c main_v4 (ix2 0 0) = m (c.tc.loc main_arg7) (ix1 0) := by
  show StableHlo.after hostOps1 (W2 m ρ c) (Proc.devRef .tc main_v4) (ix2 0 0) = _
  have e := W2_args m ρ c main_arg7 (by decide)
  generalize W2 m ρ c = X at e
  after_results
  rw [e]
  pointwise

/-- The values' scale as the projection reads it. -/
theorem valueScale : V3 m ρ c main_v5 (ix2 0 0) = m (c.tc.loc main_arg8) (ix1 0) := by
  show StableHlo.after hostOps1 (W2 m ρ c) (Proc.devRef .tc main_v5) (ix2 0 0) = _
  have e := W2_args m ρ c main_arg8 (by decide)
  generalize W2 m ρ c = X at e
  after_results
  rw [e]
  pointwise

/-- The projection reads the codes the norm leaves. -/
theorem codes : V3 m ρ c main_v1_0 = Tok.codes (Tok.normed .bf16 (m (c.tc.loc main_arg0)) (m (c.tc.loc main_arg1))) :=
  (W3_of m ρ c main_v1_0 (by decide)).trans ((W2_arr m ρ c 2).trans
    (Arr.codes (V1 m ρ) c _ _ (W1_args m ρ c main_arg0 (by decide)) (gains m ρ c)))

/-- The projection reads the scales the norm leaves. -/
theorem scales : V3 m ρ c main_v1_1 = Tok.scales (Tok.normed .bf16 (m (c.tc.loc main_arg0)) (m (c.tc.loc main_arg1))) :=
  (W3_of m ρ c main_v1_1 (by decide)).trans ((W2_arr m ρ c 3).trans
    (Arr.scales (V1 m ρ) c _ _ (W1_args m ρ c main_arg0 (by decide)) (gains m ρ c)))

/-- The queries at the end. -/
theorem queries : W4 m ρ c (Proc.devRef .tc main_v6_0)
    = Qkv.qs (Tok.codes (Tok.normed .bf16 (m (c.tc.loc main_arg0)) (m (c.tc.loc main_arg1)))) (Tok.scales (Tok.normed .bf16 (m (c.tc.loc main_arg0)) (m (c.tc.loc main_arg1))))
      (m (c.tc.loc main_arg2)) (m (c.tc.loc main_arg3)) (m (c.tc.loc main_arg4)) (m (c.tc.loc main_arg5)) (m (c.tc.loc main_arg6)) :=
  (W4_arr m ρ c 9).trans (Arr.queries (V3 m ρ) c _ _ _ _ _ _ _ (codes m ρ c) (scales m ρ c) (W3_args m ρ c main_arg2 (by decide)) (groups m ρ c)
    (columns m ρ c) (W3_args m ρ c main_arg5 (by decide)) (W3_args m ρ c main_arg6 (by decide)))

/-- The keys' codes at the end. -/
theorem keys : W4 m ρ c (Proc.devRef .tc main_v6_1)
    = Qkv.ks (Tok.codes (Tok.normed .bf16 (m (c.tc.loc main_arg0)) (m (c.tc.loc main_arg1)))) (Tok.scales (Tok.normed .bf16 (m (c.tc.loc main_arg0)) (m (c.tc.loc main_arg1))))
      (m (c.tc.loc main_arg2)) (m (c.tc.loc main_arg3)) (m (c.tc.loc main_arg4)) (m (c.tc.loc main_arg5)) (m (c.tc.loc main_arg6)) (m (c.tc.loc main_arg7)) :=
  (W4_arr m ρ c 10).trans (Arr.keys (V3 m ρ) c _ _ _ _ _ _ _ _ (codes m ρ c) (scales m ρ c) (W3_args m ρ c main_arg2 (by decide)) (groups m ρ c)
    (columns m ρ c) (W3_args m ρ c main_arg5 (by decide)) (W3_args m ρ c main_arg6 (by decide)) (keyScale m ρ c))

/-- The values' codes at the end. -/
theorem values : W4 m ρ c (Proc.devRef .tc main_v6_2)
    = Qkv.vs (Tok.codes (Tok.normed .bf16 (m (c.tc.loc main_arg0)) (m (c.tc.loc main_arg1)))) (Tok.scales (Tok.normed .bf16 (m (c.tc.loc main_arg0)) (m (c.tc.loc main_arg1))))
      (m (c.tc.loc main_arg2)) (m (c.tc.loc main_arg3)) (m (c.tc.loc main_arg4)) (m (c.tc.loc main_arg8)) :=
  (W4_arr m ρ c 11).trans (Arr.values (V3 m ρ) c _ _ _ _ _ _ (codes m ρ c) (scales m ρ c) (W3_args m ρ c main_arg2 (by decide)) (groups m ρ c)
    (columns m ρ c) (valueScale m ρ c))

/-- The norm's codes at the end. -/
theorem codesEnd : W4 m ρ c (Proc.devRef .tc main_v1_0) = Tok.codes (Tok.normed .bf16 (m (c.tc.loc main_arg0)) (m (c.tc.loc main_arg1))) :=
  (W4_of m ρ c main_v1_0 (by decide)).trans (codes m ρ c)

/-- The norm's scales at the end. -/
theorem scalesEnd : W4 m ρ c (Proc.devRef .tc main_v1_1) = Tok.scales (Tok.normed .bf16 (m (c.tc.loc main_arg0)) (m (c.tc.loc main_arg1))) :=
  (W4_of m ρ c main_v1_1 (by decide)).trans (scales m ρ c)

end Values

/-- Equal rows and equal gains normalise to equal rows. -/
theorem normed_congr {x y : FVec Ideal ⟨2, ![3072, 16384]⟩ .bf16} {g h : FVec Ideal ⟨1, ![16384]⟩ .f32} (hx : x = y) (hg : g = h) :
    Tok.normed .bf16 x g = Tok.normed .bf16 y h := by
  rw [hx, hg]

set_option maxHeartbeats 1000000 in
/-- From memories agreeing on the arguments both runs end with the same queries, the same codes and scales of the normalised
    rows and the same codes of the keys and the values. -/
theorem algebraic : @Cert.algebraic_FrontIdeal_FrontRefIdeal Cert.FrontIdeal.Gen.facts Cert.FrontRefIdeal.Gen.facts := by
  intro m g m' g' _ ha
  refine ⟨fun c => W4 m g c (Proc.devRef .tc main_v6_0), fun c => W4 m g c (Proc.devRef .tc main_v1_0), fun c => W4 m g c (Proc.devRef .tc main_v1_1),
    fun c => W4 m g c (Proc.devRef .tc main_v6_1), fun c => W4 m g c (Proc.devRef .tc main_v6_2), ?_, ?_⟩
  · refine (θ_run _ _ _).mono (fun r h c => ⟨h c _ (by decide), h c _ (by decide), h c _ (by decide), h c _ (by decide), h c _ (by decide),
      (h c _ (by decide)).trans (W4_args m g c main_arg0 (by decide)), (h c _ (by decide)).trans (W4_args m g c main_arg1 (by decide)),
      (h c _ (by decide)).trans (W4_args m g c main_arg2 (by decide)), (h c _ (by decide)).trans (W4_args m g c main_arg3 (by decide)),
      (h c _ (by decide)).trans (W4_args m g c main_arg4 (by decide)), (h c _ (by decide)).trans (W4_args m g c main_arg5 (by decide)),
      (h c _ (by decide)).trans (W4_args m g c main_arg6 (by decide)), (h c _ (by decide)).trans (W4_args m g c main_arg7 (by decide)),
      (h c _ (by decide)).trans (W4_args m g c main_arg8 (by decide))⟩) (Run.values m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.FrontRefIdeal.Value.run_blocks m' g')
    all_goals obtain ⟨h0, h1, h2, h3, h4, h5, h6, h7, h8⟩ := ha c
    all_goals have hn := normed_congr h0 h1
    · refine (Cert.FrontRefIdeal.Elem.queries m' c).trans (Eq.trans ?_ (queries m g c).symm)
      exact congr (congr (congr (congr (congr (congrArg (fun n => Qkv.qs (Tok.codes n) (Tok.scales n)) hn) h2) h3) h4) h5) h6
    · refine (Cert.FrontRefIdeal.Elem.arr10 m' c).trans (Eq.trans ?_ (codesEnd m g c).symm)
      exact congrArg Tok.codes hn
    · refine (Cert.FrontRefIdeal.Elem.arr11 m' c).trans (Eq.trans ?_ (scalesEnd m g c).symm)
      exact congrArg Tok.scales hn
    · refine (Cert.FrontRefIdeal.Elem.keys m' c).trans (Eq.trans ?_ (keys m g c).symm)
      exact congr (congr (congr (congr (congr (congr (congrArg (fun n => Qkv.ks (Tok.codes n) (Tok.scales n)) hn) h2) h3) h4) h5) h6) h7
    · refine (Cert.FrontRefIdeal.Elem.values m' c).trans (Eq.trans ?_ (values m g c).symm)
      exact congr (congr (congr (congr (congrArg (fun n => Qkv.vs (Tok.codes n) (Tok.scales n)) hn) h2) h3) h4) h8

end Cert.FrontIdeal
-- ==== Proof.BackOut.lean ====
/- The output projection of the attention in the back half of the layer: its loop over the contracted axis, and the block one grid point stores. -/
module

public import proofs.«01_k».proof.Proof.WoBlock
public import proofs.«01_k».proof.Proof.Gen.BackIdeal.Frame

@[expose] public section

set_option maxRecDepth 16384

noncomputable section

open Idealize.ShloMosaic Idealize.ShloMosaic.TcCoe Idealize.SL.Sem Idealize.ShloMosaic.StableHlo
open Idealize.ShloMosaic.Pipeline (Dat)

namespace Cert.BackIdeal.Out

open Cert.BackIdeal Cert.BackIdeal.Gen
open Cert.WoIdeal.Loop (trip)
open Cert.WoIdeal.Block (val)

theorem trips_eq : k0_t1_loop.trips = 4 := by decide

/-- A trip computes what the output projection's trip computes on its own. -/
theorem pay_eq (x : FVec Ideal S1024x512 .fp8e4m3) (w : IVec S64x512 32) (g : FVec Ideal S1x4x512 .fp8e4m3) (a : FVec Ideal S1024x512 .f32) :
    k0_pay2 (F := Ideal) x w g a = Cert.WoIdeal.Gen.k0_pay2 (F := Ideal) x w g a := rfl

/-- What a trip stores. -/
theorem pay_apply (x : FVec Ideal S1024x2048 .fp8e4m3) (w : IVec S256x512 32) (g : FVec Ideal S4x4x512 .fp8e4m3)
    (a : FVec Ideal S1024x512 .f32) (k : Fin k0_t1_loop.trips) (t : Fin 1024) (n : Fin 512) :
    k0_pay2 (View.ld x (Rect.unit (s := S1024x2048) (k0_off1 k) S1024x512.size (k0_off1_inb k))) (View.ld w (Rect.unit (s := S256x512) (k0_off2 k) S64x512.size (k0_off2_inb k)))
          (View.ld g (Rect.unit (s := S4x4x512) (k0_off3 k) S1x4x512.size (k0_off3_inb k)))
          (View.ld a (Rect.unit (s := S1024x512) ![0, 0] S1024x512.size inb_S1024x512_S1024x512_0_0)) (ix2 t n)
      = a (ix2 t n) + trip x w g t n ⟨k.val, k.isLt.trans_eq trips_eq⟩ :=
  (congrFun (pay_eq _ _ _ _) _).trans (Cert.WoIdeal.Loop.pay_apply x w g a k t n)

section
variable (𝒱 : Variants) (c : Dev nD) (bd : Option 𝒱.V) (i : grid0.Coords)
  (arg2 : Memref sig .tc .vmem S1024x2048 .fp8e4m3) (harg2 : arg2.IsWhole)
  (arg3 : Memref sig .tc .vmem S1024x1 .f32) (harg3 : arg3.IsWhole)
  (arg4 : Memref sig .tc .vmem S256x512 .i32) (harg4 : arg4.IsWhole)
  (arg5 : Memref sig .tc .vmem S4x4x512 .fp8e4m3) (harg5 : arg5.IsWhole)
  (arg6 : Memref sig .tc .vmem S1x512 .f32) (harg6 : arg6.IsWhole)
  (arg7 : Memref sig .tc .vmem S1024x512 .bf16) (harg7 : arg7.IsWhole)
  (arg8 : Memref sig .tc .vmem S1024x512 .f32) (harg8 : arg8.IsWhole)
  (arg9 : Memref sig .tc .vmem S1024x512 .f32) (harg9 : arg9.IsWhole)
  (x2 : FVec Ideal S1024x2048 .fp8e4m3) (x4 : IVec S256x512 32) (x5 : FVec Ideal S4x4x512 .fp8e4m3)
  (G : BufTy.Contents (Elt Ideal) arg9.view.ty)

/-- The store of a trip. -/
theorem pieces (k : Fin k0_t1_loop.trips) (f : BufTy.Contents (Elt Ideal) arg9.view.ty) :
    tripL_k0_t1 (F := Ideal) 𝒱 c bd i arg2 harg2 arg3 harg3 arg4 harg4 arg5 harg5 arg6 harg6 arg7 harg7 arg8 harg8 arg9 harg9 (harg2.unread x2) (harg4.unread x4) (harg5.unread x5) k f
      = [⟨(Rect.unit (s := S1024x512) ![0, 0] S1024x512.size inb_S1024x512_S1024x512_0_0),
          k0_pay2 (View.ld x2 (Rect.unit (s := S1024x2048) (k0_off1 k) S1024x512.size (k0_off1_inb k))) (View.ld x4 (Rect.unit (s := S256x512) (k0_off2 k) S64x512.size (k0_off2_inb k)))
          (View.ld x5 (Rect.unit (s := S4x4x512) (k0_off3 k) S1x4x512.size (k0_off3_inb k)))
            (View.ld (View.read (Elt Ideal) arg9.view f) (Rect.unit (s := S1024x512) ![0, 0] S1024x512.size inb_S1024x512_S1024x512_0_0))⟩] := by
  unfold tripL_k0_t1 trip_k0_t1
  frame_out

/-- The accumulator after the first `k` trips. -/
theorem acc (t : Fin 1024) (n : Fin 512) : ∀ (k : ℕ) (hk : k ≤ 4),
    View.read (Elt Ideal) arg9.view (arg9.view.writes (Elt Ideal) G (pb_k0_t1 (F := Ideal) 𝒱 c bd i arg2 harg2 arg3 harg3 arg4 harg4 arg5 harg5 arg6 harg6 arg7 harg7 arg8 harg8 arg9 harg9 (harg2.unread x2) (harg4.unread x4) (harg5.unread x5) G k)) (ix2 t n)
      = View.read (Elt Ideal) arg9.view G (ix2 t n) + ∑ q : Fin k, trip x2 x4 x5 t n ⟨q.val, by omega⟩ := by
  intro k
  induction k with
  | zero => intro _; rw [pb_k0_t1.eq_1]; simp [View.writes]
  | succ k ih =>
    intro hk
    have h := pb_k0_t1_succ (F := Ideal) 𝒱 c bd i arg2 harg2 arg3 harg3 arg4 harg4 arg5 harg5 arg6 harg6 arg7 harg7 arg8 harg8 arg9 harg9 (harg2.unread x2) (harg4.unread x4) (harg5.unread x5) G ⟨k, by rw [trips_eq]; omega⟩
    dsimp only at h
    rw [h, pieces, List.cons_append, List.nil_append]
    refine (View.read_writes_cons_unit_of_mem arg9.view G _ _ _ (ix2 t n) (ix2 t n) (off' := ![0, 0]) rfl
      (fun a => by fin_cases a <;> simp [ix2])).trans ?_
    rw [pay_apply, ih (by omega), Fin.sum_univ_castSucc, ← add_assoc]
    rfl

/-- The accumulator as the loop leaves it, started from zeros. -/
theorem acc_read (t : Fin 1024) (n : Fin 512) :
    arg9.view.readCov (Val := Elt Ideal) (pb_k0_t1 (F := Ideal) 𝒱 c bd i arg2 harg2 arg3 harg3 arg4 harg4 arg5 harg5 arg6 harg6 arg7 harg7 arg8 harg8 arg9 harg9 (harg2.unread x2) (harg4.unread x4) (harg5.unread x5)
        (arg9.view.writes (Elt Ideal) arg9.view.junk [⟨(Rect.unit (s := S1024x512) ![0, 0] S1024x512.size inb_S1024x512_S1024x512_0_0), k0_pay1 (F := Ideal)⟩])
        k0_t1_loop.trips ++ [⟨(Rect.unit (s := S1024x512) ![0, 0] S1024x512.size inb_S1024x512_S1024x512_0_0), k0_pay1 (F := Ideal)⟩]) (Rect.unit (s := S1024x512) ![0, 0] S1024x512.size inb_S1024x512_S1024x512_0_0).toLoadRect (ix2 t n)
      = ∑ q : Fin 4, trip x2 x4 x5 t n q := by
  have h := acc 𝒱 c bd i arg2 harg2 arg3 harg3 arg4 harg4 arg5 harg5 arg6 harg6 arg7 harg7 arg8 harg8 arg9 harg9 x2 x4 x5
    (arg9.view.writes (Elt Ideal) arg9.view.junk [⟨(Rect.unit (s := S1024x512) ![0, 0] S1024x512.size inb_S1024x512_S1024x512_0_0), k0_pay1 (F := Ideal)⟩]) t n 4 le_rfl
  have e : (Rect.unit (s := S1024x512) ![0, 0] S1024x512.size inb_S1024x512_S1024x512_0_0).toLoadRect.idx (ix2 t n) = ix2 t n := by
    funext a; fin_cases a <;> apply Fin.ext <;> simp [Rect.unit, LoadRect.idx, Rect.toLoadRect, ix2]
  have z : View.read (Elt Ideal) arg9.view (arg9.view.writes (Elt Ideal) arg9.view.junk [⟨(Rect.unit (s := S1024x512) ![0, 0] S1024x512.size inb_S1024x512_S1024x512_0_0), k0_pay1 (F := Ideal)⟩]) (ix2 t n) = 0 := by
    refine (View.read_writes_cons_unit_of_mem arg9.view arg9.view.junk _ _ _ (ix2 t n) (ix2 t n) (off' := ![0, 0]) rfl
      (fun a => by fin_cases a <;> simp [ix2])).trans ?_
    pointwise [k0_pay1]
  show View.read (Elt Ideal) arg9.view _ _ = _
  rw [View.writes_append, e]
  refine h.trans ?_
  rw [z, zero_add]

end
/-- One element of the block a grid point stores, from the accumulator. -/
theorem store_apply (h : FVec Ideal S1024x512 .bf16) (v : FVec Ideal S1024x512 .f32) (s : FVec Ideal S1024x1 .f32)
    (cs : FVec Ideal S1x512 .f32) (a : Fin 1024) (b : Fin 512) :
    k0_pay3 (F := Ideal) h v s cs (ix2 a b) = h (ix2 a b) + v (ix2 a b) * s (ix2 a 0) * cs (ix2 0 b) := by
  pointwise [k0_pay3]

/-- One element of the block a grid point stores. -/
theorem out_apply (c : Dev nD) (i : grid0.Coords) (arg2 : Memref sig .tc .vmem S1024x2048 .fp8e4m3) (harg2 : arg2.IsWhole) (arg3 : Memref sig .tc .vmem S1024x1 .f32) (harg3 : arg3.IsWhole) (arg4 : Memref sig .tc .vmem S256x512 .i32) (harg4 : arg4.IsWhole) (arg5 : Memref sig .tc .vmem S4x4x512 .fp8e4m3) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole)
    (x0 : Vec Ideal S1024x2048 .fp8e4m3) (x1 : Vec Ideal S1024x1 .f32) (x2 : Vec Ideal S256x512 .i32) (x3 : Vec Ideal S4x4x512 .fp8e4m3) (x4 : Vec Ideal S1x512 .f32) (x5 : Vec Ideal S1024x512 .bf16) (a : Fin 1024) (b : Fin 512) :
    out0_A_6 (F := Ideal) c i arg2 harg2 arg3 harg3 arg4 harg4 arg5 harg5 arg6 harg6 arg7 harg7 arg8 harg8 arg9 harg9 x0 x1 x2 x3 x4 x5 (ix2 a b)
      = val x5 x0 x2 x3 x1 x4 a b := by
  unfold out0_A_6
  frame_out
  rw [store_apply]
  unfold Cert.WoIdeal.Block.val
  rw [← acc_read Variants.none c none i arg2 harg2 arg3 harg3 arg4 harg4 arg5 harg5 arg6 harg6 arg7 harg7 arg8 harg8 arg9 harg9 x0 x2 x3 a b]

end Cert.BackIdeal.Out
-- ==== Proof.BackGated.lean ====
/- The gate and up projection in the back half of the layer: its loop over the contracted axis, and the block one grid point stores. -/
module

public import proofs.«01_k».proof.Proof.GateUpBlock
public import proofs.«01_k».proof.Proof.Gen.BackIdeal.Frame

@[expose] public section

set_option maxRecDepth 16384

noncomputable section

open Idealize.ShloMosaic Idealize.ShloMosaic.TcCoe Idealize.SL.Sem Idealize.ShloMosaic.StableHlo
open Idealize.ShloMosaic.Pipeline (Dat)

namespace Cert.BackIdeal.Gated

open Cert.BackIdeal Cert.BackIdeal.Gen
open Cert.GateUpIdeal.Loop (trip)
open Cert.GateUpIdeal.Block (val)

theorem trips_eq : k2_t1_loop.trips = 32 := by decide

/-- The rows a trip reads, widened, are those the call reads on its own. -/
theorem wide_eq (x : FVec Ideal S1024x512 .fp8e4m3) : k2_pay4 (F := Ideal) x = Cert.GateUpIdeal.Gen.k0_pay4 (F := Ideal) x := by
  unfold k2_pay4
  rw [shapeCast_self x _]
  rfl

/-- A trip computes for the left half what the call's trip computes on its own. -/
theorem gate_eq (x : FVec Ideal S1024x512 .fp8e4m3) (w : IVec S64x256 32) (g : FVec Ideal S1x4x256 .fp8e4m3) (a : FVec Ideal S1024x256 .f32) :
    k2_pay5 (F := Ideal) x w g a = Cert.GateUpIdeal.Gen.k0_pay5 (F := Ideal) x w g a := by
  unfold k2_pay5
  rw [wide_eq]
  rfl

/-- The same for the right half. -/
theorem up_eq (x : FVec Ideal S1024x512 .fp8e4m3) (w : IVec S64x256 32) (g : FVec Ideal S1x4x256 .fp8e4m3) (a : FVec Ideal S1024x256 .f32) :
    k2_pay2 (F := Ideal) (k2_pay4 (F := Ideal) x) w g a = Cert.GateUpIdeal.Gen.k0_pay2 (F := Ideal) (Cert.GateUpIdeal.Gen.k0_pay4 (F := Ideal) x) w g a := by
  rw [wide_eq]
  rfl

/-- What a trip stores in the left half. -/
theorem gate_apply (x : FVec Ideal S1024x16384 .fp8e4m3) (w : IVec S2048x256 32) (g : FVec Ideal S32x4x256 .fp8e4m3)
    (a : FVec Ideal S1024x512 .f32) (k : Fin k2_t1_loop.trips) (t : Fin 1024) (n : Fin 256) :
    k2_pay5 (View.ld x (Rect.unit (s := S1024x16384) (k2_off1 k) S1024x512.size (k2_off1_inb k))) (View.ld w (Rect.unit (s := S2048x256) (k2_off2 k) S64x256.size (k2_off2_inb k)))
          (View.ld g (Rect.unit (s := S32x4x256) (k2_off3 k) S1x4x256.size (k2_off3_inb k)))
          (View.ld a (Rect.unit (s := S1024x512) ![0, 0] S1024x256.size inb_S1024x512_S1024x256_0_0)) (ix2 t n)
      = a (ix2 t ⟨n.val, by omega⟩) + trip x w g t n ⟨k.val, k.isLt.trans_eq trips_eq⟩ :=
  (congrFun (gate_eq _ _ _ _) _).trans (Cert.GateUpIdeal.Loop.gate_apply x w g a k t n)

/-- What a trip stores in the right half. -/
theorem up_apply (x : FVec Ideal S1024x16384 .fp8e4m3) (w : IVec S2048x256 32) (g : FVec Ideal S32x4x256 .fp8e4m3)
    (a : FVec Ideal S1024x512 .f32) (k : Fin k2_t1_loop.trips) (t : Fin 1024) (n : Fin 256) :
    k2_pay2 (k2_pay4 (View.ld x (Rect.unit (s := S1024x16384) (k2_off1 k) S1024x512.size (k2_off1_inb k)))) (View.ld w (Rect.unit (s := S2048x256) (k2_off2 k) S64x256.size (k2_off2_inb k)))
          (View.ld g (Rect.unit (s := S32x4x256) (k2_off3 k) S1x4x256.size (k2_off3_inb k)))
          (View.ld a (Rect.unit (s := S1024x512) ![0, 256] S1024x256.size inb_S1024x512_S1024x256_0_256)) (ix2 t n)
      = a (ix2 t ⟨256 + n.val, by omega⟩) + trip x w g t n ⟨k.val, k.isLt.trans_eq trips_eq⟩ :=
  (congrFun (up_eq _ _ _ _) _).trans (Cert.GateUpIdeal.Loop.up_apply x w g a k t n)

section
variable (𝒱 : Variants) (c : Dev nD) (bd : Option 𝒱.V) (i : grid2.Coords)
  (arg2 : Memref sig .tc .vmem S1024x16384 .fp8e4m3) (harg2 : arg2.IsWhole)
  (arg3 : Memref sig .tc .vmem S1024x1 .f32) (harg3 : arg3.IsWhole)
  (arg4 : Memref sig .tc .vmem S2048x256 .i32) (harg4 : arg4.IsWhole)
  (arg5 : Memref sig .tc .vmem S2048x256 .i32) (harg5 : arg5.IsWhole)
  (arg6 : Memref sig .tc .vmem S32x4x256 .fp8e4m3) (harg6 : arg6.IsWhole)
  (arg7 : Memref sig .tc .vmem S32x4x256 .fp8e4m3) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S1024x256 .f32) (harg10 : arg10.IsWhole)
  (arg11 : Memref sig .tc .vmem S1024x512 .f32) (harg11 : arg11.IsWhole)
  (x2 : FVec Ideal S1024x16384 .fp8e4m3) (x4 x5 : IVec S2048x256 32) (x6 x7 : FVec Ideal S32x4x256 .fp8e4m3)
  (G : BufTy.Contents (Elt Ideal) arg11.view.ty)

/-- The two stores of a trip. -/
theorem pieces (k : Fin k2_t1_loop.trips) (f : BufTy.Contents (Elt Ideal) arg11.view.ty) :
    tripL_k2_t1 (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7) k f
      = [⟨Rect.unit (s := S1024x512) ![0, 256] S1024x256.size inb_S1024x512_S1024x256_0_256,
          k2_pay2 (k2_pay4 (View.ld x2 (Rect.unit (s := S1024x16384) (k2_off1 k) S1024x512.size (k2_off1_inb k)))) (View.ld x5 (Rect.unit (s := S2048x256) (k2_off2 k) S64x256.size (k2_off2_inb k)))
            (View.ld x7 (Rect.unit (s := S32x4x256) (k2_off3 k) S1x4x256.size (k2_off3_inb k)))
            (View.ld (View.read (Elt Ideal) arg11.view f) (Rect.unit (s := S1024x512) ![0, 256] S1024x256.size inb_S1024x512_S1024x256_0_256))⟩,
         ⟨Rect.unit (s := S1024x512) ![0, 0] S1024x256.size inb_S1024x512_S1024x256_0_0,
          k2_pay5 (View.ld x2 (Rect.unit (s := S1024x16384) (k2_off1 k) S1024x512.size (k2_off1_inb k))) (View.ld x4 (Rect.unit (s := S2048x256) (k2_off2 k) S64x256.size (k2_off2_inb k)))
            (View.ld x6 (Rect.unit (s := S32x4x256) (k2_off3 k) S1x4x256.size (k2_off3_inb k)))
            (View.ld (View.read (Elt Ideal) arg11.view f) (Rect.unit (s := S1024x512) ![0, 0] S1024x256.size inb_S1024x512_S1024x256_0_0))⟩] := by
  unfold tripL_k2_t1 trip_k2_t1
  frame_out

/-- The accumulator after the first `k` trips, left half. -/
theorem gate_acc (t : Fin 1024) (n : Fin 256) : ∀ (k : ℕ) (hk : k ≤ 32),
    View.read (Elt Ideal) arg11.view (arg11.view.writes (Elt Ideal) G (pb_k2_t1 (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7) G k)) (ix2 t ⟨n.val, by omega⟩)
      = View.read (Elt Ideal) arg11.view G (ix2 t ⟨n.val, by omega⟩) + ∑ q : Fin k, trip x2 x4 x6 t n ⟨q.val, by omega⟩ := by
  intro k
  induction k with
  | zero => intro _; rw [pb_k2_t1.eq_1]; simp [View.writes]
  | succ k ih =>
    intro hk
    have h := pb_k2_t1_succ (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7) G ⟨k, by rw [trips_eq]; omega⟩
    dsimp only at h
    rw [h, pieces, List.cons_append, List.cons_append, List.nil_append]
    refine (View.read_writes_cons_unit_of_not_mem arg11.view G _ _ _ (ix2 t ⟨n.val, by omega⟩) (off' := ![0, 256]) rfl (1 : Fin 2) (Or.inl (by show n.val < 256; omega))).trans ?_
    refine (View.read_writes_cons_unit_of_mem arg11.view G _ _ _ (ix2 t ⟨n.val, by omega⟩) (ix2 t n) (off' := ![0, 0]) rfl
      (fun a => by fin_cases a <;> simp [ix2])).trans ?_
    rw [gate_apply, ih (by omega), Fin.sum_univ_castSucc, ← add_assoc]
    rfl

/-- The accumulator after the first `k` trips, right half. -/
theorem up_acc (t : Fin 1024) (n : Fin 256) : ∀ (k : ℕ) (hk : k ≤ 32),
    View.read (Elt Ideal) arg11.view (arg11.view.writes (Elt Ideal) G (pb_k2_t1 (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7) G k)) (ix2 t ⟨256 + n.val, by omega⟩)
      = View.read (Elt Ideal) arg11.view G (ix2 t ⟨256 + n.val, by omega⟩) + ∑ q : Fin k, trip x2 x5 x7 t n ⟨q.val, by omega⟩ := by
  intro k
  induction k with
  | zero => intro _; rw [pb_k2_t1.eq_1]; simp [View.writes]
  | succ k ih =>
    intro hk
    have h := pb_k2_t1_succ (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7) G ⟨k, by rw [trips_eq]; omega⟩
    dsimp only at h
    rw [h, pieces, List.cons_append, List.cons_append, List.nil_append]
    refine (View.read_writes_cons_unit_of_mem arg11.view G _ _ _ (ix2 t ⟨256 + n.val, by omega⟩) (ix2 t n) (off' := ![0, 256]) rfl
      (fun a => by fin_cases a <;> simp [ix2])).trans ?_
    rw [up_apply, ih (by omega), Fin.sum_univ_castSucc, ← add_assoc]
    rfl
/-- The left half of the accumulator as the loop leaves it, started from zeros. -/
theorem gate_read (t : Fin 1024) (n : Fin 256) :
    arg11.view.readCov (Val := Elt Ideal) (pb_k2_t1 (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7)
        (arg11.view.writes (Elt Ideal) arg11.view.junk [⟨Rect.unit (s := S1024x512) ![0, 0] S1024x512.size inb_S1024x512_S1024x512_0_0, k2_pay1 (F := Ideal)⟩])
        k2_t1_loop.trips ++ [⟨Rect.unit (s := S1024x512) ![0, 0] S1024x512.size inb_S1024x512_S1024x512_0_0, k2_pay1 (F := Ideal)⟩])
      (Rect.unit (s := S1024x512) ![0, 0] S1024x256.size inb_S1024x512_S1024x256_0_0).toLoadRect (ix2 t n)
      = ∑ q : Fin 32, trip x2 x4 x6 t n q := by
  have h := gate_acc 𝒱 c bd i arg2 harg2 arg3 harg3 arg4 harg4 arg5 harg5 arg6 harg6 arg7 harg7 arg8 harg8 arg9 harg9 arg10 harg10 arg11 harg11 x2 x4 x5 x6 x7
    (arg11.view.writes (Elt Ideal) arg11.view.junk [⟨Rect.unit (s := S1024x512) ![0, 0] S1024x512.size inb_S1024x512_S1024x512_0_0, k2_pay1 (F := Ideal)⟩])
    t n 32 le_rfl
  have e : (Rect.unit (s := S1024x512) ![0, 0] S1024x256.size inb_S1024x512_S1024x256_0_0).toLoadRect.idx (ix2 t n) = ix2 t ⟨n.val, by omega⟩ := by
    funext a; fin_cases a <;> apply Fin.ext <;> simp [Rect.unit, LoadRect.idx, Rect.toLoadRect, ix2]
  have z : View.read (Elt Ideal) arg11.view (arg11.view.writes (Elt Ideal) arg11.view.junk [⟨Rect.unit (s := S1024x512) ![0, 0] S1024x512.size inb_S1024x512_S1024x512_0_0, k2_pay1 (F := Ideal)⟩])
      (ix2 t ⟨n.val, by omega⟩) = 0 := by
    refine (View.read_writes_cons_unit_of_mem arg11.view arg11.view.junk _ _ _ (ix2 t ⟨n.val, by omega⟩) (ix2 t ⟨n.val, by omega⟩) (off' := ![0, 0]) rfl
      (fun a => by fin_cases a <;> simp [ix2])).trans ?_
    pointwise [k2_pay1]
  show View.read (Elt Ideal) arg11.view _ _ = _
  rw [View.writes_append, e]
  refine h.trans ?_
  rw [z, zero_add]

/-- The right half of the accumulator as the loop leaves it, started from zeros. -/
theorem up_read (t : Fin 1024) (n : Fin 256) :
    arg11.view.readCov (Val := Elt Ideal) (pb_k2_t1 (F := Ideal) 𝒱 c bd i arg2 harg2 arg3 harg3 arg4 harg4 arg5 harg5 arg6 harg6 arg7 harg7 arg8 harg8 arg9 harg9 arg10 harg10 arg11 harg11 (harg2.unread x2) (harg4.unread x4) (harg5.unread x5) (harg6.unread x6) (harg7.unread x7)
        (arg11.view.writes (Elt Ideal) arg11.view.junk [⟨Rect.unit (s := S1024x512) ![0, 0] S1024x512.size inb_S1024x512_S1024x512_0_0, k2_pay1 (F := Ideal)⟩])
        k2_t1_loop.trips ++ [⟨Rect.unit (s := S1024x512) ![0, 0] S1024x512.size inb_S1024x512_S1024x512_0_0, k2_pay1 (F := Ideal)⟩])
      (Rect.unit (s := S1024x512) ![0, 256] S1024x256.size inb_S1024x512_S1024x256_0_256).toLoadRect (ix2 t n)
      = ∑ q : Fin 32, trip x2 x5 x7 t n q := by
  have h := up_acc 𝒱 c bd i arg2 harg2 arg3 harg3 arg4 harg4 arg5 harg5 arg6 harg6 arg7 harg7 arg8 harg8 arg9 harg9 arg10 harg10 arg11 harg11 x2 x4 x5 x6 x7
    (arg11.view.writes (Elt Ideal) arg11.view.junk [⟨Rect.unit (s := S1024x512) ![0, 0] S1024x512.size inb_S1024x512_S1024x512_0_0, k2_pay1 (F := Ideal)⟩])
    t n 32 le_rfl
  have e : (Rect.unit (s := S1024x512) ![0, 256] S1024x256.size inb_S1024x512_S1024x256_0_256).toLoadRect.idx (ix2 t n) = ix2 t ⟨256 + n.val, by omega⟩ := by
    funext a; fin_cases a <;> apply Fin.ext <;> simp [Rect.unit, LoadRect.idx, Rect.toLoadRect, ix2]
  have z : View.read (Elt Ideal) arg11.view (arg11.view.writes (Elt Ideal) arg11.view.junk [⟨Rect.unit (s := S1024x512) ![0, 0] S1024x512.size inb_S1024x512_S1024x512_0_0, k2_pay1 (F := Ideal)⟩])
      (ix2 t ⟨256 + n.val, by omega⟩) = 0 := by
    refine (View.read_writes_cons_unit_of_mem arg11.view arg11.view.junk _ _ _ (ix2 t ⟨256 + n.val, by omega⟩) (ix2 t ⟨256 + n.val, by omega⟩) (off' := ![0, 0]) rfl
      (fun a => by fin_cases a <;> simp [ix2])).trans ?_
    pointwise [k2_pay1]
  show View.read (Elt Ideal) arg11.view _ _ = _
  rw [View.writes_append, e]
  refine h.trans ?_
  rw [z, zero_add]

end
/-- One element of the block a grid point stores, from the two halves of the accumulator. -/
theorem store_apply (v5 : FVec Ideal S1024x256 .f32) (v6 : FVec Ideal S1024x1 .f32) (v9 : FVec Ideal S1x256 .f32)
    (v13 : FVec Ideal S1024x256 .f32) (v14 : FVec Ideal S1024x1 .f32) (v17 : FVec Ideal S1x256 .f32) (a : Fin 1024) (b : Fin 256) :
    k2_pay3 (F := Ideal) v5 v6 v9 v13 v14 v17 (ix2 a b)
      = v5 (ix2 a b) * v6 (ix2 a 0) * v9 (ix2 0 b) * Ideal.logistic (v5 (ix2 a b) * v6 (ix2 a 0) * v9 (ix2 0 b))
        * (v13 (ix2 a b) * v14 (ix2 a 0) * v17 (ix2 0 b)) := by
  pointwise [k2_pay3]

/-- One element of the block a grid point stores. -/
theorem out_apply (c : Dev nD) (i : grid2.Coords) (arg2 : Memref sig .tc .vmem S1024x16384 .fp8e4m3) (harg2 : arg2.IsWhole) (arg3 : Memref sig .tc .vmem S1024x1 .f32) (harg3 : arg3.IsWhole) (arg4 : Memref sig .tc .vmem S2048x256 .i32) (harg4 : arg4.IsWhole) (arg5 : Memref sig .tc .vmem S2048x256 .i32) (harg5 : arg5.IsWhole) (arg6 : Memref sig .tc .vmem S32x4x256 .fp8e4m3) (harg6 : arg6.IsWhole) (arg7 : Memref sig .tc .vmem S32x4x256 .fp8e4m3) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x512 .f32) (harg11 : arg11.IsWhole)
    (x0 : Vec Ideal S1024x16384 .fp8e4m3) (x1 : Vec Ideal S1024x1 .f32) (x2 : Vec Ideal S2048x256 .i32) (x3 : Vec Ideal S2048x256 .i32) (x4 : Vec Ideal S32x4x256 .fp8e4m3) (x5 : Vec Ideal S32x4x256 .fp8e4m3) (x6 : Vec Ideal S1x256 .f32) (x7 : Vec Ideal S1x256 .f32) (a : Fin 1024) (b : Fin 256) :
    out2_A_8 (F := Ideal) c i arg2 harg2 arg3 harg3 arg4 harg4 arg5 harg5 arg6 harg6 arg7 harg7 arg8 harg8 arg9 harg9 arg10 harg10 arg11 harg11 x0 x1 x2 x3 x4 x5 x6 x7 (ix2 a b)
      = val x0 x1 x2 x4 x6 a b * Ideal.logistic (val x0 x1 x2 x4 x6 a b) * val x0 x1 x3 x5 x7 a b := by
  unfold out2_A_8
  frame_out
  rw [store_apply]
  have hg := gate_read Variants.none c none i arg2 harg2 arg3 harg3 arg4 harg4 arg5 harg5 arg6 harg6 arg7 harg7 arg8 harg8 arg9 harg9 arg10 harg10 arg11 harg11 x0 x2 x3 x4 x5 a b
  have hu := up_read Variants.none c none i arg2 harg2 arg3 harg3 arg4 harg4 arg5 harg5 arg6 harg6 arg7 harg7 arg8 harg8 arg9 harg9 arg10 harg10 arg11 harg11 x0 x2 x3 x4 x5 a b
  unfold Cert.GateUpIdeal.Block.val
  rw [← hg, ← hu]

end Cert.BackIdeal.Gated
-- ==== Proof.BackDown.lean ====
/- The down projection in the back half of the layer: its loop over the contracted axis, and the block one grid point stores. -/
module

public import proofs.«01_k».proof.Proof.DownBlock
public import proofs.«01_k».proof.Proof.Gen.BackIdeal.Frame

@[expose] public section

set_option maxRecDepth 16384

noncomputable section

open Idealize.ShloMosaic Idealize.ShloMosaic.TcCoe Idealize.SL.Sem Idealize.ShloMosaic.StableHlo
open Idealize.ShloMosaic.Pipeline (Dat)

namespace Cert.BackIdeal.Down

open Cert.BackIdeal Cert.BackIdeal.Gen
open Cert.DownIdeal.Loop (trip)
open Cert.DownIdeal.Block (val)

theorem trips_eq : k4_t1_loop.trips = 13 := by decide

/-- A trip computes what the down projection's trip computes on its own. -/
theorem pay_eq (x : FVec Ideal S1024x512 .fp8e4m3) (w : IVec S64x512 32) (g : FVec Ideal S1x4x512 .fp8e4m3) (a : FVec Ideal S1024x512 .f32) :
    k4_pay2 (F := Ideal) x w g a = Cert.DownIdeal.Gen.k0_pay2 (F := Ideal) x w g a := by
  unfold k4_pay2
  rw [shapeCast_self x _]
  rfl

/-- What a trip stores. -/
theorem pay_apply (x : FVec Ideal S1024x6656 .fp8e4m3) (w : IVec S832x512 32) (g : FVec Ideal S13x4x512 .fp8e4m3)
    (a : FVec Ideal S1024x512 .f32) (k : Fin k4_t1_loop.trips) (t : Fin 1024) (n : Fin 512) :
    k4_pay2 (View.ld x (Rect.unit (s := S1024x6656) (k4_off1 k) S1024x512.size (k4_off1_inb k))) (View.ld w (Rect.unit (s := S832x512) (k4_off2 k) S64x512.size (k4_off2_inb k)))
          (View.ld g (Rect.unit (s := S13x4x512) (k4_off3 k) S1x4x512.size (k4_off3_inb k)))
          (View.ld a (Rect.unit (s := S1024x512) ![0, 0] S1024x512.size inb_S1024x512_S1024x512_0_0)) (ix2 t n)
      = a (ix2 t n) + trip x w g t n ⟨k.val, k.isLt.trans_eq trips_eq⟩ :=
  (congrFun (pay_eq _ _ _ _) _).trans (Cert.DownIdeal.Loop.pay_apply x w g a k t n)

section
variable (𝒱 : Variants) (c : Dev nD) (bd : Option 𝒱.V) (i : grid4.Coords)
  (arg2 : Memref sig .tc .vmem S1024x6656 .fp8e4m3) (harg2 : arg2.IsWhole)
  (arg3 : Memref sig .tc .vmem S1024x1 .f32) (harg3 : arg3.IsWhole)
  (arg4 : Memref sig .tc .vmem S832x512 .i32) (harg4 : arg4.IsWhole)
  (arg5 : Memref sig .tc .vmem S13x4x512 .fp8e4m3) (harg5 : arg5.IsWhole)
  (arg6 : Memref sig .tc .vmem S1x512 .f32) (harg6 : arg6.IsWhole)
  (arg7 : Memref sig .tc .vmem S1024x512 .f32) (harg7 : arg7.IsWhole)
  (arg8 : Memref sig .tc .vmem S1024x512 .bf16) (harg8 : arg8.IsWhole)
  (arg9 : Memref sig .tc .vmem S1024x512 .f32) (harg9 : arg9.IsWhole)
  (x2 : FVec Ideal S1024x6656 .fp8e4m3) (x4 : IVec S832x512 32) (x5 : FVec Ideal S13x4x512 .fp8e4m3)
  (G : BufTy.Contents (Elt Ideal) arg9.view.ty)

/-- The store of a trip. -/
theorem pieces (k : Fin k4_t1_loop.trips) (f : BufTy.Contents (Elt Ideal) arg9.view.ty) :
    tripL_k4_t1 (F := Ideal) 𝒱 c bd i arg2 harg2 arg3 harg3 arg4 harg4 arg5 harg5 arg6 harg6 arg7 harg7 arg8 harg8 arg9 harg9 (harg2.unread x2) (harg4.unread x4) (harg5.unread x5) k f
      = [⟨(Rect.unit (s := S1024x512) ![0, 0] S1024x512.size inb_S1024x512_S1024x512_0_0),
          k4_pay2 (View.ld x2 (Rect.unit (s := S1024x6656) (k4_off1 k) S1024x512.size (k4_off1_inb k))) (View.ld x4 (Rect.unit (s := S832x512) (k4_off2 k) S64x512.size (k4_off2_inb k)))
          (View.ld x5 (Rect.unit (s := S13x4x512) (k4_off3 k) S1x4x512.size (k4_off3_inb k)))
            (View.ld (View.read (Elt Ideal) arg9.view f) (Rect.unit (s := S1024x512) ![0, 0] S1024x512.size inb_S1024x512_S1024x512_0_0))⟩] := by
  unfold tripL_k4_t1 trip_k4_t1
  frame_out

/-- The accumulator after the first `k` trips. -/
theorem acc (t : Fin 1024) (n : Fin 512) : ∀ (k : ℕ) (hk : k ≤ 13),
    View.read (Elt Ideal) arg9.view (arg9.view.writes (Elt Ideal) G (pb_k4_t1 (F := Ideal) 𝒱 c bd i arg2 harg2 arg3 harg3 arg4 harg4 arg5 harg5 arg6 harg6 arg7 harg7 arg8 harg8 arg9 harg9 (harg2.unread x2) (harg4.unread x4) (harg5.unread x5) G k)) (ix2 t n)
      = View.read (Elt Ideal) arg9.view G (ix2 t n) + ∑ q : Fin k, trip x2 x4 x5 t n ⟨q.val, by omega⟩ := by
  intro k
  induction k with
  | zero => intro _; rw [pb_k4_t1.eq_1]; simp [View.writes]
  | succ k ih =>
    intro hk
    have h := pb_k4_t1_succ (F := Ideal) 𝒱 c bd i arg2 harg2 arg3 harg3 arg4 harg4 arg5 harg5 arg6 harg6 arg7 harg7 arg8 harg8 arg9 harg9 (harg2.unread x2) (harg4.unread x4) (harg5.unread x5) G ⟨k, by rw [trips_eq]; omega⟩
    dsimp only at h
    rw [h, pieces, List.cons_append, List.nil_append]
    refine (View.read_writes_cons_unit_of_mem arg9.view G _ _ _ (ix2 t n) (ix2 t n) (off' := ![0, 0]) rfl
      (fun a => by fin_cases a <;> simp [ix2])).trans ?_
    rw [pay_apply, ih (by omega), Fin.sum_univ_castSucc, ← add_assoc]
    rfl

/-- The accumulator as the loop leaves it, started from zeros. -/
theorem acc_read (t : Fin 1024) (n : Fin 512) :
    arg9.view.readCov (Val := Elt Ideal) (pb_k4_t1 (F := Ideal) 𝒱 c bd i arg2 harg2 arg3 harg3 arg4 harg4 arg5 harg5 arg6 harg6 arg7 harg7 arg8 harg8 arg9 harg9 (harg2.unread x2) (harg4.unread x4) (harg5.unread x5)
        (arg9.view.writes (Elt Ideal) arg9.view.junk [⟨(Rect.unit (s := S1024x512) ![0, 0] S1024x512.size inb_S1024x512_S1024x512_0_0), k4_pay1 (F := Ideal)⟩])
        k4_t1_loop.trips ++ [⟨(Rect.unit (s := S1024x512) ![0, 0] S1024x512.size inb_S1024x512_S1024x512_0_0), k4_pay1 (F := Ideal)⟩]) (Rect.unit (s := S1024x512) ![0, 0] S1024x512.size inb_S1024x512_S1024x512_0_0).toLoadRect (ix2 t n)
      = ∑ q : Fin 13, trip x2 x4 x5 t n q := by
  have h := acc 𝒱 c bd i arg2 harg2 arg3 harg3 arg4 harg4 arg5 harg5 arg6 harg6 arg7 harg7 arg8 harg8 arg9 harg9 x2 x4 x5
    (arg9.view.writes (Elt Ideal) arg9.view.junk [⟨(Rect.unit (s := S1024x512) ![0, 0] S1024x512.size inb_S1024x512_S1024x512_0_0), k4_pay1 (F := Ideal)⟩]) t n 13 le_rfl
  have e : (Rect.unit (s := S1024x512) ![0, 0] S1024x512.size inb_S1024x512_S1024x512_0_0).toLoadRect.idx (ix2 t n) = ix2 t n := by
    funext a; fin_cases a <;> apply Fin.ext <;> simp [Rect.unit, LoadRect.idx, Rect.toLoadRect, ix2]
  have z : View.read (Elt Ideal) arg9.view (arg9.view.writes (Elt Ideal) arg9.view.junk [⟨(Rect.unit (s := S1024x512) ![0, 0] S1024x512.size inb_S1024x512_S1024x512_0_0), k4_pay1 (F := Ideal)⟩]) (ix2 t n) = 0 := by
    refine (View.read_writes_cons_unit_of_mem arg9.view arg9.view.junk _ _ _ (ix2 t n) (ix2 t n) (off' := ![0, 0]) rfl
      (fun a => by fin_cases a <;> simp [ix2])).trans ?_
    pointwise [k4_pay1]
  show View.read (Elt Ideal) arg9.view _ _ = _
  rw [View.writes_append, e]
  refine h.trans ?_
  rw [z, zero_add]

end
/-- One element of the block a grid point stores, from the accumulator. -/
theorem store_apply (h : FVec Ideal S1024x512 .f32) (v : FVec Ideal S1024x512 .f32) (s : FVec Ideal S1024x1 .f32)
    (cs : FVec Ideal S1x512 .f32) (a : Fin 1024) (b : Fin 512) :
    k4_pay3 (F := Ideal) h v s cs (ix2 a b) = h (ix2 a b) + v (ix2 a b) * s (ix2 a 0) * cs (ix2 0 b) := by
  pointwise [k4_pay3]

/-- One element of the block a grid point stores. -/
theorem out_apply (c : Dev nD) (i : grid4.Coords) (arg2 : Memref sig .tc .vmem S1024x6656 .fp8e4m3) (harg2 : arg2.IsWhole) (arg3 : Memref sig .tc .vmem S1024x1 .f32) (harg3 : arg3.IsWhole) (arg4 : Memref sig .tc .vmem S832x512 .i32) (harg4 : arg4.IsWhole) (arg5 : Memref sig .tc .vmem S13x4x512 .fp8e4m3) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole)
    (x0 : Vec Ideal S1024x6656 .fp8e4m3) (x1 : Vec Ideal S1024x1 .f32) (x2 : Vec Ideal S832x512 .i32) (x3 : Vec Ideal S13x4x512 .fp8e4m3) (x4 : Vec Ideal S1x512 .f32) (x5 : Vec Ideal S1024x512 .f32) (a : Fin 1024) (b : Fin 512) :
    out4_A_6 (F := Ideal) c i arg2 harg2 arg3 harg3 arg4 harg4 arg5 harg5 arg6 harg6 arg7 harg7 arg8 harg8 arg9 harg9 x0 x1 x2 x3 x4 x5 (ix2 a b)
      = val x5 x0 x2 x3 x1 x4 a b := by
  unfold out4_A_6
  frame_out
  rw [store_apply]
  unfold Cert.DownIdeal.Block.val
  rw [← acc_read Variants.none c none i arg2 harg2 arg3 harg3 arg4 harg4 arg5 harg5 arg6 harg6 arg7 harg7 arg8 harg8 arg9 harg9 x0 x2 x3 a b]

end Cert.BackIdeal.Down
-- ==== Proof.BackArray.lean ====
/- The arrays the five calls of the back half of the layer leave, element by element, each from any contents at its entry. -/
module

public import proofs.«01_k».proof.Proof.BackOut
public import proofs.«01_k».proof.Proof.BackGated
public import proofs.«01_k».proof.Proof.BackDown
public import proofs.«01_k».proof.Proof.NormRArray
public import proofs.«01_k».proof.Proof.QuantArray
public import proofs.«01_k».proof.Proof.ResidualSpec
public import proofs.«01_k».proof.Proof.GateUpSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.BackIdeal.Arr

open Cert.BackIdeal Cert.BackIdeal.Gen

variable (V : (c : Dev nD) → (b : Ref sig .tc) → Buf (Elt Ideal) ((c : Thread nD τ).loc b)) (c : Dev nD)

/-! ## The output projection of the attention -/

section Out

variable (A : FVec Ideal ⟨2, ![3072, 2048]⟩ .fp8e4m3) (s : FVec Ideal ⟨2, ![3072, 1]⟩ .f32) (w : IVec ⟨2, ![256, 16384]⟩ 32)
  (r : FVec Ideal ⟨2, ![16, 16384]⟩ .fp8e4m3) (cs : FVec Ideal ⟨1, ![16384]⟩ .f32) (h : FVec Ideal ⟨2, ![3072, 16384]⟩ .bf16)
  (hA : V c main_arg0 = A) (hs : V c main_arg1 = s) (hw : V c main_arg2 = w)
  (hr : ∀ (k : Fin 4) (a : Fin 4) (n : Fin 16384) (i), V c main_v0 (ix3 k a n) = r (ix2 ⟨4 * k.val + a.val, i⟩ n))
  (hcs : ∀ n : Fin 16384, V c main_v1 (ix2 0 n) = cs (ix1 n)) (hh : V c main_arg5 = h)

/-- Where each window's block lies at a grid point. -/
theorem idx0 : ∀ t : Fin cfg0.N,
    win0_0.index t = ![(grid0.coords t 0).val, 0] ∧ win0_1.index t = ![(grid0.coords t 0).val, 0]
    ∧ win0_2.index t = ![0, (grid0.coords t 1).val] ∧ win0_3.index t = ![0, 0, (grid0.coords t 1).val] ∧ win0_4.index t = ![0, (grid0.coords t 1).val]
    ∧ win0_5.index t = ![(grid0.coords t 0).val, (grid0.coords t 1).val] ∧ win0_6.index t = ![(grid0.coords t 0).val, (grid0.coords t 1).val] :=
  (by decide +kernel : ∀ t : Fin grid0.N,
    win0_0.index t = ![(grid0.coords t 0).val, 0] ∧ win0_1.index t = ![(grid0.coords t 0).val, 0]
    ∧ win0_2.index t = ![0, (grid0.coords t 1).val] ∧ win0_3.index t = ![0, 0, (grid0.coords t 1).val] ∧ win0_4.index t = ![0, (grid0.coords t 1).val]
    ∧ win0_5.index t = ![(grid0.coords t 0).val, (grid0.coords t 1).val] ∧ win0_6.index t = ![(grid0.coords t 0).val, (grid0.coords t 1).val])

include hA hs hw hr hcs hh in
/-- A block's element is the array's: a whole row times a whole column, added to the residual. -/
theorem hiddenVal (t : Fin cfg0.N) (a : Fin 1024) (b : Fin 512) (h0 h1) :
    Cert.WoIdeal.Block.val (iblk0 V c 5 t) (iblk0 V c 0 t) (iblk0 V c 2 t) (iblk0 V c 3 t) (iblk0 V c 1 t) (iblk0 V c 4 t) a b
      = Residual.out 2048 256 16 rfl rfl .bf16 A s w r cs h ⟨(grid0.coords t 0).val * 1024 + a.val, h0⟩ ⟨(grid0.coords t 1).val * 512 + b.val, h1⟩ := by
  subst hA hs hw hh
  have e3 : ∀ (k : Fin 4) (d : Fin 4), iblk0 V c 3 t (ix3 k d b) = r (ix2 ⟨4 * k.val + d.val, by omega⟩ ⟨(grid0.coords t 1).val * 512 + b.val, h1⟩) := fun k d => by
    refine Eq.trans ?_ (hr k d _ _)
    blk_point [iblk0, idx0 t]
  have e4 : iblk0 V c 4 t (ix2 0 b) = cs (ix1 ⟨(grid0.coords t 1).val * 512 + b.val, h1⟩) := by
    refine Eq.trans ?_ (hcs _)
    blk_point [iblk0, idx0 t]
  unfold Residual.out Lin.elem Cert.WoIdeal.Block.val
  rw [Lin.dot_trips 4 2048 256 16 rfl rfl rfl, e4]
  unfold Cert.WoIdeal.Loop.trip
  simp only [e3]
  blk_point [iblk0, idx0 t]

include hA hs hw hr hcs hh in
/-- The result array as a whole. -/
theorem hidden : (dat0 V c).arrAt 6 cfg0.N = Residual.arr 2048 256 16 rfl rfl .bf16 A s w r cs h .f32 := by
  refine (dat0 V c).arrAt_eq_of_covers 6 _ (by decide +kernel) fun t _ y => ?_
  idx_vars y
  blk_simp
  unfold Residual.arr
  rw [after0_6]
  unfold outsAt0
  have hi : (grid0.coords t 0).val < 3 := (grid0.coords t 0).isLt
  have hj : (grid0.coords t 1).val < 32 := (grid0.coords t 1).isLt
  have e0 : ((View.whole main_v2).slice (win0_6.rect t)).emb (ix2 y0 y1) 0 = (⟨(grid0.coords t 0).val * 1024 + y0.val, by omega⟩ : Fin 3072) := by
    refine Fin.ext ?_
    blk_simp [idx0 t]
  have e1 : ((View.whole main_v2).slice (win0_6.rect t)).emb (ix2 y0 y1) 1 = (⟨(grid0.coords t 1).val * 512 + y1.val, by omega⟩ : Fin 16384) := by
    refine Fin.ext ?_
    blk_simp [idx0 t]
  rw [e0, e1]
  refine (Out.out_apply _ _ _ _ _ _ _ _ _ _ _ _ _ _ _ _ _ _ _ _ _ _ _ _ y0 y1).trans ?_
  exact hiddenVal V c A s w r cs h hA hs hw hr hcs hh t y0 y1 (by omega) (by omega)

end Out

/-! ## The norm and its quantiser -/

section Norm

open Cert.NormRIdeal.Arr (blockRow scale code)

/-- The norm's rows are those the call computes on its own. -/
theorem norm_eq (x : FVec Ideal S128x16384 .f32) (g : FVec Ideal S1x16384 .f32) : k1_pay1 (F := Ideal) x g = Cert.NormRIdeal.Gen.k0_pay1 (F := Ideal) x g := by
  unfold k1_pay1
  rw [shapeCast_self x _]
  rfl

/-- So are their scales. -/
theorem scale_eq (x : FVec Ideal S128x16384 .f32) (g : FVec Ideal S1x16384 .f32) : k1_pay2 (F := Ideal) x g = Cert.NormRIdeal.Gen.k0_pay2 (F := Ideal) x g := by
  unfold k1_pay2
  rw [norm_eq]
  rfl

/-- So are their codes. -/
theorem code_eq (x : FVec Ideal S128x16384 .f32) (g : FVec Ideal S1x16384 .f32) : k1_pay3 (F := Ideal) x g = Cert.NormRIdeal.Gen.k0_pay3 (F := Ideal) x g := by
  unfold k1_pay3
  rw [norm_eq, scale_eq]
  rfl

variable (x : FVec Ideal ⟨2, ![3072, 16384]⟩ .f32) (g : FVec Ideal ⟨1, ![16384]⟩ .f32)
  (hx : V c main_v2 = x) (hg : ∀ k : Fin 16384, V c main_v3 (ix2 0 k) = g (ix1 k))

/-- Where each window's block lies at a grid point. -/
theorem idx1 : ∀ t : Fin cfg1.N,
    win1_0.index t = ![(grid1.coords t 0).val, 0] ∧ win1_1.index t = ![0, 0] ∧ win1_2.index t = ![(grid1.coords t 0).val, 0] ∧ win1_3.index t = ![(grid1.coords t 0).val, 0] :=
  (by decide +kernel : ∀ t : Fin grid1.N,
    win1_0.index t = ![(grid1.coords t 0).val, 0] ∧ win1_1.index t = ![0, 0] ∧ win1_2.index t = ![(grid1.coords t 0).val, 0] ∧ win1_3.index t = ![(grid1.coords t 0).val, 0])

include hx hg in
/-- A row of a block is a row of the array. -/
theorem normRow (t : Fin cfg1.N) (a : Fin 128) (h) :
    blockRow (iblk1 V c 0 t) (iblk1 V c 1 t) a = Tok.normed .f32 x g ⟨(grid1.coords t 0).val * 128 + a.val, h⟩ := by
  unfold blockRow Tok.normed
  refine congr (congrArg Tok.norm (funext fun k => ?_)) (funext fun k => ?_)
  · subst hx
    unfold Tok.rows
    blk_point [iblk1, idx1 t]
  · refine Eq.trans ?_ (hg k)
    blk_point [iblk1, idx1 t]

include hx hg in
/-- The codes as a whole. -/
theorem normCodes : (dat1 V c).arrAt 2 cfg1.N = Tok.codes (Tok.normed .f32 x g) := by
  refine (dat1 V c).arrAt_eq_of_covers 2 _ (by decide +kernel) fun t _ y => ?_
  idx_vars y
  blk_simp
  rw [after1_2]
  frame_out
  have hi : (grid1.coords t 0).val < 24 := (grid1.coords t 0).isLt
  have e0 : ((View.whole main_v4_0).slice (win1_2.rect t)).emb (ix2 y0 y1) 0 = (⟨(grid1.coords t 0).val * 128 + y0.val, by omega⟩ : Fin 3072) := by
    refine Fin.ext ?_
    blk_simp [idx1 t]
  have e1 : ((View.whole main_v4_0).slice (win1_2.rect t)).emb (ix2 y0 y1) 1 = y1 := by
    refine Fin.ext ?_
    blk_simp [idx1 t]
  unfold Tok.codes
  rw [e0, e1]
  refine (congrFun (code_eq _ _) _).trans ?_
  exact (code _ _ y0 y1).trans (congrArg (Tok.code · y1) (normRow V c x g hx hg t y0 (by omega)))

include hx hg in
/-- The scales as a whole. -/
theorem normScales : (dat1 V c).arrAt 3 cfg1.N = Tok.scales (Tok.normed .f32 x g) := by
  refine (dat1 V c).arrAt_eq_of_covers 3 _ (by decide +kernel) fun t _ y => ?_
  idx_vars y
  blk_simp
  rw [after1_3]
  frame_out
  have hi : (grid1.coords t 0).val < 24 := (grid1.coords t 0).isLt
  have e0 : ((View.whole main_v4_1).slice (win1_3.rect t)).emb (ix2 y0 y1) 0 = (⟨(grid1.coords t 0).val * 128 + y0.val, by omega⟩ : Fin 3072) := by
    refine Fin.ext ?_
    blk_simp [idx1 t]
  obtain rfl : y1 = 0 := Subsingleton.elim _ _
  unfold Tok.scales
  rw [e0]
  refine (congrFun (scale_eq _ _) _).trans ?_
  exact (scale _ _ y0).trans (congrArg Tok.scale (normRow V c x g hx hg t y0 (by omega)))

end Norm

/-! ## The gate and up projection -/

section Gated

variable (A : FVec Ideal ⟨2, ![3072, 16384]⟩ .fp8e4m3) (s : FVec Ideal ⟨2, ![3072, 1]⟩ .f32) (w : IVec ⟨2, ![2048, 13312]⟩ 32)
  (r : FVec Ideal ⟨2, ![128, 13312]⟩ .fp8e4m3) (cs : FVec Ideal ⟨1, ![13312]⟩ .f32)
  (hA : V c main_v4_0 = A) (hs : V c main_v4_1 = s) (hw : V c main_arg7 = w)
  (hr : ∀ (k : Fin 32) (a : Fin 4) (n : Fin 13312) (i), V c main_v5 (ix3 k a n) = r (ix2 ⟨4 * k.val + a.val, i⟩ n))
  (hcs : ∀ n : Fin 13312, V c main_v6 (ix2 0 n) = cs (ix1 n))

/-- Where each window's block lies at a grid point. -/
theorem idx2 : ∀ t : Fin cfg2.N,
    win2_0.index t = ![(grid2.coords t 0).val, 0] ∧ win2_1.index t = ![(grid2.coords t 0).val, 0]
    ∧ win2_2.index t = ![0, (grid2.coords t 1).val] ∧ win2_3.index t = ![0, (grid2.coords t 1).val + 26]
    ∧ win2_4.index t = ![0, 0, (grid2.coords t 1).val] ∧ win2_5.index t = ![0, 0, (grid2.coords t 1).val + 26]
    ∧ win2_6.index t = ![0, (grid2.coords t 1).val] ∧ win2_7.index t = ![0, (grid2.coords t 1).val + 26]
    ∧ win2_8.index t = ![(grid2.coords t 0).val, (grid2.coords t 1).val] :=
  (by decide +kernel : ∀ t : Fin grid2.N,
    win2_0.index t = ![(grid2.coords t 0).val, 0] ∧ win2_1.index t = ![(grid2.coords t 0).val, 0]
    ∧ win2_2.index t = ![0, (grid2.coords t 1).val] ∧ win2_3.index t = ![0, (grid2.coords t 1).val + 26]
    ∧ win2_4.index t = ![0, 0, (grid2.coords t 1).val] ∧ win2_5.index t = ![0, 0, (grid2.coords t 1).val + 26]
    ∧ win2_6.index t = ![0, (grid2.coords t 1).val] ∧ win2_7.index t = ![0, (grid2.coords t 1).val + 26]
    ∧ win2_8.index t = ![(grid2.coords t 0).val, (grid2.coords t 1).val])

include hA hs hw hr hcs in
/-- The sum over the trips of one block is a whole row times a whole column. -/
theorem gate (t : Fin cfg2.N) (a : Fin 1024) (b : Fin 256) (h0 h1) :
    Cert.GateUpIdeal.Block.val (iblk2 V c 0 t) (iblk2 V c 1 t) (iblk2 V c 2 t) (iblk2 V c 4 t) (iblk2 V c 6 t) a b
      = GateUp.lin A s w r cs ⟨(grid2.coords t 0).val * 1024 + a.val, h0⟩ ⟨(grid2.coords t 1).val * 256 + b.val, h1⟩ := by
  subst hA hs hw
  have e3 : ∀ (k : Fin 32) (d : Fin 4), iblk2 V c 4 t (ix3 k d b) = r (ix2 ⟨4 * k.val + d.val, by omega⟩ ⟨(grid2.coords t 1).val * 256 + b.val, h1⟩) := fun k d => by
    refine Eq.trans ?_ (hr k d _ _)
    blk_point [iblk2, idx2 t]
  have e4 : iblk2 V c 6 t (ix2 0 b) = cs (ix1 ⟨(grid2.coords t 1).val * 256 + b.val, h1⟩) := by
    refine Eq.trans ?_ (hcs _)
    blk_point [iblk2, idx2 t]
  unfold GateUp.lin Lin.elem Cert.GateUpIdeal.Block.val
  rw [Lin.dot_trips 32 16384 2048 128 rfl rfl rfl, e4]
  unfold Cert.GateUpIdeal.Loop.trip
  simp only [e3]
  blk_point [iblk2, idx2 t]

include hA hs hw hr hcs in
/-- The same for the up projection. -/
theorem up (t : Fin cfg2.N) (a : Fin 1024) (b : Fin 256) (h0 h1) :
    Cert.GateUpIdeal.Block.val (iblk2 V c 0 t) (iblk2 V c 1 t) (iblk2 V c 3 t) (iblk2 V c 5 t) (iblk2 V c 7 t) a b
      = GateUp.lin A s w r cs ⟨(grid2.coords t 0).val * 1024 + a.val, h0⟩ ⟨((grid2.coords t 1).val + 26) * 256 + b.val, h1⟩ := by
  subst hA hs hw
  have e3 : ∀ (k : Fin 32) (d : Fin 4), iblk2 V c 5 t (ix3 k d b) = r (ix2 ⟨4 * k.val + d.val, by omega⟩ ⟨((grid2.coords t 1).val + 26) * 256 + b.val, h1⟩) := fun k d => by
    refine Eq.trans ?_ (hr k d _ _)
    blk_point [iblk2, idx2 t]
  have e4 : iblk2 V c 7 t (ix2 0 b) = cs (ix1 ⟨((grid2.coords t 1).val + 26) * 256 + b.val, h1⟩) := by
    refine Eq.trans ?_ (hcs _)
    blk_point [iblk2, idx2 t]
  unfold GateUp.lin Lin.elem Cert.GateUpIdeal.Block.val
  rw [Lin.dot_trips 32 16384 2048 128 rfl rfl rfl, e4]
  unfold Cert.GateUpIdeal.Loop.trip
  simp only [e3]
  blk_point [iblk2, idx2 t]

include hA hs hw hr hcs in
/-- The result array as a whole. -/
theorem act : (dat2 V c).arrAt 8 cfg2.N = GateUp.arr A s w r cs := by
  refine (dat2 V c).arrAt_eq_of_covers 8 _ (by decide +kernel) fun t _ y => ?_
  idx_vars y
  blk_simp
  unfold GateUp.arr
  rw [after2_8]
  unfold outsAt2
  have hi : (grid2.coords t 0).val < 3 := (grid2.coords t 0).isLt
  have hj : (grid2.coords t 1).val < 26 := (grid2.coords t 1).isLt
  have e0 : ((View.whole main_v7).slice (win2_8.rect t)).emb (ix2 y0 y1) 0 = (⟨(grid2.coords t 0).val * 1024 + y0.val, by omega⟩ : Fin 3072) := by
    refine Fin.ext ?_
    blk_simp [idx2 t]
  have e1 : ((View.whole main_v7).slice (win2_8.rect t)).emb (ix2 y0 y1) 1 = (⟨(grid2.coords t 1).val * 256 + y1.val, by omega⟩ : Fin 6656) := by
    refine Fin.ext ?_
    blk_simp [idx2 t]
  rw [e0, e1]
  refine (Gated.out_apply _ _ _ _ _ _ _ _ _ _ _ _ _ _ _ _ _ _ _ _ _ _ _ _ _ _ _ _ _ _ y0 y1).trans ?_
  rw [gate V c A s w r cs hA hs hw hr hcs t y0 y1 (by omega) (by omega), up V c A s w r cs hA hs hw hr hcs t y0 y1 (by omega) (by omega)]
  unfold GateUp.out
  refine congrArg _ (congrArg _ (Fin.ext ?_))
  show ((grid2.coords t 1).val + 26) * 256 + y1.val = 6656 + ((grid2.coords t 1).val * 256 + y1.val)
  omega

end Gated

/-! ## The quantiser -/

section Quant

open Cert.QuantIdeal.Arr (scale code)

/-- The quantiser's scales are those the call computes on its own. -/
theorem quantScale_eq (x : FVec Ideal S256x6656 .f32) : k3_pay2 (F := Ideal) x = Cert.QuantIdeal.Gen.k0_pay1 (F := Ideal) x := by
  unfold k3_pay2 k3_pay1
  rw [shapeCast_self x _]
  rfl

/-- So are its codes. -/
theorem quantCode_eq (x : FVec Ideal S256x6656 .f32) : k3_pay3 (F := Ideal) x = Cert.QuantIdeal.Gen.k0_pay2 (F := Ideal) x := by
  unfold k3_pay3 k3_pay1
  rw [quantScale_eq, shapeCast_self x _]
  rfl

variable (x : FVec Ideal ⟨2, ![3072, 6656]⟩ .f32) (hx : V c main_v7 = x)

/-- Where each window's block lies at a grid point. -/
theorem idx3 : ∀ t : Fin cfg3.N,
    win3_0.index t = ![(grid3.coords t 0).val, 0] ∧ win3_1.index t = ![(grid3.coords t 0).val, 0] ∧ win3_2.index t = ![(grid3.coords t 0).val, 0] :=
  (by decide +kernel : ∀ t : Fin grid3.N,
    win3_0.index t = ![(grid3.coords t 0).val, 0] ∧ win3_1.index t = ![(grid3.coords t 0).val, 0] ∧ win3_2.index t = ![(grid3.coords t 0).val, 0])

include hx in
/-- A row of a block is a row of the array. -/
theorem quantRow (t : Fin cfg3.N) (a : Fin 256) (h) :
    Tok.rows (T := 256) (D := 6656) .f32 (iblk3 V c 0 t) a = Tok.rows .f32 x ⟨(grid3.coords t 0).val * 256 + a.val, h⟩ := by
  subst hx
  funext k
  unfold Tok.rows
  blk_point [iblk3, idx3 t]

include hx in
/-- The codes as a whole. -/
theorem quantCodes : (dat3 V c).arrAt 1 cfg3.N = Tok.codes (Tok.rows .f32 x) := by
  refine (dat3 V c).arrAt_eq_of_covers 1 _ (by decide +kernel) fun t _ y => ?_
  idx_vars y
  blk_simp
  rw [after3_1]
  frame_out
  have hi : (grid3.coords t 0).val < 12 := (grid3.coords t 0).isLt
  have e0 : ((View.whole main_v8_0).slice (win3_1.rect t)).emb (ix2 y0 y1) 0 = (⟨(grid3.coords t 0).val * 256 + y0.val, by omega⟩ : Fin 3072) := by
    refine Fin.ext ?_
    blk_simp [idx3 t]
  have e1 : ((View.whole main_v8_0).slice (win3_1.rect t)).emb (ix2 y0 y1) 1 = y1 := by
    refine Fin.ext ?_
    blk_simp [idx3 t]
  unfold Tok.codes
  rw [e0, e1]
  refine (congrFun (quantCode_eq _) _).trans ?_
  exact (code _ y0 y1).trans (congrArg (Tok.code · y1) (quantRow V c x hx t y0 (by omega)))

include hx in
/-- The scales as a whole. -/
theorem quantScales : (dat3 V c).arrAt 2 cfg3.N = Tok.scales (Tok.rows .f32 x) := by
  refine (dat3 V c).arrAt_eq_of_covers 2 _ (by decide +kernel) fun t _ y => ?_
  idx_vars y
  blk_simp
  rw [after3_2]
  frame_out
  have hi : (grid3.coords t 0).val < 12 := (grid3.coords t 0).isLt
  have e0 : ((View.whole main_v8_1).slice (win3_2.rect t)).emb (ix2 y0 y1) 0 = (⟨(grid3.coords t 0).val * 256 + y0.val, by omega⟩ : Fin 3072) := by
    refine Fin.ext ?_
    blk_simp [idx3 t]
  obtain rfl : y1 = 0 := Subsingleton.elim _ _
  unfold Tok.scales
  rw [e0]
  refine (congrFun (quantScale_eq _) _).trans ?_
  exact (scale _ y0).trans (congrArg Tok.scale (quantRow V c x hx t y0 (by omega)))

end Quant

/-! ## The down projection -/

section Down

variable (A : FVec Ideal ⟨2, ![3072, 6656]⟩ .fp8e4m3) (s : FVec Ideal ⟨2, ![3072, 1]⟩ .f32) (w : IVec ⟨2, ![832, 16384]⟩ 32)
  (r : FVec Ideal ⟨2, ![52, 16384]⟩ .fp8e4m3) (cs : FVec Ideal ⟨1, ![16384]⟩ .f32) (h : FVec Ideal ⟨2, ![3072, 16384]⟩ .f32)
  (hA : V c main_v8_0 = A) (hs : V c main_v8_1 = s) (hw : V c main_arg10 = w)
  (hr : ∀ (k : Fin 13) (a : Fin 4) (n : Fin 16384) (i), V c main_v9 (ix3 k a n) = r (ix2 ⟨4 * k.val + a.val, i⟩ n))
  (hcs : ∀ n : Fin 16384, V c main_v10 (ix2 0 n) = cs (ix1 n)) (hh : V c main_v2 = h)

/-- Where each window's block lies at a grid point. -/
theorem idx4 : ∀ t : Fin cfg4.N,
    win4_0.index t = ![(grid4.coords t 0).val, 0] ∧ win4_1.index t = ![(grid4.coords t 0).val, 0]
    ∧ win4_2.index t = ![0, (grid4.coords t 1).val] ∧ win4_3.index t = ![0, 0, (grid4.coords t 1).val] ∧ win4_4.index t = ![0, (grid4.coords t 1).val]
    ∧ win4_5.index t = ![(grid4.coords t 0).val, (grid4.coords t 1).val] ∧ win4_6.index t = ![(grid4.coords t 0).val, (grid4.coords t 1).val] :=
  (by decide +kernel : ∀ t : Fin grid4.N,
    win4_0.index t = ![(grid4.coords t 0).val, 0] ∧ win4_1.index t = ![(grid4.coords t 0).val, 0]
    ∧ win4_2.index t = ![0, (grid4.coords t 1).val] ∧ win4_3.index t = ![0, 0, (grid4.coords t 1).val] ∧ win4_4.index t = ![0, (grid4.coords t 1).val]
    ∧ win4_5.index t = ![(grid4.coords t 0).val, (grid4.coords t 1).val] ∧ win4_6.index t = ![(grid4.coords t 0).val, (grid4.coords t 1).val])

include hA hs hw hr hcs hh in
/-- A block's element is the array's: a whole row times a whole column, added to the residual. -/
theorem layerVal (t : Fin cfg4.N) (a : Fin 1024) (b : Fin 512) (h0 h1) :
    Cert.DownIdeal.Block.val (iblk4 V c 5 t) (iblk4 V c 0 t) (iblk4 V c 2 t) (iblk4 V c 3 t) (iblk4 V c 1 t) (iblk4 V c 4 t) a b
      = Residual.out 6656 832 52 rfl rfl .f32 A s w r cs h ⟨(grid4.coords t 0).val * 1024 + a.val, h0⟩ ⟨(grid4.coords t 1).val * 512 + b.val, h1⟩ := by
  subst hA hs hw hh
  have e3 : ∀ (k : Fin 13) (d : Fin 4), iblk4 V c 3 t (ix3 k d b) = r (ix2 ⟨4 * k.val + d.val, by omega⟩ ⟨(grid4.coords t 1).val * 512 + b.val, h1⟩) := fun k d => by
    refine Eq.trans ?_ (hr k d _ _)
    blk_point [iblk4, idx4 t]
  have e4 : iblk4 V c 4 t (ix2 0 b) = cs (ix1 ⟨(grid4.coords t 1).val * 512 + b.val, h1⟩) := by
    refine Eq.trans ?_ (hcs _)
    blk_point [iblk4, idx4 t]
  unfold Residual.out Lin.elem Cert.DownIdeal.Block.val
  rw [Lin.dot_trips 13 6656 832 52 rfl rfl rfl, e4]
  unfold Cert.DownIdeal.Loop.trip
  simp only [e3]
  blk_point [iblk4, idx4 t]

include hA hs hw hr hcs hh in
/-- The result array as a whole. -/
theorem layer : (dat4 V c).arrAt 6 cfg4.N = Residual.arr 6656 832 52 rfl rfl .f32 A s w r cs h .bf16 := by
  refine (dat4 V c).arrAt_eq_of_covers 6 _ (by decide +kernel) fun t _ y => ?_
  idx_vars y
  blk_simp
  unfold Residual.arr
  rw [after4_6]
  unfold outsAt4
  have hi : (grid4.coords t 0).val < 3 := (grid4.coords t 0).isLt
  have hj : (grid4.coords t 1).val < 32 := (grid4.coords t 1).isLt
  have e0 : ((View.whole main_v11).slice (win4_6.rect t)).emb (ix2 y0 y1) 0 = (⟨(grid4.coords t 0).val * 1024 + y0.val, by omega⟩ : Fin 3072) := by
    refine Fin.ext ?_
    blk_simp [idx4 t]
  have e1 : ((View.whole main_v11).slice (win4_6.rect t)).emb (ix2 y0 y1) 1 = (⟨(grid4.coords t 1).val * 512 + y1.val, by omega⟩ : Fin 16384) := by
    refine Fin.ext ?_
    blk_simp [idx4 t]
  rw [e0, e1]
  refine (Down.out_apply _ _ _ _ _ _ _ _ _ _ _ _ _ _ _ _ _ _ _ _ _ _ _ _ y0 y1).trans ?_
  exact layerVal V c A s w r cs h hA hs hw hr hcs hh t y0 y1 (by omega) (by omega)

end Down

end Cert.BackIdeal.Arr
-- ==== Proof.BackRun.lean ====
/- Every buffer of a final state of the calls after the attention, run in a row, holds what the chain of regions leaves in it. -/
module

public import proofs.«01_k».proof.Proof.Gen.BackIdeal.Frame
public import Idealize.ShloMosaic.PureOps.Ideal

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.BackIdeal.Run

open Cert.BackIdeal Cert.BackIdeal.Gen

variable (m : (ℓ : Loc nD τ sig) → Buf (Elt Ideal) ℓ) (ρ : Dev nD → PrngReg)

-- the launch's implicit arguments are found by unifying its conclusion with this one, which takes unfolding plain
-- definitions in a metavariable's type
set_option backward.isDefEq.respectTransparency.types false in
/-- Every final state has in every buffer that outlives the launches the contents after the last region. -/
theorem values : θ_run (defs (F := Ideal)) (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = W9 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c b hb => h c _ (mem_uc b hb))

end Cert.BackIdeal.Run
-- ==== Proof.BackRef.lean ====
/- What the reference of the back half of the layer leaves. -/
module

public import proofs.«01_k».proof.Proof.Gen.BackRefIdeal.Value
public import proofs.«01_k».proof.Proof.TokSpec
public import proofs.«01_k».proof.Proof.ResidualSpec
public import proofs.«01_k».proof.Proof.GateUpSpec
public import proofs.«01_k».proof.Proof.Nibble
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.BackRefIdeal.Elem

open Cert.BackRefIdeal Cert.BackRefIdeal.Gen

section Body

/-- The scales before the cast to a column, at a row. -/
theorem flat {T D : ℕ} (hr : (⟨2, ![T, D]⟩ : Shape).Reduces [1] ⟨1, ![T]⟩) (x : FVec Ideal ⟨2, ![T, D]⟩ .f32) (hφ : FKind.Formats .f32) (hacc) (a : Fin T) :
    select (cmpf .oeq (multiReduction .maximumf [1] ⟨1, ![T]⟩ (absf x) 0xFF800000#32 hr hφ hacc)
        (broadcast ⟨1, ![T]⟩ (FloatOps.ofBits .f32 0#32))) (broadcast ⟨1, ![T]⟩ (FloatOps.ofBits .f32 1065353216#32))
      (divf (multiReduction .maximumf [1] ⟨1, ![T]⟩ (absf x) 0xFF800000#32 hr hφ hacc)
        (broadcast ⟨1, ![T]⟩ (FloatOps.ofBits .f32 1138753536#32))) (ix1 a) = Tok.scale (fun k => x (ix2 a k)) := by
  have hM : multiReduction .maximumf [1] ⟨1, ![T]⟩ (absf x) 0xFF800000#32 hr hφ hacc (ix1 a) = Tok.amax (fun k => x (ix2 a k)) := by
    pointwise
    rfl
  unfold Tok.scale
  generalize multiReduction .maximumf [1] ⟨1, ![T]⟩ (absf x) 0xFF800000#32 hr hφ hacc = R at hM ⊢
  rw [← hM]
  pointwise
  rfl

/-- An element of a scaled product of codes and a weight given by its fields and repeated group scales. -/
def lin {K N : ℕ} (f : Vec Ideal ⟨2, ![K, N]⟩ .i8) (g : FVec Ideal ⟨2, ![K, N]⟩ .fp8e4m3) (A : FVec Ideal ⟨2, ![3072, K]⟩ .fp8e4m3)
    (s : FVec Ideal ⟨2, ![3072, 1]⟩ .f32) (cs : FVec Ideal ⟨2, ![1, N]⟩ .f32) (t : Fin 3072) (n : Fin N) : EReal :=
  (∑ q : Fin K, A (ix2 t q) * (FloatOps.sitofp (F := Ideal) .bf16 (f (ix2 q n)) * g (ix2 q n))) * s (ix2 t 0) * cs (ix2 0 n)

/-- It is the element of the quantised product, given what the fields, the repeated group scales and the columns' scales are. -/
theorem lin_eq {K W G N : ℕ} (hW : K = 8 * W) (hG : K = 128 * G) (f : Vec Ideal ⟨2, ![K, N]⟩ .i8) (g : FVec Ideal ⟨2, ![K, N]⟩ .fp8e4m3)
    (A : FVec Ideal ⟨2, ![3072, K]⟩ .fp8e4m3) (s : FVec Ideal ⟨2, ![3072, 1]⟩ .f32) (cs : FVec Ideal ⟨2, ![1, N]⟩ .f32)
    (w : IVec ⟨2, ![W, N]⟩ 32) (r : FVec Ideal ⟨2, ![G, N]⟩ .fp8e4m3) (b : FVec Ideal ⟨1, ![N]⟩ .f32)
    (hf : ∀ (q : Fin K) (n : Fin N) (h), FloatOps.sitofp (F := Ideal) .bf16 (f (ix2 q n)) = Lin.nib (w (ix2 ⟨q.val / 8, h⟩ n)) (q.val % 8))
    (hg : ∀ (q : Fin K) (n : Fin N) (h), g (ix2 q n) = r (ix2 ⟨q.val / 128, h⟩ n)) (hc : ∀ n, cs (ix2 0 n) = b (ix1 n))
    (t : Fin 3072) (n : Fin N) : lin f g A s cs t n = Lin.elem 3072 K W G N hW hG A s w r b t n := by
  unfold lin Lin.elem Lin.dot
  rw [hc]
  refine congrArg (· * s (ix2 t 0) * b (ix1 n)) (Finset.sum_congr rfl fun q _ => ?_)
  rw [hf q n (by omega), hg q n (by omega)]

variable (h : FVec Ideal S3072x16384 .bf16) (A : FVec Ideal S3072x2048 .fp8e4m3) (s : FVec Ideal S3072x1 .f32) (f : Vec Ideal S2048x16384 .i8)
  (g : FVec Ideal S2048x16384 .fp8e4m3) (cs g2 : FVec Ideal S1x16384 .f32)
  (v33 : FVec Ideal S3072x16384 .f32) (v35 : FVec Ideal S3072 .f32) (v37 : IVec S3072 1) (v38 : FVec Ideal S3072 .f32)
  (fg : Vec Ideal S16384x13312 .i8) (gg : FVec Ideal S16384x13312 .fp8e4m3) (cg : FVec Ideal S1x13312 .f32)
  (v19 : FVec Ideal S3072x16384 .f32) (v78 : FVec Ideal S3072 .f32) (v81 v82 : FVec Ideal S3072x6656 .f32) (z : Ideal .f32)
  (fd : Vec Ideal S6656x16384 .i8) (gd : FVec Ideal S6656x16384 .fp8e4m3) (cd : FVec Ideal S1x16384 .f32)

/-- The residual after the output projection of the attention. -/
theorem hidden (t : Fin 3072) (n : Fin 16384) : k0_pay4 (F := Ideal) h A s f g cs (ix2 t n) = h (ix2 t n) + lin f g A s cs t n := by
  unfold lin
  pointwise [k0_pay4]

/-- Its rows, normalised. -/
theorem normed (t : Fin 3072) (n : Fin 16384) : k0_pay5 (F := Ideal) h A s f g cs g2 (ix2 t n)
    = Tok.norm (fun k => k0_pay4 (F := Ideal) h A s f g cs (ix2 t k)) (fun k => g2 (ix2 0 k)) n := by
  unfold k0_pay5
  generalize k0_pay4 (F := Ideal) h A s f g cs = y
  exact Tok.norm_apply _ _ _ _ _ _ _ _ _ t n

/-- The normalised rows' scales. -/
theorem scale (t : Fin 3072) : k0_pay9 (F := Ideal) (k0_pay6 (F := Ideal) h A s f g cs g2) (k0_pay7 (F := Ideal) h A s f g cs g2) (k0_pay8 (F := Ideal)) (ix1 t)
    = Tok.scale (fun k => k0_pay5 (F := Ideal) h A s f g cs g2 (ix2 t k)) := by
  unfold k0_pay9 k0_pay7 k0_pay8 k0_pay6
  generalize k0_pay5 (F := Ideal) h A s f g cs g2 = y
  exact flat _ _ _ _ t

/-- The scales as a column. -/
theorem column (t : Fin 3072) : k0_pay10 (F := Ideal) v35 v37 v38 (ix2 t 0) = k0_pay9 (F := Ideal) v35 v37 v38 (ix1 t) := by
  unfold k0_pay10
  exact Tok.column _ _ t

/-- The codes, given what the scales are. -/
theorem code (t : Fin 3072) (n : Fin 16384) (hS : k0_pay9 (F := Ideal) v35 v37 v38 (ix1 t) = Tok.scale (fun k => v33 (ix2 t k))) :
    k0_pay11 (F := Ideal) v33 v35 v37 v38 (ix2 t n) = Tok.code (fun k => v33 (ix2 t k)) n := by
  unfold k0_pay11
  exact Tok.code_apply _ _ _ t n ((Tok.along _ _ t n).trans ((Tok.column _ _ t).trans hS))

/-- The gated activation. -/
theorem act (t : Fin 3072) (n : Fin 6656) : k0_pay12 (F := Ideal) v33 v35 v37 v38 fg gg cg (ix2 t n)
    = lin fg gg (k0_pay11 (F := Ideal) v33 v35 v37 v38) (k0_pay10 (F := Ideal) v35 v37 v38) cg t ⟨n.val, by omega⟩
      * Ideal.logistic (lin fg gg (k0_pay11 (F := Ideal) v33 v35 v37 v38) (k0_pay10 (F := Ideal) v35 v37 v38) cg t ⟨n.val, by omega⟩)
      * lin fg gg (k0_pay11 (F := Ideal) v33 v35 v37 v38) (k0_pay10 (F := Ideal) v35 v37 v38) cg t ⟨6656 + n.val, by omega⟩ := by
  unfold k0_pay12 lin
  generalize k0_pay11 (F := Ideal) v33 v35 v37 v38 = C
  generalize k0_pay10 (F := Ideal) v35 v37 v38 = S
  pointwise

/-- The activation's scales. -/
theorem actScale (t : Fin 3072) : k0_pay13 (F := Ideal) v33 v35 v37 v38 fg gg cg (ix1 t)
    = Tok.scale (fun k => k0_pay12 (F := Ideal) v33 v35 v37 v38 fg gg cg (ix2 t k)) := by
  unfold k0_pay13
  generalize k0_pay12 (F := Ideal) v33 v35 v37 v38 fg gg cg = y
  exact flat _ _ _ _ t

/-- The activation's scales as a column. -/
theorem actColumn (t : Fin 3072) : k0_pay1 (F := Ideal) v78 (ix2 t 0) = v78 (ix1 t) := by
  unfold k0_pay1
  exact Tok.column _ _ t

/-- The activation's codes. -/
theorem actCode (t : Fin 3072) (n : Fin 6656) :
    k0_pay2 (F := Ideal) (k0_pay14 (F := Ideal) v33 v35 v37 v38 fg gg cg) (Scalar.ofBits .f32 0x43E00000#32) (k0_pay15 (F := Ideal)) (ix2 t n)
      = Tok.code (fun k => k0_pay12 (F := Ideal) v33 v35 v37 v38 fg gg cg (ix2 t k)) n := by
  have hS := actScale v33 v35 v37 v38 fg gg cg t
  unfold k0_pay2 k0_pay14 k0_pay15
  exact Tok.code_apply _ _ _ t n ((Tok.along _ _ t n).trans ((Tok.column _ _ t).trans hS))

/-- The layer's output. -/
theorem layer (t : Fin 3072) (n : Fin 16384) : k0_pay3 (F := Ideal) v19 v78 v81 z v82 fd gd cd (ix2 t n)
    = v19 (ix2 t n) + lin fd gd (k0_pay2 (F := Ideal) v81 z v82) (k0_pay1 (F := Ideal) v78) cd t n := by
  unfold k0_pay3 lin
  generalize k0_pay2 (F := Ideal) v81 z v82 = C
  generalize k0_pay1 (F := Ideal) v78 = S
  pointwise

end Body

/-! ## The five results, over the blocks -/

section Arrays

variable (h : FVec Ideal S3072x16384 .bf16) (A : FVec Ideal S3072x2048 .fp8e4m3) (s : FVec Ideal S3072x1 .f32) (f : Vec Ideal S2048x16384 .i8)
  (g : FVec Ideal S2048x16384 .fp8e4m3) (cs g2 : FVec Ideal S1x16384 .f32)
  (fg : Vec Ideal S16384x13312 .i8) (gg : FVec Ideal S16384x13312 .fp8e4m3) (cg : FVec Ideal S1x13312 .f32)
  (fd : Vec Ideal S6656x16384 .i8) (gd : FVec Ideal S6656x16384 .fp8e4m3) (cd : FVec Ideal S1x16384 .f32)
  (w : IVec ⟨2, ![256, 16384]⟩ 32) (r : FVec Ideal ⟨2, ![16, 16384]⟩ .fp8e4m3) (b : FVec Ideal ⟨1, ![16384]⟩ .f32)
  (gn : FVec Ideal ⟨1, ![16384]⟩ .f32)
  (wg : IVec ⟨2, ![2048, 13312]⟩ 32) (rg : FVec Ideal ⟨2, ![128, 13312]⟩ .fp8e4m3) (bg : FVec Ideal ⟨1, ![13312]⟩ .f32)
  (wd : IVec ⟨2, ![832, 16384]⟩ 32) (rd : FVec Ideal ⟨2, ![52, 16384]⟩ .fp8e4m3) (bd : FVec Ideal ⟨1, ![16384]⟩ .f32)
  (hf : ∀ (q : Fin 2048) (n : Fin 16384) (i), FloatOps.sitofp (F := Ideal) .bf16 (f (ix2 q n)) = Lin.nib (w (ix2 ⟨q.val / 8, i⟩ n)) (q.val % 8))
  (hg : ∀ (q : Fin 2048) (n : Fin 16384) (i), g (ix2 q n) = r (ix2 ⟨q.val / 128, i⟩ n)) (hc : ∀ n : Fin 16384, cs (ix2 0 n) = b (ix1 n))
  (hn : ∀ n : Fin 16384, g2 (ix2 0 n) = gn (ix1 n))
  (hfg : ∀ (q : Fin 16384) (n : Fin 13312) (i), FloatOps.sitofp (F := Ideal) .bf16 (fg (ix2 q n)) = Lin.nib (wg (ix2 ⟨q.val / 8, i⟩ n)) (q.val % 8))
  (hgg : ∀ (q : Fin 16384) (n : Fin 13312) (i), gg (ix2 q n) = rg (ix2 ⟨q.val / 128, i⟩ n)) (hcg : ∀ n : Fin 13312, cg (ix2 0 n) = bg (ix1 n))
  (hfd : ∀ (q : Fin 6656) (n : Fin 16384) (i), FloatOps.sitofp (F := Ideal) .bf16 (fd (ix2 q n)) = Lin.nib (wd (ix2 ⟨q.val / 8, i⟩ n)) (q.val % 8))
  (hgd : ∀ (q : Fin 6656) (n : Fin 16384) (i), gd (ix2 q n) = rd (ix2 ⟨q.val / 128, i⟩ n)) (hcd : ∀ n : Fin 16384, cd (ix2 0 n) = bd (ix1 n))

include hf hg hc in
/-- The residual after the output projection of the attention, as a whole. -/
theorem hiddenArr : k0_pay4 (F := Ideal) h A s f g cs = Residual.arr 2048 256 16 rfl rfl .bf16 A s w r b h .f32 := by
  funext j
  idx_vars j
  refine (hidden h A s f g cs j0 j1).trans ?_
  rw [lin_eq (K := 2048) (W := 256) (G := 16) rfl rfl f g A s cs w r b hf hg hc j0 j1]
  rfl

include hf hg hc hn in
/-- The normalised rows. -/
theorem normedRow (t : Fin 3072) : (fun n => k0_pay5 (F := Ideal) h A s f g cs g2 (ix2 t n))
    = Tok.normed .f32 (Residual.arr 2048 256 16 rfl rfl .bf16 A s w r b h .f32) gn t := by
  funext n
  refine (normed h A s f g cs g2 t n).trans ?_
  rw [hiddenArr h A s f g cs w r b hf hg hc, funext hn]
  rfl

include hf hg hc hn in
/-- The first codes as a whole. -/
theorem codesArr : k0_pay11 (F := Ideal) (k0_pay5 (F := Ideal) h A s f g cs g2) (k0_pay6 (F := Ideal) h A s f g cs g2) (k0_pay7 (F := Ideal) h A s f g cs g2) (k0_pay8 (F := Ideal))
    = Tok.codes (Tok.normed .f32 (Residual.arr 2048 256 16 rfl rfl .bf16 A s w r b h .f32) gn) := by
  funext j
  idx_vars j
  refine (code _ _ _ _ j0 j1 (scale h A s f g cs g2 j0)).trans ?_
  exact congrArg (Tok.code · j1) (normedRow h A s f g cs g2 w r b gn hf hg hc hn j0)

include hf hg hc hn in
/-- The first scales as a whole. -/
theorem scalesArr : k0_pay10 (F := Ideal) (k0_pay6 (F := Ideal) h A s f g cs g2) (k0_pay7 (F := Ideal) h A s f g cs g2) (k0_pay8 (F := Ideal))
    = Tok.scales (Tok.normed .f32 (Residual.arr 2048 256 16 rfl rfl .bf16 A s w r b h .f32) gn) := by
  funext j
  idx_vars j
  obtain rfl : j1 = 0 := Subsingleton.elim _ _
  refine (column _ _ _ j0).trans ((scale h A s f g cs g2 j0).trans ?_)
  exact congrArg Tok.scale (normedRow h A s f g cs g2 w r b gn hf hg hc hn j0)

include hf hg hc hn hfg hgg hcg in
/-- The gated activation as a whole. -/
theorem actArr : k0_pay12 (F := Ideal) (k0_pay5 (F := Ideal) h A s f g cs g2) (k0_pay6 (F := Ideal) h A s f g cs g2) (k0_pay7 (F := Ideal) h A s f g cs g2) (k0_pay8 (F := Ideal)) fg gg cg
    = (GateUp.arr (Tok.codes (Tok.normed .f32 (Residual.arr 2048 256 16 rfl rfl .bf16 A s w r b h .f32) gn))
      (Tok.scales (Tok.normed .f32 (Residual.arr 2048 256 16 rfl rfl .bf16 A s w r b h .f32) gn)) wg rg bg) := by
  have hl := fun C S => lin_eq (K := 16384) (W := 2048) (G := 128) rfl rfl fg gg C S cg wg rg bg hfg hgg hcg
  funext j
  idx_vars j
  refine (act _ _ _ _ fg gg cg j0 j1).trans ?_
  rw [codesArr h A s f g cs g2 w r b gn hf hg hc hn, scalesArr h A s f g cs g2 w r b gn hf hg hc hn, hl, hl]
  rfl

include hf hg hc hn hfg hgg hcg in
/-- The second codes as a whole. -/
theorem actCodesArr : k0_pay2 (F := Ideal) (k0_pay14 (F := Ideal) (k0_pay5 (F := Ideal) h A s f g cs g2) (k0_pay6 (F := Ideal) h A s f g cs g2) (k0_pay7 (F := Ideal) h A s f g cs g2) (k0_pay8 (F := Ideal)) fg gg cg) (Scalar.ofBits .f32 0x43E00000#32) (k0_pay15 (F := Ideal))
    = Tok.codes (Tok.rows .f32 (GateUp.arr (Tok.codes (Tok.normed .f32 (Residual.arr 2048 256 16 rfl rfl .bf16 A s w r b h .f32) gn))
      (Tok.scales (Tok.normed .f32 (Residual.arr 2048 256 16 rfl rfl .bf16 A s w r b h .f32) gn)) wg rg bg)) := by
  funext j
  idx_vars j
  refine (actCode _ _ _ _ fg gg cg j0 j1).trans ?_
  rw [actArr h A s f g cs g2 fg gg cg w r b gn wg rg bg hf hg hc hn hfg hgg hcg]
  rfl

include hf hg hc hn hfg hgg hcg in
/-- The second scales as a whole. -/
theorem actScalesArr : k0_pay1 (F := Ideal) (k0_pay13 (F := Ideal) (k0_pay5 (F := Ideal) h A s f g cs g2) (k0_pay6 (F := Ideal) h A s f g cs g2) (k0_pay7 (F := Ideal) h A s f g cs g2) (k0_pay8 (F := Ideal)) fg gg cg)
    = Tok.scales (Tok.rows .f32 (GateUp.arr (Tok.codes (Tok.normed .f32 (Residual.arr 2048 256 16 rfl rfl .bf16 A s w r b h .f32) gn))
      (Tok.scales (Tok.normed .f32 (Residual.arr 2048 256 16 rfl rfl .bf16 A s w r b h .f32) gn)) wg rg bg)) := by
  funext j
  idx_vars j
  obtain rfl : j1 = 0 := Subsingleton.elim _ _
  refine (actColumn _ j0).trans ((actScale _ _ _ _ fg gg cg j0).trans ?_)
  rw [actArr h A s f g cs g2 fg gg cg w r b gn wg rg bg hf hg hc hn hfg hgg hcg]
  rfl

include hf hg hc hn hfg hgg hcg hfd hgd hcd in
/-- The layer's output as a whole. -/
theorem layerArr : k0_pay3 (F := Ideal) (k0_pay4 (F := Ideal) h A s f g cs) (k0_pay13 (F := Ideal) (k0_pay5 (F := Ideal) h A s f g cs g2) (k0_pay6 (F := Ideal) h A s f g cs g2) (k0_pay7 (F := Ideal) h A s f g cs g2) (k0_pay8 (F := Ideal)) fg gg cg) (k0_pay14 (F := Ideal) (k0_pay5 (F := Ideal) h A s f g cs g2) (k0_pay6 (F := Ideal) h A s f g cs g2) (k0_pay7 (F := Ideal) h A s f g cs g2) (k0_pay8 (F := Ideal)) fg gg cg)
      (Scalar.ofBits .f32 0x43E00000#32) (k0_pay15 (F := Ideal)) fd gd cd
    = Residual.arr 6656 832 52 rfl rfl .f32 (Tok.codes (Tok.rows .f32 (GateUp.arr (Tok.codes (Tok.normed .f32 (Residual.arr 2048 256 16 rfl rfl .bf16 A s w r b h .f32) gn))
      (Tok.scales (Tok.normed .f32 (Residual.arr 2048 256 16 rfl rfl .bf16 A s w r b h .f32) gn)) wg rg bg)))
        (Tok.scales (Tok.rows .f32 (GateUp.arr (Tok.codes (Tok.normed .f32 (Residual.arr 2048 256 16 rfl rfl .bf16 A s w r b h .f32) gn))
      (Tok.scales (Tok.normed .f32 (Residual.arr 2048 256 16 rfl rfl .bf16 A s w r b h .f32) gn)) wg rg bg))) wd rd bd
        (Residual.arr 2048 256 16 rfl rfl .bf16 A s w r b h .f32) .bf16 := by
  funext j
  idx_vars j
  refine (layer _ _ _ _ _ fd gd cd j0 j1).trans ?_
  rw [actCodesArr h A s f g cs g2 fg gg cg w r b gn wg rg bg hf hg hc hn hfg hgg hcg, actScalesArr h A s f g cs g2 fg gg cg w r b gn wg rg bg hf hg hc hn hfg hgg hcg, hiddenArr h A s f g cs w r b hf hg hc,
    lin_eq (K := 6656) (W := 832) (G := 52) rfl rfl fd gd _ _ cd wd rd bd hfd hgd hcd j0 j1]
  rfl

/-! ### What the body leaves in each output's block -/

/-- The normalised rows, from the blocks. -/
theorem pay16 : k0_pay16 (F := Ideal) A s f g cs h g2 fg gg cg fd gd cd = k0_pay5 (F := Ideal) h A s f g cs g2 := by
  unfold k0_pay16
  simp (disch := decide) only [View.ld_unit_lit']

/-- Their largest magnitudes. -/
theorem pay17 : k0_pay17 (F := Ideal) A s f g cs h g2 fg gg cg fd gd cd = k0_pay6 (F := Ideal) h A s f g cs g2 := by
  unfold k0_pay17
  simp (disch := decide) only [View.ld_unit_lit']

/-- Whether those are zero. -/
theorem pay18 : k0_pay18 (F := Ideal) A s f g cs h g2 fg gg cg fd gd cd = k0_pay7 (F := Ideal) h A s f g cs g2 := by
  unfold k0_pay18
  simp (disch := decide) only [View.ld_unit_lit']

/-- The activation's scales, from the blocks. -/
theorem pay20 : k0_pay20 (F := Ideal) A s f g cs h g2 fg gg cg fd gd cd = k0_pay13 (F := Ideal) (k0_pay5 (F := Ideal) h A s f g cs g2) (k0_pay6 (F := Ideal) h A s f g cs g2) (k0_pay7 (F := Ideal) h A s f g cs g2) (k0_pay8 (F := Ideal)) fg gg cg := by
  unfold k0_pay20
  rw [pay16, pay17, pay18]
  simp (disch := decide) only [View.ld_unit_lit']
  rfl

/-- The activation divided by its scales. -/
theorem pay21 : k0_pay21 (F := Ideal) A s f g cs h g2 fg gg cg fd gd cd = k0_pay14 (F := Ideal) (k0_pay5 (F := Ideal) h A s f g cs g2) (k0_pay6 (F := Ideal) h A s f g cs g2) (k0_pay7 (F := Ideal) h A s f g cs g2) (k0_pay8 (F := Ideal)) fg gg cg := by
  unfold k0_pay21
  rw [pay16, pay17, pay18]
  simp (disch := decide) only [View.ld_unit_lit']
  rfl

include hf hg hc hn in
/-- The first codes. -/
theorem body14 : out0_14 (F := Ideal) A s f g cs h g2 fg gg cg fd gd cd = Tok.codes (Tok.normed .f32 (Residual.arr 2048 256 16 rfl rfl .bf16 A s w r b h .f32) gn) := by
  unfold out0_14
  simp (disch := decide) only [View.canon_cons_unit_lit', View.ld_unit_lit']
  rw [pay16, pay17, pay18]
  exact codesArr h A s f g cs g2 w r b gn hf hg hc hn

include hf hg hc hn in
/-- The first scales. -/
theorem body15 : out0_15 (F := Ideal) A s f g cs h g2 fg gg cg fd gd cd = Tok.scales (Tok.normed .f32 (Residual.arr 2048 256 16 rfl rfl .bf16 A s w r b h .f32) gn) := by
  unfold out0_15
  simp (disch := decide) only [View.canon_cons_unit_lit', View.ld_unit_lit']
  rw [pay17, pay18]
  exact scalesArr h A s f g cs g2 w r b gn hf hg hc hn

include hf hg hc hn hfg hgg hcg in
/-- The second codes. -/
theorem body16 : out0_16 (F := Ideal) A s f g cs h g2 fg gg cg fd gd cd = Tok.codes (Tok.rows .f32 (GateUp.arr (Tok.codes (Tok.normed .f32 (Residual.arr 2048 256 16 rfl rfl .bf16 A s w r b h .f32) gn))
      (Tok.scales (Tok.normed .f32 (Residual.arr 2048 256 16 rfl rfl .bf16 A s w r b h .f32) gn)) wg rg bg)) := by
  unfold out0_16
  simp (disch := decide) only [View.canon_cons_unit_lit', View.ld_unit_lit']
  rw [pay21]
  exact actCodesArr h A s f g cs g2 fg gg cg w r b gn wg rg bg hf hg hc hn hfg hgg hcg

include hf hg hc hn hfg hgg hcg in
/-- The second scales. -/
theorem body17 : out0_17 (F := Ideal) A s f g cs h g2 fg gg cg fd gd cd = Tok.scales (Tok.rows .f32 (GateUp.arr (Tok.codes (Tok.normed .f32 (Residual.arr 2048 256 16 rfl rfl .bf16 A s w r b h .f32) gn))
      (Tok.scales (Tok.normed .f32 (Residual.arr 2048 256 16 rfl rfl .bf16 A s w r b h .f32) gn)) wg rg bg)) := by
  unfold out0_17
  simp (disch := decide) only [View.canon_cons_unit_lit', View.ld_unit_lit']
  rw [pay20]
  exact actScalesArr h A s f g cs g2 fg gg cg w r b gn wg rg bg hf hg hc hn hfg hgg hcg

include hf hg hc hn hfg hgg hcg hfd hgd hcd in
/-- The layer's output. -/
theorem body13 : out0_13 (F := Ideal) A s f g cs h g2 fg gg cg fd gd cd = Residual.arr 6656 832 52 rfl rfl .f32 (Tok.codes (Tok.rows .f32 (GateUp.arr (Tok.codes (Tok.normed .f32 (Residual.arr 2048 256 16 rfl rfl .bf16 A s w r b h .f32) gn))
      (Tok.scales (Tok.normed .f32 (Residual.arr 2048 256 16 rfl rfl .bf16 A s w r b h .f32) gn)) wg rg bg)))
        (Tok.scales (Tok.rows .f32 (GateUp.arr (Tok.codes (Tok.normed .f32 (Residual.arr 2048 256 16 rfl rfl .bf16 A s w r b h .f32) gn))
      (Tok.scales (Tok.normed .f32 (Residual.arr 2048 256 16 rfl rfl .bf16 A s w r b h .f32) gn)) wg rg bg))) wd rd bd
        (Residual.arr 2048 256 16 rfl rfl .bf16 A s w r b h .f32) .bf16 := by
  unfold out0_13
  simp (disch := decide) only [View.canon_cons_unit_lit', View.ld_unit_lit']
  rw [pay20, pay21]
  exact layerArr h A s f g cs g2 fg gg cg fd gd cd w r b gn wg rg bg wd rd bd hf hg hc hn hfg hgg hcg hfd hgd hcd

end Arrays

/-! ## The blocks, from the arguments -/

variable (m : (ℓ : Loc nD τ sig) → Buf (Elt Ideal) ℓ)

/-- The reference's one launch takes every array whole. -/
theorem idx : win0_0.index t0_0 = ![0, 0] ∧ win0_1.index t0_0 = ![0, 0] ∧ win0_2.index t0_0 = ![0, 0] ∧ win0_3.index t0_0 = ![0, 0] ∧ win0_4.index t0_0 = ![0, 0] ∧ win0_5.index t0_0 = ![0, 0] ∧ win0_6.index t0_0 = ![0, 0] ∧ win0_7.index t0_0 = ![0, 0] ∧ win0_8.index t0_0 = ![0, 0] ∧ win0_9.index t0_0 = ![0, 0] ∧ win0_10.index t0_0 = ![0, 0] ∧ win0_11.index t0_0 = ![0, 0] ∧ win0_12.index t0_0 = ![0, 0] := by decide +kernel

/-- Block 0 read out of an array is the array. -/
theorem read0 (A : Buf (Elt Ideal) (((0 : Dev nD) : Thread nD τ).loc main_arg0)) : ((cfg0.win 0).blk t0_0).view.read (Elt Ideal) A = A := by
  funext j
  blk_ext [idx]
/-- Block 1 read out of an array is the array. -/
theorem read1 (A : Buf (Elt Ideal) (((0 : Dev nD) : Thread nD τ).loc main_arg1)) : ((cfg0.win 1).blk t0_0).view.read (Elt Ideal) A = A := by
  funext j
  blk_ext [idx]
/-- Block 2 read out of an array is the array. -/
theorem read2 (A : Buf (Elt Ideal) (((0 : Dev nD) : Thread nD τ).loc main_v17)) : ((cfg0.win 2).blk t0_0).view.read (Elt Ideal) A = A := by
  funext j
  blk_ext [idx]
/-- Block 3 read out of an array is the array. -/
theorem read3 (A : Buf (Elt Ideal) (((0 : Dev nD) : Thread nD τ).loc main_v19)) : ((cfg0.win 3).blk t0_0).view.read (Elt Ideal) A = A := by
  funext j
  blk_ext [idx]
/-- Block 4 read out of an array is the array. -/
theorem read4 (A : Buf (Elt Ideal) (((0 : Dev nD) : Thread nD τ).loc main_v20)) : ((cfg0.win 4).blk t0_0).view.read (Elt Ideal) A = A := by
  funext j
  blk_ext [idx]
/-- Block 5 read out of an array is the array. -/
theorem read5 (A : Buf (Elt Ideal) (((0 : Dev nD) : Thread nD τ).loc main_arg5)) : ((cfg0.win 5).blk t0_0).view.read (Elt Ideal) A = A := by
  funext j
  blk_ext [idx]
/-- Block 6 read out of an array is the array. -/
theorem read6 (A : Buf (Elt Ideal) (((0 : Dev nD) : Thread nD τ).loc main_v21)) : ((cfg0.win 6).blk t0_0).view.read (Elt Ideal) A = A := by
  funext j
  blk_ext [idx]
/-- Block 7 read out of an array is the array. -/
theorem read7 (A : Buf (Elt Ideal) (((0 : Dev nD) : Thread nD τ).loc main_v39)) : ((cfg0.win 7).blk t0_0).view.read (Elt Ideal) A = A := by
  funext j
  blk_ext [idx]
/-- Block 8 read out of an array is the array. -/
theorem read8 (A : Buf (Elt Ideal) (((0 : Dev nD) : Thread nD τ).loc main_v41)) : ((cfg0.win 8).blk t0_0).view.read (Elt Ideal) A = A := by
  funext j
  blk_ext [idx]
/-- Block 9 read out of an array is the array. -/
theorem read9 (A : Buf (Elt Ideal) (((0 : Dev nD) : Thread nD τ).loc main_v42)) : ((cfg0.win 9).blk t0_0).view.read (Elt Ideal) A = A := by
  funext j
  blk_ext [idx]
/-- Block 10 read out of an array is the array. -/
theorem read10 (A : Buf (Elt Ideal) (((0 : Dev nD) : Thread nD τ).loc main_v60)) : ((cfg0.win 10).blk t0_0).view.read (Elt Ideal) A = A := by
  funext j
  blk_ext [idx]
/-- Block 11 read out of an array is the array. -/
theorem read11 (A : Buf (Elt Ideal) (((0 : Dev nD) : Thread nD τ).loc main_v62)) : ((cfg0.win 11).blk t0_0).view.read (Elt Ideal) A = A := by
  funext j
  blk_ext [idx]
/-- Block 12 read out of an array is the array. -/
theorem read12 (A : Buf (Elt Ideal) (((0 : Dev nD) : Thread nD τ).loc main_v63)) : ((cfg0.win 12).blk t0_0).view.read (Elt Ideal) A = A := by
  funext j
  blk_ext [idx]

/-- Block 0 is its array. -/
theorem blk0 (c : Dev nD) : iblk m c 0 t0_0 = V m c main_arg0 :=
  read0 (V m c main_arg0)
/-- Block 1 is its array. -/
theorem blk1 (c : Dev nD) : iblk m c 1 t0_0 = V m c main_arg1 :=
  read1 (V m c main_arg1)
/-- Block 2 is its array. -/
theorem blk2 (c : Dev nD) : iblk m c 2 t0_0 = V m c main_v17 :=
  read2 (V m c main_v17)
/-- Block 3 is its array. -/
theorem blk3 (c : Dev nD) : iblk m c 3 t0_0 = V m c main_v19 :=
  read3 (V m c main_v19)
/-- Block 4 is its array. -/
theorem blk4 (c : Dev nD) : iblk m c 4 t0_0 = V m c main_v20 :=
  read4 (V m c main_v20)
/-- Block 5 is its array. -/
theorem blk5 (c : Dev nD) : iblk m c 5 t0_0 = V m c main_arg5 :=
  read5 (V m c main_arg5)
/-- Block 6 is its array. -/
theorem blk6 (c : Dev nD) : iblk m c 6 t0_0 = V m c main_v21 :=
  read6 (V m c main_v21)
/-- Block 7 is its array. -/
theorem blk7 (c : Dev nD) : iblk m c 7 t0_0 = V m c main_v39 :=
  read7 (V m c main_v39)
/-- Block 8 is its array. -/
theorem blk8 (c : Dev nD) : iblk m c 8 t0_0 = V m c main_v41 :=
  read8 (V m c main_v41)
/-- Block 9 is its array. -/
theorem blk9 (c : Dev nD) : iblk m c 9 t0_0 = V m c main_v42 :=
  read9 (V m c main_v42)
/-- Block 10 is its array. -/
theorem blk10 (c : Dev nD) : iblk m c 10 t0_0 = V m c main_v60 :=
  read10 (V m c main_v60)
/-- Block 11 is its array. -/
theorem blk11 (c : Dev nD) : iblk m c 11 t0_0 = V m c main_v62 :=
  read11 (V m c main_v62)
/-- Block 12 is its array. -/
theorem blk12 (c : Dev nD) : iblk m c 12 t0_0 = V m c main_v63 :=
  read12 (V m c main_v63)

/-- Row `q` of the output projection's fields holds field `q % 8` of word `q / 8`. -/
theorem fields_o (c : Dev nD) (q : Fin 2048) (n : Fin 16384) (i) :
    FloatOps.sitofp (F := Ideal) .bf16 (iblk m c 2 t0_0 (ix2 q n)) = Lin.nib (m (c.tc.loc main_arg2) (ix2 ⟨q.val / 8, i⟩ n)) (q.val % 8) := by
  rw [blk2]
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise
  exact Lin.sitofp_field _ ⟨q.val % 8, by omega⟩

/-- Row `q` of its repeated group scales holds group `q / 128`'s. -/
theorem gscale_o (c : Dev nD) (q : Fin 2048) (n : Fin 16384) (i) : iblk m c 3 t0_0 (ix2 q n) = m (c.tc.loc main_arg3) (ix2 ⟨q.val / 128, i⟩ n) := by
  rw [blk3]
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- Its columns' scales. -/
theorem cscale_o (c : Dev nD) (n : Fin 16384) : iblk m c 4 t0_0 (ix2 0 n) = m (c.tc.loc main_arg4) (ix1 n) := by
  rw [blk4]
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- Row `q` of the gate and up projection's fields holds field `q % 8` of word `q / 8`. -/
theorem fields_g (c : Dev nD) (q : Fin 16384) (n : Fin 13312) (i) :
    FloatOps.sitofp (F := Ideal) .bf16 (iblk m c 7 t0_0 (ix2 q n)) = Lin.nib (m (c.tc.loc main_arg7) (ix2 ⟨q.val / 8, i⟩ n)) (q.val % 8) := by
  rw [blk7]
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise
  exact Lin.sitofp_field _ ⟨q.val % 8, by omega⟩

/-- Row `q` of its repeated group scales holds group `q / 128`'s. -/
theorem gscale_g (c : Dev nD) (q : Fin 16384) (n : Fin 13312) (i) : iblk m c 8 t0_0 (ix2 q n) = m (c.tc.loc main_arg8) (ix2 ⟨q.val / 128, i⟩ n) := by
  rw [blk8]
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- Its columns' scales. -/
theorem cscale_g (c : Dev nD) (n : Fin 13312) : iblk m c 9 t0_0 (ix2 0 n) = m (c.tc.loc main_arg9) (ix1 n) := by
  rw [blk9]
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- Row `q` of the down projection's fields holds field `q % 8` of word `q / 8`. -/
theorem fields_d (c : Dev nD) (q : Fin 6656) (n : Fin 16384) (i) :
    FloatOps.sitofp (F := Ideal) .bf16 (iblk m c 10 t0_0 (ix2 q n)) = Lin.nib (m (c.tc.loc main_arg10) (ix2 ⟨q.val / 8, i⟩ n)) (q.val % 8) := by
  rw [blk10]
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise
  exact Lin.sitofp_field _ ⟨q.val % 8, by omega⟩

/-- Row `q` of its repeated group scales holds group `q / 128`'s. -/
theorem gscale_d (c : Dev nD) (q : Fin 6656) (n : Fin 16384) (i) : iblk m c 11 t0_0 (ix2 q n) = m (c.tc.loc main_arg11) (ix2 ⟨q.val / 128, i⟩ n) := by
  rw [blk11]
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- Its columns' scales. -/
theorem cscale_d (c : Dev nD) (n : Fin 16384) : iblk m c 12 t0_0 (ix2 0 n) = m (c.tc.loc main_arg12) (ix1 n) := by
  rw [blk12]
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- The norm's gains. -/
theorem gains (c : Dev nD) (n : Fin 16384) : iblk m c 6 t0_0 (ix2 0 n) = m (c.tc.loc main_arg6) (ix1 n) := by
  rw [blk6]
  entry_read
  simp only [Gen.hostOps0, Gen.hostOps0_1, Gen.hostOps0_2, Gen.hostOps0_3, Gen.hostOps0_4, Gen.hostOps0_5, Gen.hostOps0_6, TRef.binary, TRef.nullary, TRef.unary, TRef.ternary, TRef.toBuf,
    TRef.ofBuf, cast_eq, List.flatten_cons, List.flatten_nil, List.append_nil, List.cons_append, List.nil_append]
  after_results
  pointwise

/-- Block 0 is its argument. -/
theorem act0 (c : Dev nD) : iblk m c 0 t0_0 = m (c.tc.loc main_arg0) := (blk0 m c).trans (V_main_arg0 m c)
/-- Block 1 is its argument. -/
theorem act1 (c : Dev nD) : iblk m c 1 t0_0 = m (c.tc.loc main_arg1) := (blk1 m c).trans (V_main_arg1 m c)
/-- Block 5 is its argument. -/
theorem act5 (c : Dev nD) : iblk m c 5 t0_0 = m (c.tc.loc main_arg5) := (blk5 m c).trans (V_main_arg5 m c)

/-! ## The five results -/

/-- The residual after the output projection of the attention. -/
abbrev hid (c : Dev nD) : FVec Ideal ⟨2, ![3072, 16384]⟩ .f32 :=
  Residual.arr 2048 256 16 rfl rfl .bf16 (m (c.tc.loc main_arg0)) (m (c.tc.loc main_arg1)) (m (c.tc.loc main_arg2)) (m (c.tc.loc main_arg3)) (m (c.tc.loc main_arg4)) (m (c.tc.loc main_arg5)) .f32

/-- Its rows, normalised. -/
abbrev nrm (c : Dev nD) : Fin 3072 → Fin 16384 → EReal := Tok.normed .f32 (hid m c) (m (c.tc.loc main_arg6))

/-- The rows of the gated activation. -/
abbrev gated (c : Dev nD) : Fin 3072 → Fin 6656 → EReal :=
  Tok.rows .f32 (GateUp.arr (Tok.codes (nrm m c)) (Tok.scales (nrm m c)) (m (c.tc.loc main_arg7)) (m (c.tc.loc main_arg8)) (m (c.tc.loc main_arg9)))

/-- The first codes the reference leaves. -/
theorem arr14 (c : Dev nD) : (dats m 0 c).arrAt 14 (cfgs 0).N = Tok.codes (nrm m c) := by
  refine (dats m 0 c).arrAt_eq_of_after_last 14 t0_0 (by decide +kernel) _ fun j => ?_
  idx_vars j
  blk_simp
  rw [after0_14]
  refine (congrFun (body14 (iblk m c 5 t0_0) (iblk m c 0 t0_0) (iblk m c 1 t0_0) (iblk m c 2 t0_0) (iblk m c 3 t0_0) (iblk m c 4 t0_0) (iblk m c 6 t0_0) (iblk m c 7 t0_0) (iblk m c 8 t0_0) (iblk m c 9 t0_0) (iblk m c 10 t0_0) (iblk m c 11 t0_0) (iblk m c 12 t0_0) (m (c.tc.loc main_arg2)) (m (c.tc.loc main_arg3)) (m (c.tc.loc main_arg4)) (m (c.tc.loc main_arg6)) (fields_o m c) (gscale_o m c) (cscale_o m c) (gains m c)) _).trans ?_
  rw [act0, act1, act5]

/-- The first scales the reference leaves. -/
theorem arr15 (c : Dev nD) : (dats m 0 c).arrAt 15 (cfgs 0).N = Tok.scales (nrm m c) := by
  refine (dats m 0 c).arrAt_eq_of_after_last 15 t0_0 (by decide +kernel) _ fun j => ?_
  idx_vars j
  blk_simp
  rw [after0_15]
  refine (congrFun (body15 (iblk m c 5 t0_0) (iblk m c 0 t0_0) (iblk m c 1 t0_0) (iblk m c 2 t0_0) (iblk m c 3 t0_0) (iblk m c 4 t0_0) (iblk m c 6 t0_0) (iblk m c 7 t0_0) (iblk m c 8 t0_0) (iblk m c 9 t0_0) (iblk m c 10 t0_0) (iblk m c 11 t0_0) (iblk m c 12 t0_0) (m (c.tc.loc main_arg2)) (m (c.tc.loc main_arg3)) (m (c.tc.loc main_arg4)) (m (c.tc.loc main_arg6)) (fields_o m c) (gscale_o m c) (cscale_o m c) (gains m c)) _).trans ?_
  rw [act0, act1, act5]

/-- The second codes the reference leaves. -/
theorem arr16 (c : Dev nD) : (dats m 0 c).arrAt 16 (cfgs 0).N = Tok.codes (gated m c) := by
  refine (dats m 0 c).arrAt_eq_of_after_last 16 t0_0 (by decide +kernel) _ fun j => ?_
  idx_vars j
  blk_simp
  rw [after0_16]
  refine (congrFun (body16 (iblk m c 5 t0_0) (iblk m c 0 t0_0) (iblk m c 1 t0_0) (iblk m c 2 t0_0) (iblk m c 3 t0_0) (iblk m c 4 t0_0) (iblk m c 6 t0_0) (iblk m c 7 t0_0) (iblk m c 8 t0_0) (iblk m c 9 t0_0) (iblk m c 10 t0_0) (iblk m c 11 t0_0) (iblk m c 12 t0_0) (m (c.tc.loc main_arg2)) (m (c.tc.loc main_arg3)) (m (c.tc.loc main_arg4)) (m (c.tc.loc main_arg6)) (m (c.tc.loc main_arg7)) (m (c.tc.loc main_arg8)) (m (c.tc.loc main_arg9)) (fields_o m c) (gscale_o m c) (cscale_o m c) (gains m c) (fields_g m c) (gscale_g m c) (cscale_g m c)) _).trans ?_
  rw [act0, act1, act5]

/-- The second scales the reference leaves. -/
theorem arr17 (c : Dev nD) : (dats m 0 c).arrAt 17 (cfgs 0).N = Tok.scales (gated m c) := by
  refine (dats m 0 c).arrAt_eq_of_after_last 17 t0_0 (by decide +kernel) _ fun j => ?_
  idx_vars j
  blk_simp
  rw [after0_17]
  refine (congrFun (body17 (iblk m c 5 t0_0) (iblk m c 0 t0_0) (iblk m c 1 t0_0) (iblk m c 2 t0_0) (iblk m c 3 t0_0) (iblk m c 4 t0_0) (iblk m c 6 t0_0) (iblk m c 7 t0_0) (iblk m c 8 t0_0) (iblk m c 9 t0_0) (iblk m c 10 t0_0) (iblk m c 11 t0_0) (iblk m c 12 t0_0) (m (c.tc.loc main_arg2)) (m (c.tc.loc main_arg3)) (m (c.tc.loc main_arg4)) (m (c.tc.loc main_arg6)) (m (c.tc.loc main_arg7)) (m (c.tc.loc main_arg8)) (m (c.tc.loc main_arg9)) (fields_o m c) (gscale_o m c) (cscale_o m c) (gains m c) (fields_g m c) (gscale_g m c) (cscale_g m c)) _).trans ?_
  rw [act0, act1, act5]

/-- The layer's output the reference leaves. -/
theorem arr13 (c : Dev nD) : (dats m 0 c).arrAt 13 (cfgs 0).N = Residual.arr 6656 832 52 rfl rfl .f32 (Tok.codes (gated m c)) (Tok.scales (gated m c)) (m (c.tc.loc main_arg10)) (m (c.tc.loc main_arg11)) (m (c.tc.loc main_arg12)) (hid m c) .bf16 := by
  refine (dats m 0 c).arrAt_eq_of_after_last 13 t0_0 (by decide +kernel) _ fun j => ?_
  idx_vars j
  blk_simp
  rw [after0_13]
  refine (congrFun (body13 (iblk m c 5 t0_0) (iblk m c 0 t0_0) (iblk m c 1 t0_0) (iblk m c 2 t0_0) (iblk m c 3 t0_0) (iblk m c 4 t0_0) (iblk m c 6 t0_0) (iblk m c 7 t0_0) (iblk m c 8 t0_0) (iblk m c 9 t0_0) (iblk m c 10 t0_0) (iblk m c 11 t0_0) (iblk m c 12 t0_0) (m (c.tc.loc main_arg2)) (m (c.tc.loc main_arg3)) (m (c.tc.loc main_arg4)) (m (c.tc.loc main_arg6)) (m (c.tc.loc main_arg7)) (m (c.tc.loc main_arg8)) (m (c.tc.loc main_arg9)) (m (c.tc.loc main_arg10)) (m (c.tc.loc main_arg11)) (m (c.tc.loc main_arg12)) (fields_o m c) (gscale_o m c) (cscale_o m c) (gains m c) (fields_g m c) (gscale_g m c) (cscale_g m c) (fields_d m c) (gscale_d m c) (cscale_d m c)) _).trans ?_
  rw [act0, act1, act5]

end Cert.BackRefIdeal.Elem
-- ==== Proof.BackClaim.lean ====
/- The back half of the layer, five calls run in a row, and its reference leave the same five arrays. -/
module

public import proofs.«01_k».proof.Defs
public import proofs.«01_k».proof.Proof.BackArray
public import proofs.«01_k».proof.Proof.BackRun
public import proofs.«01_k».proof.Proof.BackRef

@[expose] public section

set_option maxRecDepth 16384

noncomputable section

open Idealize.ShloMosaic Idealize.ShloMosaic.TcCoe Idealize.SL.Sem Idealize.ShloMosaic.StableHlo
open Idealize.ShloMosaic.Pipeline (Dat)

namespace Cert.BackIdeal

open Cert.BackIdeal.Gen

/-! ## The back half of the layer, from its arguments -/

section Spec

variable (A : FVec Ideal ⟨2, ![3072, 2048]⟩ .fp8e4m3) (s : FVec Ideal ⟨2, ![3072, 1]⟩ .f32) (w : IVec ⟨2, ![256, 16384]⟩ 32)
  (r : FVec Ideal ⟨2, ![16, 16384]⟩ .fp8e4m3) (b : FVec Ideal ⟨1, ![16384]⟩ .f32) (h : FVec Ideal ⟨2, ![3072, 16384]⟩ .bf16)
  (gn : FVec Ideal ⟨1, ![16384]⟩ .f32)
  (wg : IVec ⟨2, ![2048, 13312]⟩ 32) (rg : FVec Ideal ⟨2, ![128, 13312]⟩ .fp8e4m3) (bg : FVec Ideal ⟨1, ![13312]⟩ .f32)
  (wd : IVec ⟨2, ![832, 16384]⟩ 32) (rd : FVec Ideal ⟨2, ![52, 16384]⟩ .fp8e4m3) (bd : FVec Ideal ⟨1, ![16384]⟩ .f32)

/-- The residual after the output projection of the attention. -/
abbrev hid : FVec Ideal ⟨2, ![3072, 16384]⟩ .f32 := Residual.arr 2048 256 16 rfl rfl .bf16 A s w r b h .f32

/-- Its rows, normalised. -/
abbrev nrm : Fin 3072 → Fin 16384 → EReal := Tok.normed .f32 (hid A s w r b h) gn

/-- The gated activation. -/
abbrev gated : FVec Ideal ⟨2, ![3072, 6656]⟩ .f32 :=
  GateUp.arr (Tok.codes (nrm A s w r b h gn)) (Tok.scales (nrm A s w r b h gn)) wg rg bg

/-- The layer's output. -/
abbrev layer : FVec Ideal ⟨2, ![3072, 16384]⟩ .bf16 :=
  Residual.arr 6656 832 52 rfl rfl .f32 (Tok.codes (Tok.rows .f32 (gated A s w r b h gn wg rg bg))) (Tok.scales (Tok.rows .f32 (gated A s w r b h gn wg rg bg)))
    wd rd bd (hid A s w r b h) .bf16

end Spec

section Congr

variable {A A' : FVec Ideal ⟨2, ![3072, 2048]⟩ .fp8e4m3} {s s' : FVec Ideal ⟨2, ![3072, 1]⟩ .f32} {w w' : IVec ⟨2, ![256, 16384]⟩ 32}
  {r r' : FVec Ideal ⟨2, ![16, 16384]⟩ .fp8e4m3} {b b' : FVec Ideal ⟨1, ![16384]⟩ .f32} {h h' : FVec Ideal ⟨2, ![3072, 16384]⟩ .bf16}
  {gn gn' : FVec Ideal ⟨1, ![16384]⟩ .f32}
  {wg wg' : IVec ⟨2, ![2048, 13312]⟩ 32} {rg rg' : FVec Ideal ⟨2, ![128, 13312]⟩ .fp8e4m3} {bg bg' : FVec Ideal ⟨1, ![13312]⟩ .f32}
  {wd wd' : IVec ⟨2, ![832, 16384]⟩ 32} {rd rd' : FVec Ideal ⟨2, ![52, 16384]⟩ .fp8e4m3} {bd bd' : FVec Ideal ⟨1, ![16384]⟩ .f32}
  (h0 : A = A') (h1 : s = s') (h2 : w = w') (h3 : r = r') (h4 : b = b') (h5 : h = h') (h6 : gn = gn') (h7 : wg = wg') (h8 : rg = rg') (h9 : bg = bg')
  (h10 : wd = wd') (h11 : rd = rd') (h12 : bd = bd')

include h0 h1 h2 h3 h4 h5 in
/-- Equal arguments give equal residuals. -/
theorem hid_congr : hid A s w r b h = hid A' s' w' r' b' h' := by
  rw [h0, h1, h2, h3, h4, h5]

include h0 h1 h2 h3 h4 h5 h6 in
/-- Equal arguments give equal normalised rows. -/
theorem nrm_congr : nrm A s w r b h gn = nrm A' s' w' r' b' h' gn' := by
  rw [h0, h1, h2, h3, h4, h5, h6]

include h0 h1 h2 h3 h4 h5 h6 h7 h8 h9 in
/-- Equal arguments give equal activations. -/
theorem gated_congr : gated A s w r b h gn wg rg bg = gated A' s' w' r' b' h' gn' wg' rg' bg' := by
  rw [h0, h1, h2, h3, h4, h5, h6, h7, h8, h9]

include h0 h1 h2 h3 h4 h5 h6 h7 h8 h9 h10 h11 h12 in
/-- Equal arguments give equal outputs. -/
theorem layer_congr : layer A s w r b h gn wg rg bg wd rd bd = layer A' s' w' r' b' h' gn' wg' rg' bg' wd' rd' bd' := by
  rw [h0, h1, h2, h3, h4, h5, h6, h7, h8, h9, h10, h11, h12]

end Congr

section Values

variable (m : (ℓ : Loc nD τ sig) → Buf (Elt Ideal) ℓ) (ρ : Dev nD → PrngReg) (c : Dev nD)

/-! ### What the calls read -/

/-- The group scales of the output projection of the attention. -/
theorem groups0 (k : Fin 4) (a : Fin 4) (n : Fin 16384) (i) :
    V1 m ρ c main_v0 (ix3 k a n) = m (c.tc.loc main_arg3) (ix2 ⟨4 * k.val + a.val, i⟩ n) := by
  show StableHlo.after hostOps0 (W0 m ρ c) (Proc.devRef .tc main_v0) (ix3 k a n) = _
  have e := W0_args m ρ c main_arg3 (by decide)
  generalize W0 m ρ c = X at e
  after_results
  rw [e]
  pointwise
  simp only [Nat.mul_comm 4 k.val]

/-- Its columns' scales. -/
theorem columns0 (n : Fin 16384) : V1 m ρ c main_v1 (ix2 0 n) = m (c.tc.loc main_arg4) (ix1 n) := by
  show StableHlo.after hostOps0 (W0 m ρ c) (Proc.devRef .tc main_v1) (ix2 0 n) = _
  have e := W0_args m ρ c main_arg4 (by decide)
  generalize W0 m ρ c = X at e
  after_results
  rw [e]
  pointwise

/-- The norm's gains. -/
theorem gains (k : Fin 16384) : V3 m ρ c main_v3 (ix2 0 k) = m (c.tc.loc main_arg6) (ix1 k) := by
  show StableHlo.after hostOps1 (W2 m ρ c) (Proc.devRef .tc main_v3) (ix2 0 k) = _
  have e := W2_args m ρ c main_arg6 (by decide)
  generalize W2 m ρ c = X at e
  after_results
  rw [e]
  pointwise

/-- The group scales of the gate and up projection. -/
theorem groups2 (k : Fin 32) (a : Fin 4) (n : Fin 13312) (i) :
    V5 m ρ c main_v5 (ix3 k a n) = m (c.tc.loc main_arg8) (ix2 ⟨4 * k.val + a.val, i⟩ n) := by
  show StableHlo.after hostOps2 (W4 m ρ c) (Proc.devRef .tc main_v5) (ix3 k a n) = _
  have e := W4_args m ρ c main_arg8 (by decide)
  generalize W4 m ρ c = X at e
  after_results
  rw [e]
  pointwise
  simp only [Nat.mul_comm 4 k.val]

/-- Its columns' scales. -/
theorem columns2 (n : Fin 13312) : V5 m ρ c main_v6 (ix2 0 n) = m (c.tc.loc main_arg9) (ix1 n) := by
  show StableHlo.after hostOps2 (W4 m ρ c) (Proc.devRef .tc main_v6) (ix2 0 n) = _
  have e := W4_args m ρ c main_arg9 (by decide)
  generalize W4 m ρ c = X at e
  after_results
  rw [e]
  pointwise

/-- The group scales of the down projection. -/
theorem groups4 (k : Fin 13) (a : Fin 4) (n : Fin 16384) (i) :
    V8 m ρ c main_v9 (ix3 k a n) = m (c.tc.loc main_arg11) (ix2 ⟨4 * k.val + a.val, i⟩ n) := by
  show StableHlo.after hostOps4 (W7 m ρ c) (Proc.devRef .tc main_v9) (ix3 k a n) = _
  have e := W7_args m ρ c main_arg11 (by decide)
  generalize W7 m ρ c = X at e
  after_results
  rw [e]
  pointwise
  simp only [Nat.mul_comm 4 k.val]

/-- Its columns' scales. -/
theorem columns4 (n : Fin 16384) : V8 m ρ c main_v10 (ix2 0 n) = m (c.tc.loc main_arg12) (ix1 n) := by
  show StableHlo.after hostOps4 (W7 m ρ c) (Proc.devRef .tc main_v10) (ix2 0 n) = _
  have e := W7_args m ρ c main_arg12 (by decide)
  generalize W7 m ρ c = X at e
  after_results
  rw [e]
  pointwise

/-! ### What the calls leave -/

/-- The residual the output projection of the attention leaves. -/
theorem hidden2 : W2 m ρ c (Proc.devRef .tc main_v2)
    = hid (m (c.tc.loc main_arg0)) (m (c.tc.loc main_arg1)) (m (c.tc.loc main_arg2)) (m (c.tc.loc main_arg3)) (m (c.tc.loc main_arg4)) (m (c.tc.loc main_arg5)) :=
  (W2_arr m ρ c 6).trans (Arr.hidden (V1 m ρ) c _ _ _ _ _ _ (W1_args m ρ c main_arg0 (by decide)) (W1_args m ρ c main_arg1 (by decide))
    (W1_args m ρ c main_arg2 (by decide)) (groups0 m ρ c) (columns0 m ρ c) (W1_args m ρ c main_arg5 (by decide)))

/-- The norm reads it. -/
theorem hidden3 : V3 m ρ c main_v2
    = hid (m (c.tc.loc main_arg0)) (m (c.tc.loc main_arg1)) (m (c.tc.loc main_arg2)) (m (c.tc.loc main_arg3)) (m (c.tc.loc main_arg4)) (m (c.tc.loc main_arg5)) :=
  (W3_of m ρ c main_v2 (by decide)).trans (hidden2 m ρ c)

/-- So does the down projection. -/
theorem hidden8 : V8 m ρ c main_v2
    = hid (m (c.tc.loc main_arg0)) (m (c.tc.loc main_arg1)) (m (c.tc.loc main_arg2)) (m (c.tc.loc main_arg3)) (m (c.tc.loc main_arg4)) (m (c.tc.loc main_arg5)) :=
  (W8_of m ρ c main_v2 (by decide)).trans ((W7_of m ρ c main_v2 (by decide)).trans ((W6_of m ρ c main_v2 (by decide)).trans
    ((W5_of m ρ c main_v2 (by decide)).trans ((W4_of m ρ c main_v2 (by decide)).trans (hidden3 m ρ c)))))

/-- The first codes, as the gate and up projection reads them. -/
theorem codes5 : V5 m ρ c main_v4_0 = Tok.codes (nrm (m (c.tc.loc main_arg0)) (m (c.tc.loc main_arg1)) (m (c.tc.loc main_arg2)) (m (c.tc.loc main_arg3)) (m (c.tc.loc main_arg4)) (m (c.tc.loc main_arg5)) (m (c.tc.loc main_arg6))) :=
  (W5_of m ρ c main_v4_0 (by decide)).trans ((W4_arr m ρ c 2).trans (Arr.normCodes (V3 m ρ) c _ _ (hidden3 m ρ c) (gains m ρ c)))

/-- The first scales, as the gate and up projection reads them. -/
theorem scales5 : V5 m ρ c main_v4_1 = Tok.scales (nrm (m (c.tc.loc main_arg0)) (m (c.tc.loc main_arg1)) (m (c.tc.loc main_arg2)) (m (c.tc.loc main_arg3)) (m (c.tc.loc main_arg4)) (m (c.tc.loc main_arg5)) (m (c.tc.loc main_arg6))) :=
  (W5_of m ρ c main_v4_1 (by decide)).trans ((W4_arr m ρ c 3).trans (Arr.normScales (V3 m ρ) c _ _ (hidden3 m ρ c) (gains m ρ c)))

/-- The gated activation, as the quantiser reads it. -/
theorem gated6 : V6 m ρ c main_v7 = gated (m (c.tc.loc main_arg0)) (m (c.tc.loc main_arg1)) (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)) :=
  (W6_arr m ρ c 8).trans (Arr.act (V5 m ρ) c _ _ _ _ _ (codes5 m ρ c) (scales5 m ρ c) (W5_args m ρ c main_arg7 (by decide)) (groups2 m ρ c) (columns2 m ρ c))

/-- The second codes, as the down projection reads them. -/
theorem codes8 : V8 m ρ c main_v8_0 = Tok.codes (Tok.rows .f32 (gated (m (c.tc.loc main_arg0)) (m (c.tc.loc main_arg1)) (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)))) :=
  (W8_of m ρ c main_v8_0 (by decide)).trans ((W7_arr m ρ c 1).trans (Arr.quantCodes (V6 m ρ) c _ (gated6 m ρ c)))

/-- The second scales, as the down projection reads them. -/
theorem scales8 : V8 m ρ c main_v8_1 = Tok.scales (Tok.rows .f32 (gated (m (c.tc.loc main_arg0)) (m (c.tc.loc main_arg1)) (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)))) :=
  (W8_of m ρ c main_v8_1 (by decide)).trans ((W7_arr m ρ c 2).trans (Arr.quantScales (V6 m ρ) c _ (gated6 m ρ c)))

/-! ### The results at the end -/

/-- The layer's output. -/
theorem layerEnd : W9 m ρ c (Proc.devRef .tc main_v11) = layer (m (c.tc.loc main_arg0)) (m (c.tc.loc main_arg1)) (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)) (m (c.tc.loc main_arg10)) (m (c.tc.loc main_arg11)) (m (c.tc.loc main_arg12)) :=
  (W9_arr m ρ c 6).trans (Arr.layer (V8 m ρ) c _ _ _ _ _ _ (codes8 m ρ c) (scales8 m ρ c) (W8_args m ρ c main_arg10 (by decide))
    (groups4 m ρ c) (columns4 m ρ c) (hidden8 m ρ c))

/-- The first codes. -/
theorem codesEnd : W9 m ρ c (Proc.devRef .tc main_v4_0) = Tok.codes (nrm (m (c.tc.loc main_arg0)) (m (c.tc.loc main_arg1)) (m (c.tc.loc main_arg2)) (m (c.tc.loc main_arg3)) (m (c.tc.loc main_arg4)) (m (c.tc.loc main_arg5)) (m (c.tc.loc main_arg6))) :=
  (W9_of m ρ c main_v4_0 (by decide)).trans ((W8_of m ρ c main_v4_0 (by decide)).trans ((W7_of m ρ c main_v4_0 (by decide)).trans
    ((W6_of m ρ c main_v4_0 (by decide)).trans (codes5 m ρ c))))

/-- The first scales. -/
theorem scalesEnd : W9 m ρ c (Proc.devRef .tc main_v4_1) = Tok.scales (nrm (m (c.tc.loc main_arg0)) (m (c.tc.loc main_arg1)) (m (c.tc.loc main_arg2)) (m (c.tc.loc main_arg3)) (m (c.tc.loc main_arg4)) (m (c.tc.loc main_arg5)) (m (c.tc.loc main_arg6))) :=
  (W9_of m ρ c main_v4_1 (by decide)).trans ((W8_of m ρ c main_v4_1 (by decide)).trans ((W7_of m ρ c main_v4_1 (by decide)).trans
    ((W6_of m ρ c main_v4_1 (by decide)).trans (scales5 m ρ c))))

/-- The second codes. -/
theorem actCodesEnd : W9 m ρ c (Proc.devRef .tc main_v8_0) = Tok.codes (Tok.rows .f32 (gated (m (c.tc.loc main_arg0)) (m (c.tc.loc main_arg1)) (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)))) :=
  (W9_of m ρ c main_v8_0 (by decide)).trans (codes8 m ρ c)

/-- The second scales. -/
theorem actScalesEnd : W9 m ρ c (Proc.devRef .tc main_v8_1) = Tok.scales (Tok.rows .f32 (gated (m (c.tc.loc main_arg0)) (m (c.tc.loc main_arg1)) (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)))) :=
  (W9_of m ρ c main_v8_1 (by decide)).trans (scales8 m ρ c)

end Values

set_option maxHeartbeats 2000000 in
/-- From memories agreeing on the arguments both runs end with the same output of the layer and the same codes and scales of the
    normalised rows and of the gated activation. -/
theorem algebraic : @Cert.algebraic_BackIdeal_BackRefIdeal Cert.BackIdeal.Gen.facts Cert.BackRefIdeal.Gen.facts := by
  intro m g m' g' _ ha
  refine ⟨fun c => W9 m g c (Proc.devRef .tc main_v11), fun c => W9 m g c (Proc.devRef .tc main_v4_0), fun c => W9 m g c (Proc.devRef .tc main_v4_1),
    fun c => W9 m g c (Proc.devRef .tc main_v8_0), fun c => W9 m g c (Proc.devRef .tc main_v8_1), ?_, ?_⟩
  · refine (θ_run _ _ _).mono (fun r h c => ⟨h c _ (by decide), h c _ (by decide), h c _ (by decide), h c _ (by decide), h c _ (by decide),
      (h c _ (by decide)).trans (W9_args m g c main_arg0 (by decide)), (h c _ (by decide)).trans (W9_args m g c main_arg1 (by decide)),
      (h c _ (by decide)).trans (W9_args m g c main_arg2 (by decide)), (h c _ (by decide)).trans (W9_args m g c main_arg3 (by decide)),
      (h c _ (by decide)).trans (W9_args m g c main_arg4 (by decide)), (h c _ (by decide)).trans (W9_args m g c main_arg5 (by decide)),
      (h c _ (by decide)).trans (W9_args m g c main_arg6 (by decide)), (h c _ (by decide)).trans (W9_args m g c main_arg7 (by decide)),
      (h c _ (by decide)).trans (W9_args m g c main_arg8 (by decide)), (h c _ (by decide)).trans (W9_args m g c main_arg9 (by decide)),
      (h c _ (by decide)).trans (W9_args m g c main_arg10 (by decide)), (h c _ (by decide)).trans (W9_args m g c main_arg11 (by decide)),
      (h c _ (by decide)).trans (W9_args m g c main_arg12 (by decide))⟩) (Run.values m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.BackRefIdeal.Value.run_blocks m' g')
    all_goals obtain ⟨h0, h1, h2, h3, h4, h5, h6, h7, h8, h9, h10, h11, h12⟩ := ha c
    · refine (Cert.BackRefIdeal.Elem.arr13 m' c).trans (Eq.trans ?_ (layerEnd m g c).symm)
      exact layer_congr h0 h1 h2 h3 h4 h5 h6 h7 h8 h9 h10 h11 h12
    · refine (Cert.BackRefIdeal.Elem.arr14 m' c).trans (Eq.trans ?_ (codesEnd m g c).symm)
      exact congrArg Tok.codes (nrm_congr h0 h1 h2 h3 h4 h5 h6)
    · refine (Cert.BackRefIdeal.Elem.arr15 m' c).trans (Eq.trans ?_ (scalesEnd m g c).symm)
      exact congrArg Tok.scales (nrm_congr h0 h1 h2 h3 h4 h5 h6)
    · refine (Cert.BackRefIdeal.Elem.arr16 m' c).trans (Eq.trans ?_ (actCodesEnd m g c).symm)
      exact congrArg (fun y => Tok.codes (Tok.rows .f32 y)) (gated_congr h0 h1 h2 h3 h4 h5 h6 h7 h8 h9)
    · refine (Cert.BackRefIdeal.Elem.arr17 m' c).trans (Eq.trans ?_ (actScalesEnd m g c).symm)
      exact congrArg (fun y => Tok.scales (Tok.rows .f32 y)) (gated_congr h0 h1 h2 h3 h4 h5 h6 h7 h8 h9)

end Cert.BackIdeal
-- ==== Proof.lean ====
module

public import proofs.«01_k».proof.Defs
public import proofs.«01_k».proof.Proof.Gen.GateUpIdeal.Value
public import proofs.«01_k».proof.Proof.Gen.GateUpRefIdeal.Read
public import proofs.«01_k».proof.Proof.Gen.DownIdeal.Value
public import proofs.«01_k».proof.Proof.Gen.DownRefIdeal.Read
public import proofs.«01_k».proof.Proof.Gen.WoIdeal.Value
public import proofs.«01_k».proof.Proof.Gen.WoRefIdeal.Read
public import proofs.«01_k».proof.Proof.Gen.GateUp.Frame
public import proofs.«01_k».proof.Proof.Gen.Down.Frame
public import proofs.«01_k».proof.Proof.Gen.Wo.Frame
public import proofs.«01_k».proof.Proof.Gen.NormQIdeal.Value
public import proofs.«01_k».proof.Proof.Gen.NormQRefIdeal.Value
public import proofs.«01_k».proof.Proof.Gen.NormRIdeal.Value
public import proofs.«01_k».proof.Proof.Gen.NormRRefIdeal.Value
public import proofs.«01_k».proof.Proof.Gen.QuantIdeal.Value
public import proofs.«01_k».proof.Proof.Gen.QuantRefIdeal.Value
public import proofs.«01_k».proof.Proof.Gen.QkvIdeal.Value
public import proofs.«01_k».proof.Proof.Gen.QkvRefIdeal.Value
public import proofs.«01_k».proof.Proof.Gen.NormQ.Frame
public import proofs.«01_k».proof.Proof.Gen.NormR.Frame
public import proofs.«01_k».proof.Proof.Gen.Quant.Frame
public import proofs.«01_k».proof.Proof.Gen.Qkv.Frame
public import proofs.«01_k».proof.Proof.GateUpClaim
public import proofs.«01_k».proof.Proof.DownClaim
public import proofs.«01_k».proof.Proof.WoClaim
public import proofs.«01_k».proof.Proof.NormQClaim
public import proofs.«01_k».proof.Proof.NormRClaim
public import proofs.«01_k».proof.Proof.QuantClaim
public import proofs.«01_k».proof.Proof.QkvClaim
public import proofs.«01_k».proof.Proof.Gen.Front.Frame
public import proofs.«01_k».proof.Proof.Gen.FrontIdeal.Frame
public import proofs.«01_k».proof.Proof.Gen.FrontRefIdeal.Value
public import proofs.«01_k».proof.Proof.FrontClaim
public import proofs.«01_k».proof.Proof.Gen.Back.Frame
public import proofs.«01_k».proof.Proof.Gen.BackIdeal.Frame
public import proofs.«01_k».proof.Proof.Gen.BackRefIdeal.Value
public import proofs.«01_k».proof.Proof.BackClaim

@[expose] public section

noncomputable section

namespace Cert.Proof

open Idealize.ShloMosaic Idealize.SL.Sem

theorem claim : Cert.Claim := ⟨Cert.GateUp.Gen.facts, Cert.GateUpIdeal.Gen.facts, Cert.GateUpRefIdeal.Gen.facts,
  Cert.Down.Gen.facts, Cert.DownIdeal.Gen.facts, Cert.DownRefIdeal.Gen.facts,
  Cert.Wo.Gen.facts, Cert.WoIdeal.Gen.facts, Cert.WoRefIdeal.Gen.facts,
  Cert.NormQ.Gen.facts, Cert.NormQIdeal.Gen.facts, Cert.NormQRefIdeal.Gen.facts,
  Cert.NormR.Gen.facts, Cert.NormRIdeal.Gen.facts, Cert.NormRRefIdeal.Gen.facts,
  Cert.Quant.Gen.facts, Cert.QuantIdeal.Gen.facts, Cert.QuantRefIdeal.Gen.facts,
  Cert.Qkv.Gen.facts, Cert.QkvIdeal.Gen.facts, Cert.QkvRefIdeal.Gen.facts,
  Cert.Front.Gen.facts, Cert.FrontIdeal.Gen.facts, Cert.FrontRefIdeal.Gen.facts,
  Cert.Back.Gen.facts, Cert.BackIdeal.Gen.facts, Cert.BackRefIdeal.Gen.facts,
  fun m ρ _ => Cert.GateUp.Gen.frame m ρ, fun m ρ _ => Cert.GateUpIdeal.Gen.frame m ρ,
  fun m ρ _ => Cert.GateUpRefIdeal.Gen.frame m ρ,
  fun m ρ _ => Cert.Down.Gen.frame m ρ, fun m ρ _ => Cert.DownIdeal.Gen.frame m ρ,
  fun m ρ _ => Cert.DownRefIdeal.Gen.frame m ρ,
  fun m ρ _ => Cert.Wo.Gen.frame m ρ, fun m ρ _ => Cert.WoIdeal.Gen.frame m ρ,
  fun m ρ _ => Cert.WoRefIdeal.Gen.frame m ρ,
  fun m ρ _ => Cert.NormQ.Gen.frame m ρ, fun m ρ _ => Cert.NormQIdeal.Gen.frame m ρ,
  fun m ρ _ => Cert.NormQRefIdeal.Gen.frame m ρ,
  fun m ρ _ => Cert.NormR.Gen.frame m ρ, fun m ρ _ => Cert.NormRIdeal.Gen.frame m ρ,
  fun m ρ _ => Cert.NormRRefIdeal.Gen.frame m ρ,
  fun m ρ _ => Cert.Quant.Gen.frame m ρ, fun m ρ _ => Cert.QuantIdeal.Gen.frame m ρ,
  fun m ρ _ => Cert.QuantRefIdeal.Gen.frame m ρ,
  fun m ρ _ => Cert.Qkv.Gen.frame m ρ, fun m ρ _ => Cert.QkvIdeal.Gen.frame m ρ,
  fun m ρ _ => Cert.QkvRefIdeal.Gen.frame m ρ,
  fun m ρ _ => Cert.Front.Gen.frame m ρ, fun m ρ _ => Cert.FrontIdeal.Gen.frame m ρ,
  fun m ρ _ => Cert.FrontRefIdeal.Gen.frame m ρ,
  fun m ρ _ => Cert.Back.Gen.frame m ρ, fun m ρ _ => Cert.BackIdeal.Gen.frame m ρ,
  fun m ρ _ => Cert.BackRefIdeal.Gen.frame m ρ,
  trivial, Cert.GateUpIdeal.algebraic, trivial, Cert.DownIdeal.algebraic, trivial, Cert.WoIdeal.algebraic,
  trivial, Cert.NormQIdeal.algebraic, trivial, Cert.NormRIdeal.algebraic, trivial, Cert.QuantIdeal.algebraic,
  trivial, Cert.QkvIdeal.algebraic, trivial, Cert.FrontIdeal.algebraic,
  trivial, Cert.BackIdeal.algebraic⟩

end Cert.Proof

end

end
